-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_domain [hPre_attn_domain : Cert.Pre_attn_domain.Facts] (m : (ℓ : Loc Cert.AttnIdeal.nD Cert.AttnIdeal.τ Cert.AttnIdeal.sig) → Buf (Elt Ideal) ℓ) : Prop :=
  ∀ c : Dev Cert.AttnIdeal.nD,
    (Cert.Pre_attn_domain.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).1 = (fun _ => 1#1)
    ∧ (Cert.Pre_attn_domain.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.1 = (fun _ => 1#1)
    ∧ (Cert.Pre_attn_domain.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.1 = (fun _ => 1#1)
    ∧ (Cert.Pre_attn_domain.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.1 = (fun _ => 1#1)
    ∧ (Cert.Pre_attn_domain.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.2.1 = (fun _ => 1#1)
    ∧ (Cert.Pre_attn_domain.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.2.2.1 = (fun _ => 1#1)
    ∧ (Cert.Pre_attn_domain.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))).2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_domain [hPre_attn_domain : Cert.Pre_attn_domain.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_domain.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).1 = (fun _ => 1#1)
    ∧ (Cert.Pre_attn_domain.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.1 = (fun _ => 1#1)
    ∧ (Cert.Pre_attn_domain.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.1 = (fun _ => 1#1)
    ∧ (Cert.Pre_attn_domain.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.1 = (fun _ => 1#1)
    ∧ (Cert.Pre_attn_domain.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.2.1 = (fun _ => 1#1)
    ∧ (Cert.Pre_attn_domain.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.2.2.1 = (fun _ => 1#1)
    ∧ (Cert.Pre_attn_domain.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7)) (m ((c.tc : Thread Cert.AttnRefIdeal.nD Cert.AttnRefIdeal.τ).loc Cert.AttnRefIdeal.main_arg8))).2.2.2.2.2.2 = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnIdeal_pre_attn_domain [hAttnIdeal : Cert.AttnIdeal.Facts] [hPre_attn_domain : Cert.Pre_attn_domain.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_domain m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_AttnRefIdeal_pre_attn_domain [hAttnRefIdeal : Cert.AttnRefIdeal.Facts] [hPre_attn_domain : Cert.Pre_attn_domain.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_domain m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7)
      ∧ r.2.mem ((c.tc : Thread Cert.AttnRefIdeal.nD Cert.AttnRefIdeal.τ).loc Cert.AttnRefIdeal.main_arg8) = m ((c.tc : Thread Cert.AttnRefIdeal.nD Cert.AttnRefIdeal.τ).loc Cert.AttnRefIdeal.main_arg8))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def preserves_Mlp_MlpIdeal : Prop :=
  True

def algebraic_MlpIdeal_MlpRefIdeal_on_written_mlp [hMlpIdeal : Cert.MlpIdeal.Facts] [hMlpRefIdeal : Cert.MlpRefIdeal.Facts] [hOn_written_mlp : Cert.On_written_mlp.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v4)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          (∀ i : (⟨3, ![64, 256, 768]⟩ : Shape).Idx, (Cert.On_written_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))) i = 1#1 → r.2.mem ((c.tc : Thread Cert.MlpIdeal.nD Cert.MlpIdeal.τ).loc Cert.MlpIdeal.main_v4) i = v0 c i)
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          (∀ i : (⟨3, ![64, 256, 768]⟩ : Shape).Idx, (Cert.On_written_mlp.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7))) i = 1#1 → r.2.mem ((c.tc : Thread Cert.MlpRefIdeal.nD Cert.MlpRefIdeal.τ).loc Cert.MlpRefIdeal.main_v39) i = v0 c i)
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_Attn_AttnIdeal : Prop :=
  True

def algebraic_AttnIdeal_AttnRefIdeal_on_written_attn_pre_attn_domain [hAttnIdeal : Cert.AttnIdeal.Facts] [hAttnRefIdeal : Cert.AttnRefIdeal.Facts] [hPre_attn_domain : Cert.Pre_attn_domain.Facts] [hOn_written_attn : Cert.On_written_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_domain m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)
      ∧ m' ((c.tc : Thread Cert.AttnRefIdeal.nD Cert.AttnRefIdeal.τ).loc Cert.AttnRefIdeal.main_arg8) = m ((c.tc : Thread Cert.AttnIdeal.nD Cert.AttnIdeal.τ).loc Cert.AttnIdeal.main_arg8)) →
    ∃ (v0 : (c : Dev Cert.AttnIdeal.nD) → Buf (Elt Ideal) ((c.tc : Thread Cert.AttnIdeal.nD Cert.AttnIdeal.τ).loc Cert.AttnIdeal.main_v4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          (∀ i : (⟨3, ![64, 256, 768]⟩ : Shape).Idx, (Cert.On_written_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))) i = 1#1 → r.2.mem ((c.tc : Thread Cert.AttnIdeal.nD Cert.AttnIdeal.τ).loc Cert.AttnIdeal.main_v4) i = v0 c i)
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          (∀ i : (⟨3, ![64, 256, 768]⟩ : Shape).Idx, (Cert.On_written_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8))) i = 1#1 → r.2.mem ((c.tc : Thread Cert.AttnRefIdeal.nD Cert.AttnRefIdeal.τ).loc Cert.AttnRefIdeal.main_v60) i = v0 c i)
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7)
          ∧ r.2.mem ((c.tc : Thread Cert.AttnRefIdeal.nD Cert.AttnRefIdeal.τ).loc Cert.AttnRefIdeal.main_arg8) = m' ((c.tc : Thread Cert.AttnRefIdeal.nD Cert.AttnRefIdeal.τ).loc Cert.AttnRefIdeal.main_arg8))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v5)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v5) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v29) = v0 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4))

def Claim : Prop :=
  ∃ (hMlp : Cert.Mlp.Facts) (hMlpIdeal : Cert.MlpIdeal.Facts) (hMlpRefIdeal : Cert.MlpRefIdeal.Facts) (hAttn : Cert.Attn.Facts) (hAttnIdeal : Cert.AttnIdeal.Facts) (hAttnRefIdeal : Cert.AttnRefIdeal.Facts) (hHead : Cert.Head.Facts) (hHeadIdeal : Cert.HeadIdeal.Facts) (hHeadRefIdeal : Cert.HeadRefIdeal.Facts) (hPre_attn_domain : Cert.Pre_attn_domain.Facts) (hOn_written_mlp : Cert.On_written_mlp.Facts) (hOn_written_attn : Cert.On_written_attn.Facts),
    quiescent_Mlp (hMlp := hMlp)
    ∧ quiescent_MlpIdeal (hMlpIdeal := hMlpIdeal)
    ∧ quiescent_MlpRefIdeal (hMlpRefIdeal := hMlpRefIdeal)
    ∧ quiescent_Attn (hAttn := hAttn)
    ∧ quiescent_AttnIdeal (hAttnIdeal := hAttnIdeal)
    ∧ quiescent_AttnIdeal_pre_attn_domain (hAttnIdeal := hAttnIdeal) (hPre_attn_domain := hPre_attn_domain)
    ∧ quiescent_AttnRefIdeal (hAttnRefIdeal := hAttnRefIdeal)
    ∧ quiescent_AttnRefIdeal_pre_attn_domain (hAttnRefIdeal := hAttnRefIdeal) (hPre_attn_domain := hPre_attn_domain)
    ∧ quiescent_Head (hHead := hHead)
    ∧ quiescent_HeadIdeal (hHeadIdeal := hHeadIdeal)
    ∧ quiescent_HeadRefIdeal (hHeadRefIdeal := hHeadRefIdeal)
    ∧ preserves_Mlp_MlpIdeal
    ∧ algebraic_MlpIdeal_MlpRefIdeal_on_written_mlp (hMlpIdeal := hMlpIdeal) (hMlpRefIdeal := hMlpRefIdeal) (hOn_written_mlp := hOn_written_mlp)
    ∧ preserves_Attn_AttnIdeal
    ∧ algebraic_AttnIdeal_AttnRefIdeal_on_written_attn_pre_attn_domain (hAttnIdeal := hAttnIdeal) (hAttnRefIdeal := hAttnRefIdeal) (hPre_attn_domain := hPre_attn_domain) (hOn_written_attn := hOn_written_attn)
    ∧ preserves_Head_HeadIdeal
    ∧ algebraic_HeadIdeal_HeadRefIdeal (hHeadIdeal := hHeadIdeal) (hHeadRefIdeal := hHeadRefIdeal)
-- ==== On_written_attn.lean ====
abbrev S64 : Shape := ⟨1, ![64]⟩
abbrev S64x256x768 : Shape := ⟨3, ![64, 256, 768]⟩
abbrev S64x1x256 : Shape := ⟨3, ![64, 1, 256]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S_ : Shape := ⟨0, ![]⟩
abbrev S64x1x1 : Shape := ⟨3, ![64, 1, 1]⟩

class Facts : Prop where
  bcast_S_S64x256x768 : S_.BroadcastsInDim S64x256x768 (![] : Fin 0 → Fin S64x256x768.rank)
  bcast_S64_S64x1x1_0 : S64.BroadcastsInDim S64x1x1 (![0] : Fin 1 → Fin S64x1x1.rank)
  bcast_S_S64x1x1 : S_.BroadcastsInDim S64x1x1 (![] : Fin 0 → Fin S64x1x1.rank)
  bcast_S64x1x1_S64x256x768_0_1_2 : S64x1x1.BroadcastsInDim S64x256x768 (![0, 1, 2] : Fin 3 → Fin S64x256x768.rank)

variable [Facts]

def fn {F : FTy → Type} [FloatOps F] (main_arg0 : IVec S64 32) (main_arg1 : FVec F S64x256x768 .f32) (main_arg2 : FVec F S64x1x256 .f32) (main_arg3 : FVec F S768 .f32) (main_arg4 : FVec F S768 .f32) (main_arg5 : FVec F S768x2304 .f32) (main_arg6 : FVec F S2304 .f32) (main_arg7 : FVec F S768x768 .f32) (main_arg8 : FVec F S768 .f32) : IVec S64x256x768 1 :=
  let main_v0 : IVec S64x256x768 32 := iotaInDim S64x256x768 32 1
  let main_c : IVec S_ 32 := constantI S_ 32 128#32
  let main_v1 : IVec S64x256x768 32 := broadcastInDim S64x256x768 ![] bcast_S_S64x256x768 main_c
  let main_v2 : IVec S64x256x768 1 := cmpi .slt main_v0 main_v1
  let main_v3 : IVec S64x1x1 32 := broadcastInDim S64x1x1 ![0] bcast_S64_S64x1x1_0 main_arg0
  let main_c_0 : IVec S_ 32 := constantI S_ 32 1#32
  let main_v4 : IVec S64x1x1 32 := broadcastInDim S64x1x1 ![] bcast_S_S64x1x1 main_c_0
  let main_v5 : IVec S64x1x1 1 := cmpi .sgt main_v3 main_v4
  let main_v6 : IVec S64x256x768 1 := broadcastInDim S64x256x768 ![0, 1, 2] bcast_S64x1x1_S64x256x768_0_1_2 main_v5
  let main_v7 : IVec S64x256x768 1 := ori main_v2 main_v6
  main_v7
-- ==== On_written_mlp.lean ====
abbrev S64 : Shape := ⟨1, ![64]⟩
abbrev S64x256x768 : Shape := ⟨3, ![64, 256, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S_ : Shape := ⟨0, ![]⟩
abbrev S64x1x1 : Shape := ⟨3, ![64, 1, 1]⟩

class Facts : Prop where
  bcast_S_S64x256x768 : S_.BroadcastsInDim S64x256x768 (![] : Fin 0 → Fin S64x256x768.rank)
  bcast_S64_S64x1x1_0 : S64.BroadcastsInDim S64x1x1 (![0] : Fin 1 → Fin S64x1x1.rank)
  bcast_S_S64x1x1 : S_.BroadcastsInDim S64x1x1 (![] : Fin 0 → Fin S64x1x1.rank)
  bcast_S64x1x1_S64x256x768_0_1_2 : S64x1x1.BroadcastsInDim S64x256x768 (![0, 1, 2] : Fin 3 → Fin S64x256x768.rank)

variable [Facts]

def fn {F : FTy → Type} [FloatOps F] (main_arg0 : IVec S64 32) (main_arg1 : FVec F S64x256x768 .f32) (main_arg2 : FVec F S768 .f32) (main_arg3 : FVec F S768 .f32) (main_arg4 : FVec F S768x3072 .f32) (main_arg5 : FVec F S3072 .f32) (main_arg6 : FVec F S3072x768 .f32) (main_arg7 : FVec F S768 .f32) : IVec S64x256x768 1 :=
  let main_v0 : IVec S64x256x768 32 := iotaInDim S64x256x768 32 1
  let main_c : IVec S_ 32 := constantI S_ 32 128#32
  let main_v1 : IVec S64x256x768 32 := broadcastInDim S64x256x768 ![] bcast_S_S64x256x768 main_c
  let main_v2 : IVec S64x256x768 1 := cmpi .slt main_v0 main_v1
  let main_v3 : IVec S64x1x1 32 := broadcastInDim S64x1x1 ![0] bcast_S64_S64x1x1_0 main_arg0
  let main_c_0 : IVec S_ 32 := constantI S_ 32 1#32
  let main_v4 : IVec S64x1x1 32 := broadcastInDim S64x1x1 ![] bcast_S_S64x1x1 main_c_0
  let main_v5 : IVec S64x1x1 1 := cmpi .sgt main_v3 main_v4
  let main_v6 : IVec S64x256x768 1 := broadcastInDim S64x256x768 ![0, 1, 2] bcast_S64x1x1_S64x256x768_0_1_2 main_v5
  let main_v7 : IVec S64x256x768 1 := ori main_v2 main_v6
  main_v7
-- ==== Pre_attn_domain.lean ====
abbrev S64 : Shape := ⟨1, ![64]⟩
abbrev S64x256x768 : Shape := ⟨3, ![64, 256, 768]⟩
abbrev S64x1x256 : Shape := ⟨3, ![64, 1, 256]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S_ : Shape := ⟨0, ![]⟩
abbrev S64x1x1 : Shape := ⟨3, ![64, 1, 1]⟩

class Facts : Prop where
  bcast_S_S64x1x256 : S_.BroadcastsInDim S64x1x256 (![] : Fin 0 → Fin S64x1x256.rank)
  bcast_S64_S64x1x1_0 : S64.BroadcastsInDim S64x1x1 (![0] : Fin 1 → Fin S64x1x1.rank)
  bcast_S_S64x1x1 : S_.BroadcastsInDim S64x1x1 (![] : Fin 0 → Fin S64x1x1.rank)
  bcast_S64x1x1_S64x1x256_0_1_2 : S64x1x1.BroadcastsInDim S64x1x256 (![0, 1, 2] : Fin 3 → Fin S64x1x256.rank)
  bcast_S_S64x256x768 : S_.BroadcastsInDim S64x256x768 (![] : Fin 0 → Fin S64x256x768.rank)
  bcast_S_S768 : S_.BroadcastsInDim S768 (![] : Fin 0 → Fin S768.rank)
  bcast_S_S768x2304 : S_.BroadcastsInDim S768x2304 (![] : Fin 0 → Fin S768x2304.rank)
  bcast_S_S2304 : S_.BroadcastsInDim S2304 (![] : Fin 0 → Fin S2304.rank)

variable [Facts]

def fn_part1 {F : FTy → Type} [FloatOps F] (main_arg1 : FVec F S64x256x768 .f32) (main_arg3 : FVec F S768 .f32) (main_arg4 : FVec F S768 .f32) (main_arg5 : FVec F S768x2304 .f32) (main_arg6 : FVec F S2304 .f32) (main_v10 : IVec S64x1x256 1) (main_v12 : IVec S64x1x256 1) (main_v17 : IVec S64x1x256 1) : IVec S64x1x256 1 × IVec S64x1x256 1 × IVec S64x256x768 1 × IVec S768 1 × IVec S768 1 × IVec S768x2304 1 × IVec S2304 1 :=
  let main_v18 : IVec S64x1x256 1 := andi main_v12 main_v17
  let main_v19 : FVec F S64x256x768 .f32 := Host.absf main_arg1
  let main_cst_4 : FVec F S_ .f32 := constant S_ .f32 0x7F800000#32
  let main_v20 : FVec F S64x256x768 .f32 := broadcastInDim S64x256x768 ![] bcast_S_S64x256x768 main_cst_4
  let main_v21 : IVec S64x256x768 1 := cmpf .olt main_v19 main_v20
  let main_v22 : FVec F S768 .f32 := Host.absf main_arg3
  let main_cst_5 : FVec F S_ .f32 := constant S_ .f32 0x7F800000#32
  let main_v23 : FVec F S768 .f32 := broadcastInDim S768 ![] bcast_S_S768 main_cst_5
  let main_v24 : IVec S768 1 := cmpf .olt main_v22 main_v23
  let main_v25 : FVec F S768 .f32 := Host.absf main_arg4
  let main_cst_6 : FVec F S_ .f32 := constant S_ .f32 0x7F800000#32
  let main_v26 : FVec F S768 .f32 := broadcastInDim S768 ![] bcast_S_S768 main_cst_6
  let main_v27 : IVec S768 1 := cmpf .olt main_v25 main_v26
  let main_v28 : FVec F S768x2304 .f32 := Host.absf main_arg5
  let main_cst_7 : FVec F S_ .f32 := constant S_ .f32 0x7F800000#32
  let main_v29 : FVec F S768x2304 .f32 := broadcastInDim S768x2304 ![] bcast_S_S768x2304 main_cst_7
  let main_v30 : IVec S768x2304 1 := cmpf .olt main_v28 main_v29
  let main_v31 : FVec F S2304 .f32 := Host.absf main_arg6
  let main_cst_8 : FVec F S_ .f32 := constant S_ .f32 0x7F800000#32
  let main_v32 : FVec F S2304 .f32 := broadcastInDim S2304 ![] bcast_S_S2304 main_cst_8
  let main_v33 : IVec S2304 1 := cmpf .olt main_v31 main_v32
  (main_v10, main_v18, main_v21, main_v24, main_v27, main_v30, main_v33)

def fn {F : FTy → Type} [FloatOps F] (main_arg0 : IVec S64 32) (main_arg1 : FVec F S64x256x768 .f32) (main_arg2 : FVec F S64x1x256 .f32) (main_arg3 : FVec F S768 .f32) (main_arg4 : FVec F S768 .f32) (main_arg5 : FVec F S768x2304 .f32) (main_arg6 : FVec F S2304 .f32) (main_arg7 : FVec F S768x768 .f32) (main_arg8 : FVec F S768 .f32) : IVec S64x1x256 1 × IVec S64x1x256 1 × IVec S64x256x768 1 × IVec S768 1 × IVec S768 1 × IVec S768x2304 1 × IVec S2304 1 :=
  let main_v0 : IVec S64x1x256 32 := iotaInDim S64x1x256 32 2
  let main_c : IVec S_ 32 := constantI S_ 32 128#32
  let main_v1 : IVec S64x1x256 32 := broadcastInDim S64x1x256 ![] bcast_S_S64x1x256 main_c
  let main_v2 : IVec S64x1x256 1 := cmpi .slt main_v0 main_v1
  let main_v3 : IVec S64x1x1 32 := broadcastInDim S64x1x1 ![0] bcast_S64_S64x1x1_0 main_arg0
  let main_c_0 : IVec S_ 32 := constantI S_ 32 1#32
  let main_v4 : IVec S64x1x1 32 := broadcastInDim S64x1x1 ![] bcast_S_S64x1x1 main_c_0
  let main_v5 : IVec S64x1x1 1 := cmpi .sgt main_v3 main_v4
  let main_v6 : IVec S64x1x256 1 := broadcastInDim S64x1x256 ![0, 1, 2] bcast_S64x1x1_S64x1x256_0_1_2 main_v5
  let main_v7 : IVec S64x1x256 1 := ori main_v2 main_v6
  let main_cst : FVec F S_ .f32 := constant S_ .f32 0xFF800000#32
  let main_v8 : FVec F S64x1x256 .f32 := broadcastInDim S64x1x256 ![] bcast_S_S64x1x256 main_cst
  let main_v9 : IVec S64x1x256 1 := cmpf .oeq main_arg2 main_v8
  let main_v10 : IVec S64x1x256 1 := ori main_v7 main_v9
  let main_cst_1 : FVec F S_ .f32 := constant S_ .f32 0x7F800000#32
  let main_v11 : FVec F S64x1x256 .f32 := broadcastInDim S64x1x256 ![] bcast_S_S64x1x256 main_cst_1
  let main_v12 : IVec S64x1x256 1 := cmpf .olt main_arg2 main_v11
  let main_c_2 : IVec S_ 32 := constantI S_ 32 0#32
  let main_v13 : IVec S64x1x256 32 := broadcastInDim S64x1x256 ![] bcast_S_S64x1x256 main_c_2
  let main_v14 : IVec S64x1x256 1 := cmpi .sgt main_v0 main_v13
  let main_cst_3 : FVec F S_ .f32 := constant S_ .f32 0xFF800000#32
  let main_v15 : FVec F S64x1x256 .f32 := broadcastInDim S64x1x256 ![] bcast_S_S64x1x256 main_cst_3
  let main_v16 : IVec S64x1x256 1 := cmpf .ogt main_arg2 main_v15
  let main_v17 : IVec S64x1x256 1 := ori main_v14 main_v16
  fn_part1 (F := F) main_arg1 main_arg3 main_arg4 main_arg5 main_arg6 main_v10 main_v12 main_v17
-- ==== Mlp.lean ====
abbrev S64 : Shape := ⟨1, ![64]⟩
abbrev S64x256x768 : Shape := ⟨3, ![64, 256, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S1x768 : Shape := ⟨2, ![1, 768]⟩
abbrev S1x3072 : Shape := ⟨2, ![1, 3072]⟩
abbrev S2x256x768 : Shape := ⟨3, ![2, 256, 768]⟩
abbrev S1 : Shape := ⟨1, ![1]⟩
abbrev S1x128x768 : Shape := ⟨3, ![1, 128, 768]⟩
abbrev S128x768 : Shape := ⟨2, ![128, 768]⟩
abbrev S128 : Shape := ⟨1, ![128]⟩
abbrev S128x1 : Shape := ⟨2, ![128, 1]⟩
abbrev S128x3072 : Shape := ⟨2, ![128, 3072]⟩

abbrev nBuf : Space → Nat
  | .hbm => 12
  | .vmem => 10
  | .smem => 1
  | _ => 0

abbrev bufTy : (tb : Table) → Fin (tcTables nBuf tb) → BufTy
  | .hbm, ⟨0, _⟩ => ⟨S64x256x768, .f32⟩
  | .hbm, ⟨1, _⟩ => ⟨S768, .f32⟩
  | .hbm, ⟨2, _⟩ => ⟨S768, .f32⟩
  | .hbm, ⟨3, _⟩ => ⟨S768x3072, .f32⟩
  | .hbm, ⟨4, _⟩ => ⟨S3072, .f32⟩
  | .hbm, ⟨5, _⟩ => ⟨S3072x768, .f32⟩
  | .hbm, ⟨6, _⟩ => ⟨S768, .f32⟩
  | .hbm, ⟨7, _⟩ => ⟨S1x768, .f32⟩
  | .hbm, ⟨8, _⟩ => ⟨S1x768, .f32⟩
  | .hbm, ⟨9, _⟩ => ⟨S1x3072, .f32⟩
  | .hbm, ⟨10, _⟩ => ⟨S1x768, .f32⟩
  | .hbm, ⟨11, _⟩ => ⟨S64x256x768, .f32⟩
  | .local _ .vmem, ⟨0, _⟩ => ⟨S2x256x768, .f32⟩
  | .local _ .vmem, ⟨1, _⟩ => ⟨S2x256x768, .f32⟩
  | .local _ .vmem, ⟨2, _⟩ => ⟨S1x768, .f32⟩
  | .local _ .vmem, ⟨3, _⟩ => ⟨S1x768, .f32⟩
  | .local _ .vmem, ⟨4, _⟩ => ⟨S768x3072, .f32⟩
  | .local _ .vmem, ⟨5, _⟩ => ⟨S1x3072, .f32⟩
  | .local _ .vmem, ⟨6, _⟩ => ⟨S3072x768, .f32⟩
  | .local _ .vmem, ⟨7, _⟩ => ⟨S1x768, .f32⟩
  | .local _ .vmem, ⟨8, _⟩ => ⟨S2x256x768, .f32⟩
  | .local _ .vmem, ⟨9, _⟩ => ⟨S2x256x768, .f32⟩
  | .local _ .smem, ⟨0, _⟩ => ⟨S64, .i32⟩
  | _, _ => ⟨S64x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  ![v2.toNat]
def k0_off2 (i : grid0.Coords) : Fin 1 → Nat :=
  let arg0 : BitVec 32 := BitVec.ofNat 32 (i 0).val
  let c2_i32_27 : BitVec 32 := 2#32
  let v59 : BitVec 32 := Scalar.muli arg0 c2_i32_27
  let c1_i32_28 : BitVec 32 := 1#32
  let v60 : BitVec 32 := Scalar.addi v59 c1_i32_28
  let v61 : Index := Scalar.indexCast v60
  ![v61.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MlpRefIdeal.lean ====
abbrev S64 : Shape := ⟨1, ![64]⟩
abbrev S64x256x768 : Shape := ⟨3, ![64, 256, 768]⟩
abbrev S768 : Shape := ⟨1, ![768]⟩
abbrev S768x3072 : Shape := ⟨2, ![768, 3072]⟩
abbrev S3072 : Shape := ⟨1, ![3072]⟩
abbrev S3072x768 : Shape := ⟨2, ![3072, 768]⟩
abbrev S_ : Shape := ⟨0, ![]⟩
abbrev S64x256 : Shape := ⟨2, ![64, 256]⟩
abbrev S64x256x1 : Shape := ⟨3, ![64, 256, 1]⟩
abbrev S1x1x768 : Shape := ⟨3, ![1, 1, 768]⟩
abbrev S64x256x3072 : Shape := ⟨3, ![64, 256, 3072]⟩
abbrev S1x1x3072 : Shape := ⟨3, ![1, 1, 3072]⟩

abbrev nBuf : Space → Nat
  | .hbm => 55
  | .vmem => 0
  | .smem => 0
  | _ => 0

abbrev bufTy : (tb : Table) → Fin (tcTables nBuf tb) → BufTy
  | .hbm, ⟨0, _⟩ => ⟨S64, .i32⟩
  | .hbm, ⟨1, _⟩ => ⟨S64x256x768, .f32⟩
  | .hbm, ⟨2, _⟩ => ⟨S768, .f32⟩
  | .hbm, ⟨3, _⟩ => ⟨S768, .f32⟩
  | .hbm, ⟨4, _⟩ => ⟨S768x3072, .f32⟩
  | .hbm, ⟨5, _⟩ => ⟨S3072, .f32⟩
  | .hbm, ⟨6, _⟩ => ⟨S3072x768, .f32⟩
  | .hbm, ⟨7, _⟩ => ⟨S768, .f32⟩
  | .hbm, ⟨8, _⟩ => ⟨S_, .f32⟩
  | .hbm, ⟨9, _⟩ => ⟨S64x256, .f32⟩
  | .hbm, ⟨10, _⟩ => ⟨S64x256x1, .f32⟩
  | .hbm, ⟨11, _⟩ => ⟨S_, .f32⟩
  | .hbm, ⟨12, _⟩ => ⟨S64x256x1, .f32⟩
  | .hbm, ⟨13, _⟩ => ⟨S64x256x1, .f32⟩
  | .hbm, ⟨14, _⟩ => ⟨S64x256x768, .f32⟩
  | .hbm, ⟨15, _⟩ => ⟨S64x256x768, .f32⟩
  | .hbm, ⟨16, _⟩ => ⟨S64x256x768, .f32⟩
  | .hbm, ⟨17, _⟩ => ⟨S_, .f32⟩
  | .hbm, ⟨18, _⟩ => ⟨S64x256, .f32⟩
  | .hbm, ⟨19, _⟩ => ⟨S64x256x1, .f32⟩
  | .hbm, ⟨20, _⟩ => ⟨S_, .f32⟩
  | .hbm, ⟨21, _⟩ => ⟨S64x256x1, .f32⟩
  | .hbm, ⟨22, _⟩ => ⟨S64x256x1, .f32⟩
  | .hbm, ⟨23, _⟩ => ⟨S64x256x768, .f32⟩
  | .hbm, ⟨24, _⟩ => ⟨S64x256x768, .f32⟩
  | .hbm, ⟨25, _⟩ => ⟨S_, .f32⟩
  | .hbm, ⟨26, _⟩ => ⟨S64x256x1, .f32⟩
  | .hbm, ⟨27, _⟩ => ⟨S64x256x1, .f32⟩
  | .hbm, ⟨28, _⟩ => ⟨S64x256x1, .f32⟩
  | .hbm, ⟨29, _⟩ => ⟨S64x256x768, .f32⟩
  | .hbm, ⟨30, _⟩ => ⟨S64x256x768, .f32⟩
  | .hbm, ⟨31, _⟩ => ⟨S1x1x768, .f32⟩
  | .hbm, ⟨32, _⟩ => ⟨S64x256x768, .f32⟩
  | .hbm, ⟨33, _⟩ => ⟨S64x256x768, .f32⟩
  | .hbm, ⟨34, _⟩ => ⟨S1x1x768, .f32⟩
  | .hbm, ⟨35, _⟩ => ⟨S64x256x768, .f32⟩
  | .hbm, ⟨36, _⟩ => ⟨S64x256x768, .f32⟩
  | .hbm, ⟨37, _⟩ => ⟨S64x256x3072, .f32⟩
  | .hbm, ⟨38, _⟩ => ⟨S1x1x3072, .f32⟩
  | .hbm, ⟨39, _⟩ => ⟨S64x256x3072, .f32⟩
  | .hbm, ⟨40, _⟩ => ⟨S64x256x3072, .f32⟩
  | .hbm, ⟨41, _⟩ => ⟨S_, .f32⟩
  | .hbm, ⟨42, _⟩ => ⟨S64x256x3072, .f32⟩
  | .hbm, ⟨43, _⟩ => ⟨S64x256x3072, .f32⟩
  | .hbm, ⟨44, _⟩ => ⟨S64x256x3072, .f32⟩
  | .hbm, ⟨45, _⟩ => ⟨S_, .f32⟩
  | .hbm, ⟨46, _⟩ => ⟨S64x256x3072, .f32⟩
  | .hbm, ⟨47, _⟩ => ⟨S64x256x3072, .f32⟩
  | .hbm, ⟨48, _⟩ => ⟨S64x256x3072, .f32⟩
  | .hbm, ⟨49, _⟩ => ⟨S64x256x3072, .f32⟩
  | .hbm, ⟨50, _⟩ => ⟨S64x256x768, .f32⟩
  | .hbm, ⟨51, _⟩ => ⟨S64x256x768, .f32⟩
  | .hbm, ⟨52, _⟩ => ⟨S1x1x768, .f32⟩
  | .hbm, ⟨53, _⟩ => ⟨S64x256x768, .f32⟩
  | .hbm, ⟨54, _⟩ => ⟨S64x256x768, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Attn.lean ====
abbrev S64 : Shape := ⟨1, ![64]⟩
abbrev S64x256x768 : Shape := ⟨3, ![64, 256, 768]⟩
abbrev S64x1x256 : Shape := ⟨3, ![64, 1, 256]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S1x768 : Shape := ⟨2, ![1, 768]⟩
abbrev S1x2304 : Shape := ⟨2, ![1, 2304]⟩
abbrev S2x256x768 : Shape := ⟨3, ![2, 256, 768]⟩
abbrev S2x1x256 : Shape := ⟨3, ![2, 1, 256]⟩
abbrev S2x256x2304 : Shape := ⟨3, ![2, 256, 2304]⟩
abbrev S1 : Shape := ⟨1, ![1]⟩
abbrev S1x128x768 : Shape := ⟨3, ![1, 128, 768]⟩
abbrev S128x768 : Shape := ⟨2, ![128, 768]⟩
abbrev S128 : Shape := ⟨1, ![128]⟩
abbrev S128x1 : Shape := ⟨2, ![128, 1]⟩
abbrev S128x2304 : Shape := ⟨2, ![128, 2304]⟩
abbrev S1x128x2304 : Shape := ⟨3, ![1, 128, 2304]⟩
abbrev S1x1x256 : Shape := ⟨3, ![1, 1, 256]⟩
abbrev S256 : Shape := ⟨1, ![256]⟩
abbrev S1x256 : Shape := ⟨2, ![1, 256]⟩
abbrev S1x128x64 : Shape := ⟨3, ![1, 128, 64]⟩
abbrev S128x64 : Shape := ⟨2, ![128, 64]⟩
abbrev S1x256x64 : Shape := ⟨3, ![1, 256, 64]⟩
abbrev S256x64 : Shape := ⟨2, ![256, 64]⟩
abbrev S128x256 : Shape := ⟨2, ![128, 256]⟩

abbrev nBuf : Space → Nat
  | .hbm => 13
  | .vmem => 14
  | .smem => 1
  | _ => 0

abbrev bufTy : (tb : Table) → Fin (tcTables nBuf tb) → BufTy
  | .hbm, ⟨0, _⟩ => ⟨S64x256x768, .f32⟩
  | .hbm, ⟨1, _⟩ => ⟨S64x1x256, .f32⟩
  | .hbm, ⟨2, _⟩ => ⟨S768, .f32⟩
  | .hbm, ⟨3, _⟩ => ⟨S768, .f32⟩
  | .hbm, ⟨4, _⟩ => ⟨S768x2304, .f32⟩
  | .hbm, ⟨5, _⟩ => ⟨S2304, .f32⟩
  | .hbm, ⟨6, _⟩ => ⟨S768x768, .f32⟩
  | .hbm, ⟨7, _⟩ => ⟨S768, .f32⟩
  | .hbm, ⟨8, _⟩ => ⟨S1x768, .f32⟩
  | .hbm, ⟨9, _⟩ => ⟨S1x768, .f32⟩
  | .hbm, ⟨10, _⟩ => ⟨S1x2304, .f32⟩
  | .hbm, ⟨11, _⟩ => ⟨S1x768, .f32⟩
  | .hbm, ⟨12, _⟩ => ⟨S64x256x768, .f32⟩
  | .local _ .vmem, ⟨0, _⟩ => ⟨S2x256x768, .f32⟩
  | .local _ .vmem, ⟨1, _⟩ => ⟨S2x256x768, .f32⟩
  | .local _ .vmem, ⟨2, _⟩ => ⟨S2x1x256, .f32⟩
  | .local _ .vmem, ⟨3, _⟩ => ⟨S2x1x256, .f32⟩
  | .local _ .vmem, ⟨4, _⟩ => ⟨S1x768, .f32⟩
  | .local _ .vmem, ⟨5, _⟩ => ⟨S1x768, .f32⟩
  | .local _ .vmem, ⟨6, _⟩ => ⟨S768x2304, .f32⟩
  | .local _ .vmem, ⟨7, _⟩ => ⟨S1x2304, .f32⟩
  | .local _ .vmem, ⟨8, _⟩ => ⟨S768x768, .f32⟩
  | .local _ .vmem, ⟨9, _⟩ => ⟨S1x768, .f32⟩
  | .local _ .vmem, ⟨10, _⟩ => ⟨S2x256x768, .f32⟩
  | .local _ .vmem, ⟨11, _⟩ => ⟨S2x256x768, .f32⟩
  | .local _ .vmem, ⟨12, _⟩ => ⟨S2x256x2304, .f32⟩
  | .local _ .vmem, ⟨13, _⟩ => ⟨S2x256x768, .f32⟩
  | .local _ .smem, ⟨0, _⟩ => ⟨S64, .i32⟩
  | _, _ => ⟨S64x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let v2 : Index := Scalar.indexCast v1
  ![v2.toNat]
def k0_off2 (i : grid0.Coords) : Fin 1 → Nat :=
  let arg0 : BitVec 32 := BitVec.ofNat 32 (i 0).val
  let c2_i32_209 : BitVec 32 := 2#32
  let v355 : BitVec 32 := Scalar.muli arg0 c2_i32_209
  let c1_i32_210 : BitVec 32 := 1#32
  let v356 : BitVec 32 := Scalar.addi v355 c1_i32_210
  let v357 : Index := Scalar.indexCast v356
  ![v357.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x2304 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2x256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnRefIdeal.lean ====
abbrev S64 : Shape := ⟨1, ![64]⟩
abbrev S64x256x768 : Shape := ⟨3, ![64, 256, 768]⟩
abbrev S64x1x256 : Shape := ⟨3, ![64, 1, 256]⟩
abbrev S768 : Shape := ⟨1, ![768]⟩
abbrev S768x2304 : Shape := ⟨2, ![768, 2304]⟩
abbrev S2304 : Shape := ⟨1, ![2304]⟩
abbrev S768x768 : Shape := ⟨2, ![768, 768]⟩
abbrev S_ : Shape := ⟨0, ![]⟩
abbrev S64x256 : Shape := ⟨2, ![64, 256]⟩
abbrev S64x256x1 : Shape := ⟨3, ![64, 256, 1]⟩
abbrev S1x1x768 : Shape := ⟨3, ![1, 1, 768]⟩
abbrev S64x256x2304 : Shape := ⟨3, ![64, 256, 2304]⟩
abbrev S1x1x2304 : Shape := ⟨3, ![1, 1, 2304]⟩
abbrev S64x256x3x12x64 : Shape := ⟨5, ![64, 256, 3, 12, 64]⟩
abbrev S3x64x12x256x64 : Shape := ⟨5, ![3, 64, 12, 256, 64]⟩
abbrev S1x64x12x256x64 : Shape := ⟨5, ![1, 64, 12, 256, 64]⟩
abbrev S64x12x256x64 : Shape := ⟨4, ![64, 12, 256, 64]⟩
abbrev S64x12x256x256 : Shape := ⟨4, ![64, 12, 256, 256]⟩
abbrev S64x1x1x256 : Shape := ⟨4, ![64, 1, 1, 256]⟩
abbrev S64x12x256 : Shape := ⟨3, ![64, 12, 256]⟩
abbrev S64x12x256x1 : Shape := ⟨4, ![64, 12, 256, 1]⟩
abbrev S64x256x12x64 : Shape := ⟨4, ![64, 256, 12, 64]⟩

abbrev nBuf : Space → Nat
  | .hbm => 79
  | .vmem => 0
  | .smem => 0
  | _ => 0

abbrev bufTy : (tb : Table) → Fin (tcTables nBuf tb) → BufTy
  | .hbm, ⟨0, _⟩ => ⟨S64, .i32⟩
  | .hbm, ⟨1, _⟩ => ⟨S64x256x768, .f32⟩
  | .hbm, ⟨2, _⟩ => ⟨S64x1x256, .f32⟩
  | .hbm, ⟨3, _⟩ => ⟨S768, .f32⟩
  | .hbm, ⟨4, _⟩ => ⟨S768, .f32⟩
  | .hbm, ⟨5, _⟩ => ⟨S768x2304, .f32⟩
  | .hbm, ⟨6, _⟩ => ⟨S2304, .f32⟩
  | .hbm, ⟨7, _⟩ => ⟨S768x768, .f32⟩
  | .hbm, ⟨8, _⟩ => ⟨S768, .f32⟩
  | .hbm, ⟨9, _⟩ => ⟨S_, .f32⟩
  | .hbm, ⟨10, _⟩ => ⟨S64x256, .f32⟩
  | .hbm, ⟨11, _⟩ => ⟨S64x256x1, .f32⟩
  | .hbm, ⟨12, _⟩ => ⟨S_, .f32⟩
  | .hbm, ⟨13, _⟩ => ⟨S64x256x1, .f32⟩
  | .hbm, ⟨14, _⟩ => ⟨S64x256x1, .f32⟩
  | .hbm, ⟨15, _⟩ => ⟨S64x256x768, .f32⟩
  | .hbm, ⟨16, _⟩ => ⟨S64x256x768, .f32⟩
  | .hbm, ⟨17, _⟩ => ⟨S64x256x768, .f32⟩
  | .hbm, ⟨18, _⟩ => ⟨S_, .f32⟩
  | .hbm, ⟨19, _⟩ => ⟨S64x256, .f32⟩
  | .hbm, ⟨20, _⟩ => ⟨S64x256x1, .f32⟩
  | .hbm, ⟨21, _⟩ => ⟨S_, .f32⟩
  | .hbm, ⟨22, _⟩ => ⟨S64x256x1, .f32⟩
  | .hbm, ⟨23, _⟩ => ⟨S64x256x1, .f32⟩
  | .hbm, ⟨24, _⟩ => ⟨S64x256x768, .f32⟩
  | .hbm, ⟨25, _⟩ => ⟨S64x256x768, .f32⟩
  | .hbm, ⟨26, _⟩ => ⟨S_, .f32⟩
  | .hbm, ⟨27, _⟩ => ⟨S64x256x1, .f32⟩
  | .hbm, ⟨28, _⟩ => ⟨S64x256x1, .f32⟩
  | .hbm, ⟨29, _⟩ => ⟨S64x256x1, .f32⟩
  | .hbm, ⟨30, _⟩ => ⟨S64x256x768, .f32⟩
  | .hbm, ⟨31, _⟩ => ⟨S64x256x768, .f32⟩
  | .hbm, ⟨32, _⟩ => ⟨S1x1x768, .f32⟩
  | .hbm, ⟨33, _⟩ => ⟨S64x256x768, .f32⟩
  | .hbm, ⟨34, _⟩ => ⟨S64x256x768, .f32⟩
  | .hbm, ⟨35, _⟩ => ⟨S1x1x768, .f32⟩
  | .hbm, ⟨36, _⟩ => ⟨S64x256x768, .f32⟩
  | .hbm, ⟨37, _⟩ => ⟨S64x256x768, .f32⟩
  | .hbm, ⟨38, _⟩ => ⟨S64x256x2304, .f32⟩
  | .hbm, ⟨39, _⟩ => ⟨S1x1x2304, .f32⟩
  | .hbm, ⟨40, _⟩ => ⟨S64x256x2304, .f32⟩
  | .hbm, ⟨41, _⟩ => ⟨S64x256x2304, .f32⟩
  | .hbm, ⟨42, _⟩ => ⟨S64x256x3x12x64, .f32⟩
  | .hbm, ⟨43, _⟩ => ⟨S3x64x12x256x64, .f32⟩
  | .hbm, ⟨44, _⟩ => ⟨S1x64x12x256x64, .f32⟩
  | .hbm, ⟨45, _⟩ => ⟨S64x12x256x64, .f32⟩
  | .hbm, ⟨46, _⟩ => ⟨S1x64x12x256x64, .f32⟩
  | .hbm, ⟨47, _⟩ => ⟨S64x12x256x64, .f32⟩
  | .hbm, ⟨48, _⟩ => ⟨S1x64x12x256x64, .f32⟩
  | .hbm, ⟨49, _⟩ => ⟨S64x12x256x64, .f32⟩
  | .hbm, ⟨50, _⟩ => ⟨S64x12x256x256, .f32⟩
  | .hbm, ⟨51, _⟩ => ⟨S_, .f32⟩
  | .hbm, ⟨52, _⟩ => ⟨S64x12x256x256, .f32⟩
  | .hbm, ⟨53, _⟩ => ⟨S64x12x256x256, .f32⟩
  | .hbm, ⟨54, _⟩ => ⟨S64x1x1x256, .f32⟩
  | .hbm, ⟨55, _⟩ => ⟨S64x12x256x256, .f32⟩
  | .hbm, ⟨56, _⟩ => ⟨S64x12x256x256, .f32⟩
  | .hbm, ⟨57, _⟩ => ⟨S_, .f32⟩
  | .hbm, ⟨58, _⟩ => ⟨S64x12x256, .f32⟩
  | .hbm, ⟨59, _⟩ => ⟨S_, .f32⟩
  | .hbm, ⟨60, _⟩ => ⟨S64x12x256, .f32⟩
  | .hbm, ⟨61, _⟩ => ⟨S64x12x256, .f32⟩
  | .hbm, ⟨62, _⟩ => ⟨S64x12x256x1, .f32⟩
  | .hbm, ⟨63, _⟩ => ⟨S64x12x256x256, .f32⟩
  | .hbm, ⟨64, _⟩ => ⟨S64x12x256x256, .f32⟩
  | .hbm, ⟨65, _⟩ => ⟨S64x12x256x256, .f32⟩
  | .hbm, ⟨66, _⟩ => ⟨S_, .f32⟩
  | .hbm, ⟨67, _⟩ => ⟨S64x12x256, .f32⟩
  | .hbm, ⟨68, _⟩ => ⟨S64x12x256x1, .f32⟩
  | .hbm, ⟨69, _⟩ => ⟨S64x12x256x256, .f32⟩
  | .hbm, ⟨70, _⟩ => ⟨S64x12x256x256, .f32⟩
  | .hbm, ⟨71, _⟩ => ⟨S64x12x256x64, .f32⟩
  | .hbm, ⟨72, _⟩ => ⟨S64x256x12x64, .f32⟩
  | .hbm, ⟨73, _⟩ => ⟨S64x256x768, .f32⟩
  | .hbm, ⟨74, _⟩ => ⟨S64x256x768, .f32⟩
  | .hbm, ⟨75, _⟩ => ⟨S64x256x768, .f32⟩
  | .hbm, ⟨76, _⟩ => ⟨S1x1x768, .f32⟩
  | .hbm, ⟨77, _⟩ => ⟨S64x256x768, .f32⟩
  | .hbm, ⟨78, _⟩ => ⟨S64x256x768, .f32⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_7 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Head.lean ====
abbrev S64x256x768 : Shape := ⟨3, ![64, 256, 768]⟩
abbrev S768 : Shape := ⟨1, ![768]⟩
abbrev S768x1000 : Shape := ⟨2, ![768, 1000]⟩
abbrev S1000 : Shape := ⟨1, ![1000]⟩
abbrev S64x1x768 : Shape := ⟨3, ![64, 1, 768]⟩
abbrev S64x768 : Shape := ⟨2, ![64, 768]⟩
abbrev S1x768 : Shape := ⟨2, ![1, 768]⟩
abbrev S1x1000 : Shape := ⟨2, ![1, 1000]⟩
abbrev S64x1000 : Shape := ⟨2, ![64, 1000]⟩
abbrev S64 : Shape := ⟨1, ![64]⟩
abbrev S64x1 : Shape := ⟨2, ![64, 1]⟩

abbrev nBuf : Space → Nat
  | .hbm => 11
  | .vmem => 6
  | .smem => 0
  | _ => 0

abbrev bufTy : (tb : Table) → Fin (tcTables nBuf tb) → BufTy
  | .hbm, ⟨0, _⟩ => ⟨S64x256x768, .f32⟩
  | .hbm, ⟨1, _⟩ => ⟨S768, .f32⟩
  | .hbm, ⟨2, _⟩ => ⟨S768, .f32⟩
  | .hbm, ⟨3, _⟩ => ⟨S768x1000, .f32⟩
  | .hbm, ⟨4, _⟩ => ⟨S1000, .f32⟩
  | .hbm, ⟨5, _⟩ => ⟨S64x1x768, .f32⟩
  | .hbm, ⟨6, _⟩ => ⟨S64x768, .f32⟩
  | .hbm, ⟨7, _⟩ => ⟨S1x768, .f32⟩
  | .hbm, ⟨8, _⟩ => ⟨S1x768, .f32⟩
  | .hbm, ⟨9, _⟩ => ⟨S1x1000, .f32⟩
  | .hbm, ⟨10, _⟩ => ⟨S64x1000, .f32⟩
  | .local _ .vmem, ⟨0, _⟩ => ⟨S64x768, .f32⟩
  | .local _ .vmem, ⟨1, _⟩ => ⟨S1x768, .f32⟩
  | .local _ .vmem, ⟨2, _⟩ => ⟨S1x768, .f32⟩
  | .local _ .vmem, ⟨3, _⟩ => ⟨S768x1000, .f32⟩
  | .local _ .vmem, ⟨4, _⟩ => ⟨S1x1000, .f32⟩
  | .local _ .vmem, ⟨5, _⟩ => ⟨S64x1000, .f32⟩
  | _, _ => ⟨S64x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== HeadRefIdeal.lean ====
abbrev S64x256x768 : Shape := ⟨3, ![64, 256, 768]⟩
abbrev S768 : Shape := ⟨1, ![768]⟩
abbrev S768x1000 : Shape := ⟨2, ![768, 1000]⟩
abbrev S1000 : Shape := ⟨1, ![1000]⟩
abbrev S_ : Shape := ⟨0, ![]⟩
abbrev S64x256 : Shape := ⟨2, ![64, 256]⟩
abbrev S64x256x1 : Shape := ⟨3, ![64, 256, 1]⟩
abbrev S1x1x768 : Shape := ⟨3, ![1, 1, 768]⟩
abbrev S64x1x768 : Shape := ⟨3, ![64, 1, 768]⟩
abbrev S64x768 : Shape := ⟨2, ![64, 768]⟩
abbrev S64x1000 : Shape := ⟨2, ![64, 1000]⟩
abbrev S1x1000 : Shape := ⟨2, ![1, 1000]⟩

abbrev nBuf : Space → Nat
  | .hbm => 40
  | .vmem => 0
  | .smem => 0
  | _ => 0

abbrev bufTy : (tb : Table) → Fin (tcTables nBuf tb) → BufTy
  | .hbm, ⟨0, _⟩ => ⟨S64x256x768, .f32⟩
  | .hbm, ⟨1, _⟩ => ⟨S768, .f32⟩
  | .hbm, ⟨2, _⟩ => ⟨S768, .f32⟩
  | .hbm, ⟨3, _⟩ => ⟨S768x1000, .f32⟩
  | .hbm, ⟨4, _⟩ => ⟨S1000, .f32⟩
  | .hbm, ⟨5, _⟩ => ⟨S_, .f32⟩
  | .hbm, ⟨6, _⟩ => ⟨S64x256, .f32⟩
  | .hbm, ⟨7, _⟩ => ⟨S64x256x1, .f32⟩
  | .hbm, ⟨8, _⟩ => ⟨S_, .f32⟩
  | .hbm, ⟨9, _⟩ => ⟨S64x256x1, .f32⟩
  | .hbm, ⟨10, _⟩ => ⟨S64x256x1, .f32⟩
  | .hbm, ⟨11, _⟩ => ⟨S64x256x768, .f32⟩
  | .hbm, ⟨12, _⟩ => ⟨S64x256x768, .f32⟩
  | .hbm, ⟨13, _⟩ => ⟨S64x256x768, .f32⟩
  | .hbm, ⟨14, _⟩ => ⟨S_, .f32⟩
  | .hbm, ⟨15, _⟩ => ⟨S64x256, .f32⟩
  | .hbm, ⟨16, _⟩ => ⟨S64x256x1, .f32⟩
  | .hbm, ⟨17, _⟩ => ⟨S_, .f32⟩
  | .hbm, ⟨18, _⟩ => ⟨S64x256x1, .f32⟩
  | .hbm, ⟨19, _⟩ => ⟨S64x256x1, .f32⟩
  | .hbm, ⟨20, _⟩ => ⟨S64x256x768, .f32⟩
  | .hbm, ⟨21, _⟩ => ⟨S64x256x768, .f32⟩
  | .hbm, ⟨22, _⟩ => ⟨S_, .f32⟩
  | .hbm, ⟨23, _⟩ => ⟨S64x256x1, .f32⟩
  | .hbm, ⟨24, _⟩ => ⟨S64x256x1, .f32⟩
  | .hbm, ⟨25, _⟩ => ⟨S64x256x1, .f32⟩
  | .hbm, ⟨26, _⟩ => ⟨S64x256x768, .f32⟩
  | .hbm, ⟨27, _⟩ => ⟨S64x256x768, .f32⟩
  | .hbm, ⟨28, _⟩ => ⟨S1x1x768, .f32⟩
  | .hbm, ⟨29, _⟩ => ⟨S64x256x768, .f32⟩
  | .hbm, ⟨30, _⟩ => ⟨S64x256x768, .f32⟩
  | .hbm, ⟨31, _⟩ => ⟨S1x1x768, .f32⟩
  | .hbm, ⟨32, _⟩ => ⟨S64x256x768, .f32⟩
  | .hbm, ⟨33, _⟩ => ⟨S64x256x768, .f32⟩
  | .hbm, ⟨34, _⟩ => ⟨S64x1x768, .f32⟩
  | .hbm, ⟨35, _⟩ => ⟨S64x768, .f32⟩
  | .hbm, ⟨36, _⟩ => ⟨S64x1000, .f32⟩
  | .hbm, ⟨37, _⟩ => ⟨S1x1000, .f32⟩
  | .hbm, ⟨38, _⟩ => ⟨S64x1000, .f32⟩
  | .hbm, ⟨39, _⟩ => ⟨S64x1000, .f32⟩
  | _, _ => ⟨S64x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Proof.Rows.lean ====
/-
  The mathematics of one token row on the extended reals: layer normalisation, a dense layer, the exact GELU, the MLP with its
  skip connection. Both the tiled kernel and the plain reference are shown to be these functions, row by row.
-/
module

public import Idealize.ShloMosaic.Lib.Pointwise
public import Idealize.ShloMosaic.PureOps.Ideal.Laws

@[expose] public section

noncomputable section

namespace Cert.Rows

open Idealize.ShloMosaic

/-- The mean of a row of 768 numbers. -/
def mean (x : Fin 768 → EReal) : EReal := Ideal.div (∑ k, x k) (Ideal.ofBits .f32 1145044992#32)

/-- The (biased) variance of a row. -/
def var (x : Fin 768 → EReal) : EReal :=
  Ideal.div (∑ k, (x k - mean x) * (x k - mean x)) (Ideal.ofBits .f32 1145044992#32)

/-- Layer normalisation of a row with gain `g` and shift `b`. -/
def norm (x g b : Fin 768 → EReal) (k : Fin 768) : EReal :=
  (x k - mean x) * Ideal.rsqrt (var x + Ideal.ofBits .f32 897988541#32) * g k + b k

/-- A row times a matrix. -/
def dot {n p : ℕ} (x : Fin n → EReal) (w : Fin n → Fin p → EReal) (j : Fin p) : EReal := ∑ k, x k * w k j

/-- The exact GELU, with the float nearest `1/√2`. -/
def gelu (y : EReal) : EReal :=
  Ideal.ofBits .f32 1056964608#32 * y * (1 + Ideal.erf (y * Ideal.ofBits .f32 1060439283#32))

/-- The hidden layer of the MLP before its activation. -/
def hidden (x g b : Fin 768 → EReal) (w1 : Fin 768 → Fin 3072 → EReal) (b1 : Fin 3072 → EReal) (k : Fin 3072) : EReal :=
  dot (norm x g b) w1 k + b1 k

/-- The MLP with its skip connection. -/
def mlp (x g b : Fin 768 → EReal) (w1 : Fin 768 → Fin 3072 → EReal) (b1 : Fin 3072 → EReal)
    (w2 : Fin 3072 → Fin 768 → EReal) (b2 : Fin 768 → EReal) (j : Fin 768) : EReal :=
  x j + dot (fun k => gelu (hidden x g b w1 b1 k)) w2 j + b2 j

/-- The classifier: normalise, then a dense layer. -/
def head (x g b : Fin 768 → EReal) (w : Fin 768 → Fin 1000 → EReal) (c : Fin 1000 → EReal) (j : Fin 1000) : EReal :=
  dot (norm x g b) w j + c j

end Cert.Rows
-- ==== Proof.Attend.lean ====
/-
  One head of attention for one query row on the extended reals, and what a key with bias −∞ does: its weight is zero, whatever its
  value is. That needs the scores to have a largest one that is a real number, so the module also says which rows are real.
-/
module

public import proofs.«01_k».proof.Proof.Rows

@[expose] public section

noncomputable section

namespace Cert.Rows

open Idealize.ShloMosaic

/-- Queries, keys and values of a row. -/
def qkv (x g b : Fin 768 → EReal) (w : Fin 768 → Fin 2304 → EReal) (c : Fin 2304 → EReal) (j : Fin 2304) : EReal :=
  dot (norm x g b) w j + c j

/-- The scores of a query against the keys: scaled by 1/8, the bias added. -/
def score (q : Fin 64 → EReal) (k : Fin 256 → Fin 64 → EReal) (bias : Fin 256 → EReal) (m : Fin 256) : EReal :=
  (∑ d, q d * k m d) * Ideal.ofBits .f32 1040187392#32 + bias m

/-- The largest score. -/
def peak (s : Fin 256 → EReal) : EReal := Finset.fold max (Ideal.ofBits .f32 4286578688#32) s Finset.univ

/-- The values averaged with the softmax of the scores. -/
def attend (s v : Fin 256 → EReal) : EReal :=
  ∑ m, Ideal.div (Ideal.exp (s m - peak s)) (∑ n, Ideal.exp (s n - peak s)) * v m

/-- Column `d` of head `h` of part `t` (queries, keys, values) of a row of 2304 numbers. -/
def col (t : Fin 3) (h : Fin 12) (d : Fin 64) : Fin 2304 := ⟨768 * t.val + 64 * h.val + d.val, by omega⟩

/-- All heads of query row `r`, side by side. -/
def heads (Q : Fin 256 → Fin 2304 → EReal) (bias : Fin 256 → EReal) (r : Fin 256) (p : Fin 768) : EReal :=
  attend (score (fun d => Q r (col 0 ⟨p.val / 64, by omega⟩ d)) (fun m d => Q m (col 1 ⟨p.val / 64, by omega⟩ d)) bias)
    (fun m => Q m (col 2 ⟨p.val / 64, by omega⟩ ⟨p.val % 64, Nat.mod_lt _ (by decide)⟩))

/-- The result row: the skip connection, the projected heads, the shift. -/
def attnOut (Q : Fin 256 → Fin 2304 → EReal) (bias : Fin 256 → EReal) (r : Fin 256) (x : Fin 768 → EReal) (w : Fin 768 → Fin 768 → EReal)
    (c : Fin 768 → EReal) (j : Fin 768) : EReal :=
  x j + dot (heads Q bias r) w j + c j

/-! ## Real numbers among the extended ones -/

/-- `x` is a real number. -/
def IsReal (x : EReal) : Prop := ∃ r : ℝ, x = r

theorem IsReal.add {x y : EReal} : IsReal x → IsReal y → IsReal (x + y) := by
  rintro ⟨a, rfl⟩ ⟨b, rfl⟩
  exact ⟨a + b, (EReal.coe_add a b).symm⟩
theorem IsReal.sub {x y : EReal} : IsReal x → IsReal y → IsReal (x - y) := by
  rintro ⟨a, rfl⟩ ⟨b, rfl⟩
  exact ⟨a - b, (EReal.coe_sub a b).symm⟩
theorem IsReal.mul {x y : EReal} : IsReal x → IsReal y → IsReal (x * y) := by
  rintro ⟨a, rfl⟩ ⟨b, rfl⟩
  exact ⟨a * b, (EReal.coe_mul a b).symm⟩
theorem IsReal.sum {n : ℕ} {f : Fin n → EReal} (h : ∀ i, IsReal (f i)) : IsReal (∑ i, f i) := by
  choose r hr using h
  refine ⟨∑ i, r i, ?_⟩
  rw [Finset.sum_congr rfl fun i _ => hr i]
  exact (map_sum (⟨⟨((↑) : ℝ → EReal), EReal.coe_zero⟩, EReal.coe_add⟩ : ℝ →+ EReal) r Finset.univ).symm
theorem IsReal.ne_top {x : EReal} : IsReal x → x ≠ ⊤ := by
  rintro ⟨r, rfl⟩
  exact EReal.coe_ne_top r
theorem IsReal.ne_bot {x : EReal} : IsReal x → x ≠ ⊥ := by
  rintro ⟨r, rfl⟩
  exact EReal.coe_ne_bot r
theorem isReal_of {x : EReal} (h : x ≠ ⊥) (h' : x ≠ ⊤) : IsReal x := ⟨x.toReal, (EReal.coe_toReal h' h).symm⟩

theorem ofBits_negInf : Ideal.ofBits .f32 4286578688#32 = ⊥ := by simp [Ideal.ofBits, Ideal.ieee]
theorem ofBits_inf : Ideal.ofBits .f32 2139095040#32 = ⊤ := by simp [Ideal.ofBits, Ideal.ieee]
theorem ofBits_768 : Ideal.ofBits .f32 1145044992#32 = ((768 : ℝ) : EReal) := by
  simp [Ideal.ofBits, Ideal.ieee, -EReal.coe_mul]
  norm_num
theorem ofBits_eighth : Ideal.ofBits .f32 1040187392#32 = ((1 / 8 : ℝ) : EReal) := by
  simp [Ideal.ofBits, Ideal.ieee, -EReal.coe_mul]
  norm_num
theorem ofBits_eps : ∃ e : ℝ, 0 < e ∧ Ideal.ofBits .f32 897988541#32 = (e : EReal) := by
  refine ⟨8796093 * (1 / 8796093022208), by norm_num, ?_⟩
  simp [Ideal.ofBits, Ideal.ieee, -EReal.coe_mul]
  norm_num

theorem IsReal.div768 {x : EReal} (h : IsReal x) : IsReal (Ideal.div x (Ideal.ofBits .f32 1145044992#32)) := by
  rw [ofBits_768, Ideal.div_coe (by norm_num)]
  exact h.mul ⟨_, rfl⟩

theorem isReal_mean {x : Fin 768 → EReal} (h : ∀ k, IsReal (x k)) : IsReal (mean x) := (IsReal.sum h).div768

/-- The variance of a real row is a real number that is not negative. -/
theorem var_real {x : Fin 768 → EReal} (h : ∀ k, IsReal (x k)) : ∃ v : ℝ, 0 ≤ v ∧ var x = v := by
  have hd : ∀ k, IsReal (x k - mean x) := fun k => (h k).sub (isReal_mean h)
  obtain ⟨v, hv⟩ := (IsReal.sum fun k => (hd k).mul (hd k)).div768
  refine ⟨v, ?_, hv⟩
  have h0 : (0 : EReal) ≤ ∑ k, (x k - mean x) * (x k - mean x) := Finset.sum_nonneg fun k _ => by
    obtain ⟨r, hr⟩ := hd k
    rw [hr, ← EReal.coe_mul]
    exact EReal.coe_nonneg.mpr (mul_self_nonneg r)
  rw [ofBits_768, Ideal.div_coe (by norm_num)] at hv
  refine EReal.coe_nonneg.mp (hv ▸ mul_nonneg h0 ?_)
  exact EReal.coe_nonneg.mpr (by norm_num)

theorem isReal_norm {x g b : Fin 768 → EReal} (hx : ∀ k, IsReal (x k)) (hg : ∀ k, IsReal (g k)) (hb : ∀ k, IsReal (b k)) (k : Fin 768) :
    IsReal (norm x g b k) := by
  obtain ⟨v, hv, e⟩ := var_real hx
  obtain ⟨ε, hε, e'⟩ := ofBits_eps
  have hr : IsReal (Ideal.rsqrt (var x + Ideal.ofBits .f32 897988541#32)) := by
    rw [e, e', ← EReal.coe_add, Ideal.rsqrt_coe, if_neg (by linarith), if_neg (by linarith)]
    exact ⟨_, rfl⟩
  exact ((((hx k).sub (isReal_mean hx)).mul hr).mul (hg k)).add (hb k)

theorem isReal_qkv {x g b : Fin 768 → EReal} {w : Fin 768 → Fin 2304 → EReal} {c : Fin 2304 → EReal} (hx : ∀ k, IsReal (x k)) (hg : ∀ k, IsReal (g k))
    (hb : ∀ k, IsReal (b k)) (hw : ∀ k j, IsReal (w k j)) (hc : ∀ j, IsReal (c j)) (j : Fin 2304) : IsReal (qkv x g b w c j) :=
  (IsReal.sum fun k => (isReal_norm hx hg hb k).mul (hw k j)).add (hc j)

/-! ## Keys with bias −∞ -/

theorem exp_nonneg (x : EReal) : 0 ≤ Ideal.exp x := by
  induction x using EReal.rec with
  | bot => exact le_refl _
  | top => exact le_top
  | coe r => exact EReal.coe_nonneg.mpr (Real.exp_pos r).le

theorem exp_pos {x : EReal} (h : x ≠ ⊥) : 0 < Ideal.exp x := by
  induction x using EReal.rec with
  | bot => exact absurd rfl h
  | top => exact EReal.coe_lt_top 0
  | coe r => exact EReal.coe_pos.mpr (Real.exp_pos r)

theorem peak_ne_top {s : Fin 256 → EReal} (h : ∀ m, s m ≠ ⊤) : peak s ≠ ⊤ := by
  refine (lt_top_iff_ne_top.mp ?_)
  exact (Finset.fold_max_lt _).mpr ⟨by rw [ofBits_negInf]; exact bot_lt_top, fun m _ => lt_top_iff_ne_top.mpr (h m)⟩

theorem weights_ne_zero {s : Fin 256 → EReal} (h : ∀ m, s m ≠ ⊤) {n : Fin 256} (hn : s n ≠ ⊥) : (∑ m, Ideal.exp (s m - peak s)) ≠ 0 := by
  refine ne_of_gt (lt_of_lt_of_le (exp_pos (x := s n - peak s) ?_) (Finset.single_le_sum (f := fun m => Ideal.exp (s m - peak s)) (fun m _ => exp_nonneg _) (Finset.mem_univ n)))
  intro e
  rcases EReal.add_eq_bot_iff.mp (show s n + -peak s = ⊥ from e) with e | e
  · exact hn e
  · exact peak_ne_top h (EReal.neg_eq_bot_iff.mp e)

/-- Values at keys whose score is −∞ do not matter. -/
theorem attend_congr {s v v' : Fin 256 → EReal} (h : ∀ m, s m ≠ ⊤) {n : Fin 256} (hn : s n ≠ ⊥) (hv : ∀ m, s m = ⊥ ∨ v m = v' m) :
    attend s v = attend s v' := by
  refine Finset.sum_congr rfl fun m _ => ?_
  rcases hv m with e | e
  · have hz : Ideal.exp (s m - peak s) = 0 := by
      rw [e, sub_eq_add_neg, EReal.bot_add]
      rfl
    have hd : Ideal.div (Ideal.exp (s m - peak s)) (∑ n, Ideal.exp (s n - peak s)) = 0 := by
      rw [hz]
      unfold Ideal.div
      rw [if_neg (weights_ne_zero h hn), zero_mul]
    rw [hd, zero_mul, zero_mul]
  · rw [e]

/-- Two tables of queries, keys and values that agree on the first 128 rows give the same heads for a query among them, when the other
    rows have bias −∞, the rows are real, and the first key's bias is a real number and no bias is +∞. -/
theorem heads_congr {Q Q' : Fin 256 → Fin 2304 → EReal} {bias : Fin 256 → EReal} (hQ : ∀ m : Fin 256, m.val < 128 → ∀ j, Q m j = Q' m j)
    (hR : ∀ m j, IsReal (Q' m j)) (hb : ∀ m : Fin 256, 128 ≤ m.val → bias m = ⊥) (h0 : bias 0 ≠ ⊥) (ht : ∀ m, bias m ≠ ⊤)
    (r : Fin 256) (hr : r.val < 128) (p : Fin 768) : heads Q bias r p = heads Q' bias r p := by
  have hs : ∀ h, score (fun d => Q r (col 0 h d)) (fun m d => Q m (col 1 h d)) bias = score (fun d => Q' r (col 0 h d)) (fun m d => Q' m (col 1 h d)) bias := by
    intro h
    funext m
    unfold score
    rcases Nat.lt_or_ge m.val 128 with hm | hm
    · simp only [hQ m hm, hQ r hr]
    · rw [hb m hm, EReal.add_bot, EReal.add_bot]
  have hreal : ∀ h m, IsReal ((∑ d, Q' r (col 0 h d) * Q' m (col 1 h d)) * Ideal.ofBits .f32 1040187392#32) := fun h m =>
    (IsReal.sum fun d => (hR _ _).mul (hR _ _)).mul ⟨_, ofBits_eighth⟩
  have hsum : ∀ {a b : EReal}, IsReal a → b ≠ ⊤ → a + b ≠ ⊤ := fun ha hb => (EReal.add_lt_top ha.ne_top hb).ne
  unfold heads
  rw [hs]
  refine attend_congr (n := 0) (fun m => hsum (hreal _ m) (ht m)) (fun e => ?_) fun m => ?_
  · rcases EReal.add_eq_bot_iff.mp e with e | e
    · exact (hreal _ _).ne_bot e
    · exact h0 e
  · rcases Nat.lt_or_ge m.val 128 with hm | hm
    · exact .inr (hQ m hm _)
    · refine .inl ?_
      unfold score
      rw [hb m hm, EReal.add_bot]

end Cert.Rows
-- ==== Proof.Mask.lean ====
/-
  Reading the predicates of the statement: one bit at one index, as a proposition.
-/
module

public import Idealize.ShloMosaic.Lib.Pointwise
public import proofs.«01_k».proof.Proof.Attend

@[expose] public section

noncomputable section

namespace Cert.Mask

open Idealize.ShloMosaic

theorem or_one : ∀ {a b : BitVec 1}, a ||| b = 1#1 → a = 1#1 ∨ b = 1#1 := by decide
theorem and_one : ∀ {a b : BitVec 1}, a &&& b = 1#1 → a = 1#1 ∧ b = 1#1 := by decide

theorem low : ∀ r < 256, IntOp.cmpi .slt (BitVec.ofNat 32 r) 128#32 = 1#1 → r < 128 := by decide

theorem high (v : BitVec 32) (hv : IntOp.cmpi .sgt v 1#32 = 1#1) : BitVec.slt 1#32 v = true := by
  unfold IntOp.cmpi at hv
  revert hv
  cases hs : BitVec.slt 1#32 v <;> simp_all

/-- The bit of a written row: its tile is the first of the sample, or the sample has two. -/
theorem row (r : Fin 256) (v : BitVec 32) (h : IntOp.cmpi .slt (BitVec.ofNat 32 r.val) 128#32 ||| IntOp.cmpi .sgt v 1#32 = 1#1) :
    r.val < 128 ∨ BitVec.slt 1#32 v = true :=
  (or_one h).imp (low _ r.isLt) (high v)

theorem bit_decide {p : Prop} [Decidable p] (h : BitVec.ofBool (decide p) = 1#1) : p := by
  by_contra hp
  rw [decide_eq_false hp] at h
  exact absurd h (by decide)

/-- The bit of a real element. -/
theorem real {x : EReal} (h : FloatOps.cmpf (F := Ideal) (φ := .f32) .olt (FloatOps.hostAbsf (F := Ideal) (φ := .f32) x) (Ideal.ofBits .f32 2139095040#32) = 1#1) :
    Rows.IsReal x := by
  have h' : max x (-x) < ⊤ := by
    rw [Rows.ofBits_inf] at h
    exact bit_decide h
  refine Rows.isReal_of (fun e => ?_) (fun e => ?_) <;> subst e <;> simp at h'

end Cert.Mask
-- ==== Proof.MlpSetup.lean ====
/-
  The launch set-up of the MLP call's ideal program: the buffers when the region is entered, the prefetched table, the windows' blocks,
  the branch conditions and the staging memrefs. Shared by the run of the body (MlpBody.lean) and the launch (MlpRun.lean).
-/
module

public import proofs.«01_k».proof.Proof.Gen.MlpIdeal.Launch
public import proofs.«01_k».proof.Proof.Gen.MlpIdeal.Skeleton
public import Idealize.ShloMosaic.Lib.Pipeline.FrameBody
public import Idealize.ShloMosaic.Lib.Ring
public import Idealize.ShloMosaic.Lib.Tactic
public import Idealize.ShloMosaic.Lib.WordCmp

@[expose] public section

-- the literal extents of the blocks are long
set_option maxRecDepth 16384

noncomputable section

namespace Cert.MlpIdeal.Run

open Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes an argument: the region finds each as launched. -/
theorem V_of_mem (c : Dev nD) (b : Ref sig .tc) (hb : b ∈ [main_arg0, main_arg1, main_arg2, main_arg3, main_arg4, main_arg5, main_arg6, main_arg7]) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    fin_cases hb
    all_goals
      repeat' apply And.intro
      all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (`ok0`). It is `True` here, no
    window's index map reading the table. -/
abbrev Ok : Prop := ok0 (F := F) (tbl m)
/-- The tables' contents as ADMISSIBLE contents, and the pipeline at them: what the launch theorem runs
    (`θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S64 .i32 := Memref.whole main_arg0
abbrev htbM0_0 : tbM0_0.IsWhole := Memref.isWhole_whole _

/-- A table memref's buffer on core `c`: its contents type, and it held at HALF the full share at `f`; the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (`ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem finds_of_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem finds_of_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem finds_of_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem finds_of_3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem finds_of_4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem finds_of_5 (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem finds_of_6 (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- Whether the second row tile of the first sample is taken, by the sample's word of the table. -/
abbrev cond0_0 (i : grid0.Coords) (v3 : BitVec 32) : Prop := (Scalar.cmpi .ne (Scalar.extui (Scalar.cmpi .sgt v3 1#32)) 0#32) = 1#1

/-- Whether the second row tile of the second sample is taken, by the sample's word of the table. -/
abbrev cond0_1 (i : grid0.Coords) (v62 : BitVec 32) : Prop := (Scalar.cmpi .ne (Scalar.extui (Scalar.cmpi .sgt v62 1#32)) 0#32) = 1#1

/-! ## The staging memrefs -/

/-- Each window's current staging memref at point `t`, and its wholeness. -/
abbrev ms0_0 (hO : Ok m) (t : Fin (cfgM m hO).N) : Memref sig .tc .vmem S2x256x768 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x768 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x768 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S768x3072 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x3072 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S3072x768 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x768 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S2x256x768 .f32 := spec0_7.stage ((cfgM m hO).slots t 7)
abbrev hs0_7 (hO : Ok m) (t : Fin (cfgM m hO).N) : (ms0_7 m hO t).IsWhole := hstage0_7 (((cfgM m hO).slots t 7).cast nbuf0_7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_vit_mlp (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7))

end Cert.MlpIdeal.Run

end
-- ==== Proof.MlpBody.lean ====
/-
  One grid point of the MLP call's ideal program. Each of the four cases of the two conditionals (whether sample 0, sample 1 of the
  block has a second row tile) is run once; what the body leaves in the output's staging buffer is read tile by tile.
-/
module

public import proofs.«01_k».proof.Proof.MlpSetup
public import Idealize.ShloMosaic.Lib.ValueIdx

@[expose] public section

set_option maxRecDepth 16384

noncomputable section

namespace Cert.MlpIdeal.Run

open Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- What the kernel stores for one tile of 128 rows. -/
def tile (x : Vec F S1x128x768 .f32) (g b : Vec F S1x768 .f32) (w1 : Vec F S768x3072 .f32) (b1 : Vec F S1x3072 .f32)
    (w2 : Vec F S3072x768 .f32) (b2 : Vec F S1x768 .f32) : FVec F S1x128x768 .f32 :=
  k0_pay1 (k0_pay2 x) (k0_pay4 x g b w1 b1) (k0_pay5 x g b w1 b1) k0_pay6 w2 b2

/-- Row `r` of a sample lies in tile `r / 128`; that tile of sample `s`. -/
def rowsOf (x0 : Vec F S2x256x768 .f32) (s : Fin 2) (k : Fin 2) : Vec F S1x128x768 .f32 :=
  fun j => x0 (ix3 s ⟨128 * k.val + (j 1).val, by have := (j 1).isLt; have := k.isLt; simp at *; omega⟩ (j 2))

/-- The block the body writes where it writes. -/
def outBlock (x0 : Vec F S2x256x768 .f32) (g b : Vec F S1x768 .f32) (w1 : Vec F S768x3072 .f32) (b1 : Vec F S1x3072 .f32)
    (w2 : Vec F S3072x768 .f32) (b2 : Vec F S1x768 .f32) : Vec F S2x256x768 .f32 :=
  fun j => tile (rowsOf x0 (j 0) ⟨(j 1).val / 128, by have := (j 1).isLt; simp at *; omega⟩) g b w1 b1 w2 b2
    (ix3 0 ⟨(j 1).val % 128, Nat.mod_lt _ (by decide)⟩ (j 2))

/-- The first word of the table the body reads at a point, and the second. -/
abbrev word0 (i : grid0.Coords) (xt0 : Vec F S64 .i32) : BitVec 32 :=
  tbM0_0.view.readAt (Elt F) (Rect.unit (s := S64) (k0_off1 i) S1.size (k0_off1_inb i)).toLoadRect xt0 (Shape.Idx.first (numel1_S1.symm ▸ Nat.one_pos))
abbrev word1 (i : grid0.Coords) (xt0 : Vec F S64 .i32) : BitVec 32 :=
  tbM0_0.view.readAt (Elt F) (Rect.unit (s := S64) (k0_off2 i) S1.size (k0_off2_inb i)).toLoadRect xt0 (Shape.Idx.first (numel1_S1.symm ▸ Nat.one_pos))

/-- What is known of the output block: every row of a first tile, and every row of a sample whose word takes the second tile. -/
def Written (G X : Vec F S2x256x768 .f32) (p0 p1 : Prop) : Prop :=
  ∀ j : S2x256x768.Idx, ((j 1).val < 128 ∨ ((j 0).val = 0 ∧ p0) ∨ ((j 0).val = 1 ∧ p1)) → X j = G j

/-- The rows the body loads for one tile. -/
theorem load_rows {arg2 : Memref sig .tc .vmem S2x256x768 .f32} (harg2 : arg2.IsWhole) (x0 : Vec F S2x256x768 .f32) (s k : Fin 2)
    (off : Fin 3 → ℕ) (inb : ∀ a, off a + (![1, 128, 768] : Fin 3 → ℕ) a ≤ S2x256x768.size a)
    (h0 : off 0 = s.val) (h1 : off 1 = 128 * k.val) (h2 : off 2 = 0) :
    View.readAt (Elt F) arg2.view (Rect.unit (s := S2x256x768) off ![1, 128, 768] inb).toLoadRect (harg2.unread x0) = rowsOf x0 s k := by
  funext x
  rw [View.readAt_apply, harg2.read_unread]
  refine congrArg x0 (funext fun a => Fin.ext ?_)
  have hx0 : (x 0).val < 1 := (x 0).isLt
  fin_cases a
  · show off 0 + 1 * (x 0).val = s.val
    omega
  · show off 1 + 1 * (x 1).val = 128 * k.val + (x 1).val
    omega
  · show off 2 + 1 * (x 2).val = (x 2).val
    omega

/-- A load of the whole of a rank-two buffer. -/
theorem load_whole {n0 n1 : ℕ} {m : Memref sig .tc .vmem ⟨2, ![n0, n1]⟩ .f32} (h : m.IsWhole) (X : Vec F ⟨2, ![n0, n1]⟩ .f32)
    (inb : ∀ a, (![0, 0] : Fin 2 → ℕ) a + (![n0, n1] : Fin 2 → ℕ) a ≤ (⟨2, ![n0, n1]⟩ : Shape).size a) :
    View.readAt (Elt F) m.view (Rect.unit (s := ⟨2, ![n0, n1]⟩) ![0, 0] ![n0, n1] inb).toLoadRect (h.unread X) = X := by
  funext x
  rw [View.readAt_apply, h.read_unread]
  refine congrArg X (funext fun a => Fin.ext ?_)
  fin_cases a
  · show 0 + 1 * (x 0).val = (x 0).val
    omega
  · show 0 + 1 * (x 1).val = (x 1).val
    omega

/-- The tile of sample `s` at tile index `k`, read as the block reads there. -/
theorem tile_emb (x0 : Vec F S2x256x768 .f32) (x1 x2 : Vec F S1x768 .f32) (x3 : Vec F S768x3072 .f32) (x4 : Vec F S1x3072 .f32)
    (x5 : Vec F S3072x768 .f32) (x6 : Vec F S1x768 .f32) (s k : Fin 2)
    (off : Fin 3 → ℕ) (inb : ∀ a, off a + (![1, 128, 768] : Fin 3 → ℕ) a ≤ S2x256x768.size a)
    (h0 : off 0 = s.val) (h1 : off 1 = 128 * k.val) (h2 : off 2 = 0) (x : S1x128x768.Idx) :
    tile (rowsOf x0 s k) x1 x2 x3 x4 x5 x6 x
      = outBlock x0 x1 x2 x3 x4 x5 x6 ((Rect.unit (s := S2x256x768) off ![1, 128, 768] inb).emb x) := by
  have hx0 : (x 0).val < 1 := (x 0).isLt
  have hx1 : (x 1).val < 128 := (x 1).isLt
  have e0 : ((Rect.unit (s := S2x256x768) off ![1, 128, 768] inb).emb x) 0 = s := Fin.ext (by
    show off 0 + 1 * (x 0).val = s.val
    omega)
  have e1 : (((Rect.unit (s := S2x256x768) off ![1, 128, 768] inb).emb x) 1).val = 128 * k.val + (x 1).val := by
    show off 1 + 1 * (x 1).val = _
    omega
  have e2 : ((Rect.unit (s := S2x256x768) off ![1, 128, 768] inb).emb x) 2 = x 2 := Fin.ext (by
    show off 2 + 1 * (x 2).val = (x 2).val
    omega)
  unfold outBlock
  have hk : (⟨(((Rect.unit (s := S2x256x768) off ![1, 128, 768] inb).emb x) 1).val / 128, by
      have := k.isLt; omega⟩ : Fin 2) = k := Fin.ext (by show _ / 128 = k.val; omega)
  have hi : x = ix3 0 ⟨(((Rect.unit (s := S2x256x768) off ![1, 128, 768] inb).emb x) 1).val % 128, Nat.mod_lt _ (by decide)⟩
      (((Rect.unit (s := S2x256x768) off ![1, 128, 768] inb).emb x) 2) := by
    funext a
    fin_cases a
    · exact Fin.ext (by show (x 0).val = 0; omega)
    · exact Fin.ext (by show (x 1).val = _ % 128; omega)
    · exact e2.symm
  rw [hk, e0]
  exact congrArg _ hi

/-- An index lies in the rectangle of sample `s`, tile `k`. -/
theorem mem_tile (s k : Fin 2) (off : Fin 3 → ℕ) (inb : ∀ a, off a + (![1, 128, 768] : Fin 3 → ℕ) a ≤ S2x256x768.size a)
    (h0 : off 0 = s.val) (h1 : off 1 = 128 * k.val) (h2 : off 2 = 0) (j : S2x256x768.Idx)
    (hs : (j 0).val = s.val) (hk : (j 1).val / 128 = k.val) :
    j ∈ (Rect.unit (s := S2x256x768) off ![1, 128, 768] inb).set := by
  have hj2 : (j 2).val < 768 := (j 2).isLt
  refine Rect.mem_set_unit.mpr fun a => ?_
  fin_cases a
  · exact ⟨by show off 0 ≤ (j 0).val; omega, by show (j 0).val < off 0 + 1; omega⟩
  · exact ⟨by show off 1 ≤ (j 1).val; omega, by show (j 1).val < off 1 + 128; omega⟩
  · exact ⟨by show off 2 ≤ (j 2).val; omega, by show (j 2).val < off 2 + 768; omega⟩

set_option maxHeartbeats 1600000 in
/-- The body in case A. -/
theorem body_A (c : Dev nD) (i : grid0.Coords) (arg2 : Memref sig .tc .vmem S2x256x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S768x3072 .f32) (harg5 : arg5.IsWhole) (arg6 : Memref sig .tc .vmem S1x3072 .f32) (harg6 : arg6.IsWhole) (arg7 : Memref sig .tc .vmem S3072x768 .f32) (harg7 : arg7.IsWhole) (arg8 : Memref sig .tc .vmem S1x768 .f32) (harg8 : arg8.IsWhole) (arg9 : Memref sig .tc .vmem S2x256x768 .f32) (harg9 : arg9.IsWhole)
    (x0 : Vec F S2x256x768 .f32) (x1 : Vec F S1x768 .f32) (x2 : Vec F S1x768 .f32) (x3 : Vec F S768x3072 .f32) (x4 : Vec F S1x3072 .f32) (x5 : Vec F S3072x768 .f32) (x6 : Vec F S1x768 .f32) (xt0 : TbBuf0 (F := F) c tbM0_0) (hc0 : cond0_0 i (word0 i xt0)) (hc1 : cond0_1 i (word1 i xt0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, ⌜Written (outBlock x0 x1 x2 x3 x4 x5 x6) X (cond0_0 i (word0 i xt0)) (cond0_1 i (word1 i xt0))⌝ ∗ owns (c : Thread nD τ) arg9 fullShare X) ∗ tbPt0 c tbM0_0 xt0) -∗ K ⟨⟩))
          ⊢ wp frame (wpE (defs₀ (F := F)) Variants.none c none) E (cc0_vit_mlp i tbM0_0 htbM0_0 arg2 harg2 arg3 harg3 arg4 harg4 arg5 harg5 arg6 harg6 arg7 harg7 arg8 harg8 arg9 harg9) K := by
    intro E K
    simp only [cc0_vit_mlp_eq_skeleton]; unfold cc0_vit_mlp_skel
    simp only [k0_part3_eq_skeleton, k0_part4_eq_skeleton, k0_part1_eq_skeleton, k0_part5_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap
      · iexists _; isplitr; swap; · iexact H7
        ipureintro; rfl
      ipureintro
      intro j hj
      refine View.read_writes_apply_of_pieces _ _ (outBlock x0 x1 x2 x3 x4 x5 x6) _ ?_ j ?_
      · intro p hp
        have hw : ∀ (s k : Fin 2) (off : Fin 3 → ℕ) (inb : ∀ a, off a + (![1, 128, 768] : Fin 3 → ℕ) a ≤ S2x256x768.size a)
            (h0 : off 0 = s.val) (h1 : off 1 = 128 * k.val) (h2 : off 2 = 0) (x : S1x128x768.Idx),
            tile (View.readAt (Elt F) arg2.view (Rect.unit (s := S2x256x768) off ![1, 128, 768] inb).toLoadRect (harg2.unread x0))
              (View.readAt (Elt F) arg3.view (Rect.unit (s := S1x768) ![0, 0] ![1, 768] inb_S1x768_S1x768_0_0).toLoadRect (harg3.unread x1))
              (View.readAt (Elt F) arg4.view (Rect.unit (s := S1x768) ![0, 0] ![1, 768] inb_S1x768_S1x768_0_0).toLoadRect (harg4.unread x2))
              (View.readAt (Elt F) arg5.view (Rect.unit (s := S768x3072) ![0, 0] ![768, 3072] inb_S768x3072_S768x3072_0_0).toLoadRect (harg5.unread x3))
              (View.readAt (Elt F) arg6.view (Rect.unit (s := S1x3072) ![0, 0] ![1, 3072] inb_S1x3072_S1x3072_0_0).toLoadRect (harg6.unread x4))
              (View.readAt (Elt F) arg7.view (Rect.unit (s := S3072x768) ![0, 0] ![3072, 768] inb_S3072x768_S3072x768_0_0).toLoadRect (harg7.unread x5))
              (View.readAt (Elt F) arg8.view (Rect.unit (s := S1x768) ![0, 0] ![1, 768] inb_S1x768_S1x768_0_0).toLoadRect (harg8.unread x6)) x
              = outBlock x0 x1 x2 x3 x4 x5 x6 ((Rect.unit (s := S2x256x768) off ![1, 128, 768] inb).emb x) := by
          intro s k off inb h0 h1 h2 x
          rw [load_rows harg2 x0 s k off inb h0 h1 h2, load_whole harg3, load_whole harg4, load_whole harg5, load_whole harg6,
            load_whole harg7, load_whole harg8]
          exact tile_emb x0 x1 x2 x3 x4 x5 x6 s k off inb h0 h1 h2 x
        simp only [List.mem_cons, List.not_mem_nil, or_false] at hp
        rcases hp with rfl | rfl | rfl | rfl
        · exact hw 1 1 ![1, 128, 0] inb_S2x256x768_S1x128x768_1_128_0 rfl rfl rfl
        · exact hw 1 0 ![1, 0, 0] inb_S2x256x768_S1x128x768_1_0_0 rfl rfl rfl
        · exact hw 0 1 ![0, 128, 0] inb_S2x256x768_S1x128x768_0_128_0 rfl rfl rfl
        · exact hw 0 0 ![0, 0, 0] inb_S2x256x768_S1x128x768_0_0_0 rfl rfl rfl
      · have hj0 : (j 0).val < 2 := (j 0).isLt
        have hj1 : (j 1).val < 256 := (j 1).isLt
        by_cases a0 : (j 0).val = 0
        · by_cases a1 : (j 1).val < 128
          · exact ⟨_, List.mem_cons_of_mem _ (List.mem_cons_of_mem _ (List.mem_cons_of_mem _ (List.mem_cons_self))), mem_tile 0 0 ![0, 0, 0] inb_S2x256x768_S1x128x768_0_0_0 rfl rfl rfl j (by simp; omega) (by simp; omega)⟩
          · exact ⟨_, List.mem_cons_of_mem _ (List.mem_cons_of_mem _ (List.mem_cons_self)), mem_tile 0 1 ![0, 128, 0] inb_S2x256x768_S1x128x768_0_128_0 rfl rfl rfl j (by simp; omega) (by simp; omega)⟩
        · by_cases a1 : (j 1).val < 128
          · exact ⟨_, List.mem_cons_of_mem _ (List.mem_cons_self), mem_tile 1 0 ![1, 0, 0] inb_S2x256x768_S1x128x768_1_0_0 rfl rfl rfl j (by simp; omega) (by simp; omega)⟩
          · exact ⟨_, List.mem_cons_self, mem_tile 1 1 ![1, 128, 0] inb_S2x256x768_S1x128x768_1_128_0 rfl rfl rfl j (by simp; omega) (by simp; omega)⟩
    iexact HT0

set_option maxHeartbeats 1600000 in
/-- The body in case B. -/
theorem body_B (c : Dev nD) (i : grid0.Coords) (arg2 : Memref sig .tc .vmem S2x256x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S768x3072 .f32) (harg5 : arg5.IsWhole) (arg6 : Memref sig .tc .vmem S1x3072 .f32) (harg6 : arg6.IsWhole) (arg7 : Memref sig .tc .vmem S3072x768 .f32) (harg7 : arg7.IsWhole) (arg8 : Memref sig .tc .vmem S1x768 .f32) (harg8 : arg8.IsWhole) (arg9 : Memref sig .tc .vmem S2x256x768 .f32) (harg9 : arg9.IsWhole)
    (x0 : Vec F S2x256x768 .f32) (x1 : Vec F S1x768 .f32) (x2 : Vec F S1x768 .f32) (x3 : Vec F S768x3072 .f32) (x4 : Vec F S1x3072 .f32) (x5 : Vec F S3072x768 .f32) (x6 : Vec F S1x768 .f32) (xt0 : TbBuf0 (F := F) c tbM0_0) (hc0 : cond0_0 i (word0 i xt0)) (hc1 : ¬ cond0_1 i (word1 i xt0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, ⌜Written (outBlock x0 x1 x2 x3 x4 x5 x6) X (cond0_0 i (word0 i xt0)) (cond0_1 i (word1 i xt0))⌝ ∗ owns (c : Thread nD τ) arg9 fullShare X) ∗ tbPt0 c tbM0_0 xt0) -∗ K ⟨⟩))
          ⊢ wp frame (wpE (defs₀ (F := F)) Variants.none c none) E (cc0_vit_mlp i tbM0_0 htbM0_0 arg2 harg2 arg3 harg3 arg4 harg4 arg5 harg5 arg6 harg6 arg7 harg7 arg8 harg8 arg9 harg9) K := by
    intro E K
    simp only [cc0_vit_mlp_eq_skeleton]; unfold cc0_vit_mlp_skel
    simp only [k0_part3_eq_skeleton, k0_part4_eq_skeleton, k0_part1_eq_skeleton, k0_part5_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap
      · iexists _; isplitr; swap; · iexact H7
        ipureintro; rfl
      ipureintro
      intro j hj
      refine View.read_writes_apply_of_pieces _ _ (outBlock x0 x1 x2 x3 x4 x5 x6) _ ?_ j ?_
      · intro p hp
        have hw : ∀ (s k : Fin 2) (off : Fin 3 → ℕ) (inb : ∀ a, off a + (![1, 128, 768] : Fin 3 → ℕ) a ≤ S2x256x768.size a)
            (h0 : off 0 = s.val) (h1 : off 1 = 128 * k.val) (h2 : off 2 = 0) (x : S1x128x768.Idx),
            tile (View.readAt (Elt F) arg2.view (Rect.unit (s := S2x256x768) off ![1, 128, 768] inb).toLoadRect (harg2.unread x0))
              (View.readAt (Elt F) arg3.view (Rect.unit (s := S1x768) ![0, 0] ![1, 768] inb_S1x768_S1x768_0_0).toLoadRect (harg3.unread x1))
              (View.readAt (Elt F) arg4.view (Rect.unit (s := S1x768) ![0, 0] ![1, 768] inb_S1x768_S1x768_0_0).toLoadRect (harg4.unread x2))
              (View.readAt (Elt F) arg5.view (Rect.unit (s := S768x3072) ![0, 0] ![768, 3072] inb_S768x3072_S768x3072_0_0).toLoadRect (harg5.unread x3))
              (View.readAt (Elt F) arg6.view (Rect.unit (s := S1x3072) ![0, 0] ![1, 3072] inb_S1x3072_S1x3072_0_0).toLoadRect (harg6.unread x4))
              (View.readAt (Elt F) arg7.view (Rect.unit (s := S3072x768) ![0, 0] ![3072, 768] inb_S3072x768_S3072x768_0_0).toLoadRect (harg7.unread x5))
              (View.readAt (Elt F) arg8.view (Rect.unit (s := S1x768) ![0, 0] ![1, 768] inb_S1x768_S1x768_0_0).toLoadRect (harg8.unread x6)) x
              = outBlock x0 x1 x2 x3 x4 x5 x6 ((Rect.unit (s := S2x256x768) off ![1, 128, 768] inb).emb x) := by
          intro s k off inb h0 h1 h2 x
          rw [load_rows harg2 x0 s k off inb h0 h1 h2, load_whole harg3, load_whole harg4, load_whole harg5, load_whole harg6,
            load_whole harg7, load_whole harg8]
          exact tile_emb x0 x1 x2 x3 x4 x5 x6 s k off inb h0 h1 h2 x
        simp only [List.mem_cons, List.not_mem_nil, or_false] at hp
        rcases hp with rfl | rfl | rfl
        · exact hw 1 0 ![1, 0, 0] inb_S2x256x768_S1x128x768_1_0_0 rfl rfl rfl
        · exact hw 0 1 ![0, 128, 0] inb_S2x256x768_S1x128x768_0_128_0 rfl rfl rfl
        · exact hw 0 0 ![0, 0, 0] inb_S2x256x768_S1x128x768_0_0_0 rfl rfl rfl
      · have hj0 : (j 0).val < 2 := (j 0).isLt
        have hj1 : (j 1).val < 256 := (j 1).isLt
        by_cases a0 : (j 0).val = 0
        · by_cases a1 : (j 1).val < 128
          · exact ⟨_, List.mem_cons_of_mem _ (List.mem_cons_of_mem _ (List.mem_cons_self)), mem_tile 0 0 ![0, 0, 0] inb_S2x256x768_S1x128x768_0_0_0 rfl rfl rfl j (by simp; omega) (by simp; omega)⟩
          · exact ⟨_, List.mem_cons_of_mem _ (List.mem_cons_self), mem_tile 0 1 ![0, 128, 0] inb_S2x256x768_S1x128x768_0_128_0 rfl rfl rfl j (by simp; omega) (by simp; omega)⟩
        · by_cases a1 : (j 1).val < 128
          · exact ⟨_, List.mem_cons_self, mem_tile 1 0 ![1, 0, 0] inb_S2x256x768_S1x128x768_1_0_0 rfl rfl rfl j (by simp; omega) (by simp; omega)⟩
          · exact absurd hj (by rintro (h | ⟨h, h'⟩ | ⟨h, h'⟩) <;> first | omega | exact hc1 h')
    iexact HT0

set_option maxHeartbeats 1600000 in
/-- The body in case C. -/
theorem body_C (c : Dev nD) (i : grid0.Coords) (arg2 : Memref sig .tc .vmem S2x256x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S768x3072 .f32) (harg5 : arg5.IsWhole) (arg6 : Memref sig .tc .vmem S1x3072 .f32) (harg6 : arg6.IsWhole) (arg7 : Memref sig .tc .vmem S3072x768 .f32) (harg7 : arg7.IsWhole) (arg8 : Memref sig .tc .vmem S1x768 .f32) (harg8 : arg8.IsWhole) (arg9 : Memref sig .tc .vmem S2x256x768 .f32) (harg9 : arg9.IsWhole)
    (x0 : Vec F S2x256x768 .f32) (x1 : Vec F S1x768 .f32) (x2 : Vec F S1x768 .f32) (x3 : Vec F S768x3072 .f32) (x4 : Vec F S1x3072 .f32) (x5 : Vec F S3072x768 .f32) (x6 : Vec F S1x768 .f32) (xt0 : TbBuf0 (F := F) c tbM0_0) (hc0 : ¬ cond0_0 i (word0 i xt0)) (hc1 : cond0_1 i (word1 i xt0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, ⌜Written (outBlock x0 x1 x2 x3 x4 x5 x6) X (cond0_0 i (word0 i xt0)) (cond0_1 i (word1 i xt0))⌝ ∗ owns (c : Thread nD τ) arg9 fullShare X) ∗ tbPt0 c tbM0_0 xt0) -∗ K ⟨⟩))
          ⊢ wp frame (wpE (defs₀ (F := F)) Variants.none c none) E (cc0_vit_mlp i tbM0_0 htbM0_0 arg2 harg2 arg3 harg3 arg4 harg4 arg5 harg5 arg6 harg6 arg7 harg7 arg8 harg8 arg9 harg9) K := by
    intro E K
    simp only [cc0_vit_mlp_eq_skeleton]; unfold cc0_vit_mlp_skel
    simp only [k0_part3_eq_skeleton, k0_part4_eq_skeleton, k0_part1_eq_skeleton, k0_part5_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap
      · iexists _; isplitr; swap; · iexact H7
        ipureintro; rfl
      ipureintro
      intro j hj
      refine View.read_writes_apply_of_pieces _ _ (outBlock x0 x1 x2 x3 x4 x5 x6) _ ?_ j ?_
      · intro p hp
        have hw : ∀ (s k : Fin 2) (off : Fin 3 → ℕ) (inb : ∀ a, off a + (![1, 128, 768] : Fin 3 → ℕ) a ≤ S2x256x768.size a)
            (h0 : off 0 = s.val) (h1 : off 1 = 128 * k.val) (h2 : off 2 = 0) (x : S1x128x768.Idx),
            tile (View.readAt (Elt F) arg2.view (Rect.unit (s := S2x256x768) off ![1, 128, 768] inb).toLoadRect (harg2.unread x0))
              (View.readAt (Elt F) arg3.view (Rect.unit (s := S1x768) ![0, 0] ![1, 768] inb_S1x768_S1x768_0_0).toLoadRect (harg3.unread x1))
              (View.readAt (Elt F) arg4.view (Rect.unit (s := S1x768) ![0, 0] ![1, 768] inb_S1x768_S1x768_0_0).toLoadRect (harg4.unread x2))
              (View.readAt (Elt F) arg5.view (Rect.unit (s := S768x3072) ![0, 0] ![768, 3072] inb_S768x3072_S768x3072_0_0).toLoadRect (harg5.unread x3))
              (View.readAt (Elt F) arg6.view (Rect.unit (s := S1x3072) ![0, 0] ![1, 3072] inb_S1x3072_S1x3072_0_0).toLoadRect (harg6.unread x4))
              (View.readAt (Elt F) arg7.view (Rect.unit (s := S3072x768) ![0, 0] ![3072, 768] inb_S3072x768_S3072x768_0_0).toLoadRect (harg7.unread x5))
              (View.readAt (Elt F) arg8.view (Rect.unit (s := S1x768) ![0, 0] ![1, 768] inb_S1x768_S1x768_0_0).toLoadRect (harg8.unread x6)) x
              = outBlock x0 x1 x2 x3 x4 x5 x6 ((Rect.unit (s := S2x256x768) off ![1, 128, 768] inb).emb x) := by
          intro s k off inb h0 h1 h2 x
          rw [load_rows harg2 x0 s k off inb h0 h1 h2, load_whole harg3, load_whole harg4, load_whole harg5, load_whole harg6,
            load_whole harg7, load_whole harg8]
          exact tile_emb x0 x1 x2 x3 x4 x5 x6 s k off inb h0 h1 h2 x
        simp only [List.mem_cons, List.not_mem_nil, or_false] at hp
        rcases hp with rfl | rfl | rfl
        · exact hw 1 1 ![1, 128, 0] inb_S2x256x768_S1x128x768_1_128_0 rfl rfl rfl
        · exact hw 1 0 ![1, 0, 0] inb_S2x256x768_S1x128x768_1_0_0 rfl rfl rfl
        · exact hw 0 0 ![0, 0, 0] inb_S2x256x768_S1x128x768_0_0_0 rfl rfl rfl
      · have hj0 : (j 0).val < 2 := (j 0).isLt
        have hj1 : (j 1).val < 256 := (j 1).isLt
        by_cases a0 : (j 0).val = 0
        · by_cases a1 : (j 1).val < 128
          · exact ⟨_, List.mem_cons_of_mem _ (List.mem_cons_of_mem _ (List.mem_cons_self)), mem_tile 0 0 ![0, 0, 0] inb_S2x256x768_S1x128x768_0_0_0 rfl rfl rfl j (by simp; omega) (by simp; omega)⟩
          · exact absurd hj (by rintro (h | ⟨h, h'⟩ | ⟨h, h'⟩) <;> first | omega | exact hc0 h')
        · by_cases a1 : (j 1).val < 128
          · exact ⟨_, List.mem_cons_of_mem _ (List.mem_cons_self), mem_tile 1 0 ![1, 0, 0] inb_S2x256x768_S1x128x768_1_0_0 rfl rfl rfl j (by simp; omega) (by simp; omega)⟩
          · exact ⟨_, List.mem_cons_self, mem_tile 1 1 ![1, 128, 0] inb_S2x256x768_S1x128x768_1_128_0 rfl rfl rfl j (by simp; omega) (by simp; omega)⟩
    iexact HT0

set_option maxHeartbeats 1600000 in
/-- The body in case D. -/
theorem body_D (c : Dev nD) (i : grid0.Coords) (arg2 : Memref sig .tc .vmem S2x256x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S768x3072 .f32) (harg5 : arg5.IsWhole) (arg6 : Memref sig .tc .vmem S1x3072 .f32) (harg6 : arg6.IsWhole) (arg7 : Memref sig .tc .vmem S3072x768 .f32) (harg7 : arg7.IsWhole) (arg8 : Memref sig .tc .vmem S1x768 .f32) (harg8 : arg8.IsWhole) (arg9 : Memref sig .tc .vmem S2x256x768 .f32) (harg9 : arg9.IsWhole)
    (x0 : Vec F S2x256x768 .f32) (x1 : Vec F S1x768 .f32) (x2 : Vec F S1x768 .f32) (x3 : Vec F S768x3072 .f32) (x4 : Vec F S1x3072 .f32) (x5 : Vec F S3072x768 .f32) (x6 : Vec F S1x768 .f32) (xt0 : TbBuf0 (F := F) c tbM0_0) (hc0 : ¬ cond0_0 i (word0 i xt0)) (hc1 : ¬ cond0_1 i (word1 i xt0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ X, ⌜Written (outBlock x0 x1 x2 x3 x4 x5 x6) X (cond0_0 i (word0 i xt0)) (cond0_1 i (word1 i xt0))⌝ ∗ owns (c : Thread nD τ) arg9 fullShare X) ∗ tbPt0 c tbM0_0 xt0) -∗ K ⟨⟩))
          ⊢ wp frame (wpE (defs₀ (F := F)) Variants.none c none) E (cc0_vit_mlp i tbM0_0 htbM0_0 arg2 harg2 arg3 harg3 arg4 harg4 arg5 harg5 arg6 harg6 arg7 harg7 arg8 harg8 arg9 harg9) K := by
    intro E K
    simp only [cc0_vit_mlp_eq_skeleton]; unfold cc0_vit_mlp_skel
    simp only [k0_part3_eq_skeleton, k0_part4_eq_skeleton, k0_part1_eq_skeleton, k0_part5_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap
      · iexists _; isplitr; swap; · iexact H7
        ipureintro; rfl
      ipureintro
      intro j hj
      refine View.read_writes_apply_of_pieces _ _ (outBlock x0 x1 x2 x3 x4 x5 x6) _ ?_ j ?_
      · intro p hp
        have hw : ∀ (s k : Fin 2) (off : Fin 3 → ℕ) (inb : ∀ a, off a + (![1, 128, 768] : Fin 3 → ℕ) a ≤ S2x256x768.size a)
            (h0 : off 0 = s.val) (h1 : off 1 = 128 * k.val) (h2 : off 2 = 0) (x : S1x128x768.Idx),
            tile (View.readAt (Elt F) arg2.view (Rect.unit (s := S2x256x768) off ![1, 128, 768] inb).toLoadRect (harg2.unread x0))
              (View.readAt (Elt F) arg3.view (Rect.unit (s := S1x768) ![0, 0] ![1, 768] inb_S1x768_S1x768_0_0).toLoadRect (harg3.unread x1))
              (View.readAt (Elt F) arg4.view (Rect.unit (s := S1x768) ![0, 0] ![1, 768] inb_S1x768_S1x768_0_0).toLoadRect (harg4.unread x2))
              (View.readAt (Elt F) arg5.view (Rect.unit (s := S768x3072) ![0, 0] ![768, 3072] inb_S768x3072_S768x3072_0_0).toLoadRect (harg5.unread x3))
              (View.readAt (Elt F) arg6.view (Rect.unit (s := S1x3072) ![0, 0] ![1, 3072] inb_S1x3072_S1x3072_0_0).toLoadRect (harg6.unread x4))
              (View.readAt (Elt F) arg7.view (Rect.unit (s := S3072x768) ![0, 0] ![3072, 768] inb_S3072x768_S3072x768_0_0).toLoadRect (harg7.unread x5))
              (View.readAt (Elt F) arg8.view (Rect.unit (s := S1x768) ![0, 0] ![1, 768] inb_S1x768_S1x768_0_0).toLoadRect (harg8.unread x6)) x
              = outBlock x0 x1 x2 x3 x4 x5 x6 ((Rect.unit (s := S2x256x768) off ![1, 128, 768] inb).emb x) := by
          intro s k off inb h0 h1 h2 x
          rw [load_rows harg2 x0 s k off inb h0 h1 h2, load_whole harg3, load_whole harg4, load_whole harg5, load_whole harg6,
            load_whole harg7, load_whole harg8]
          exact tile_emb x0 x1 x2 x3 x4 x5 x6 s k off inb h0 h1 h2 x
        simp only [List.mem_cons, List.not_mem_nil, or_false] at hp
        rcases hp with rfl | rfl
        · exact hw 1 0 ![1, 0, 0] inb_S2x256x768_S1x128x768_1_0_0 rfl rfl rfl
        · exact hw 0 0 ![0, 0, 0] inb_S2x256x768_S1x128x768_0_0_0 rfl rfl rfl
      · have hj0 : (j 0).val < 2 := (j 0).isLt
        have hj1 : (j 1).val < 256 := (j 1).isLt
        by_cases a0 : (j 0).val = 0
        · by_cases a1 : (j 1).val < 128
          · exact ⟨_, List.mem_cons_of_mem _ (List.mem_cons_self), mem_tile 0 0 ![0, 0, 0] inb_S2x256x768_S1x128x768_0_0_0 rfl rfl rfl j (by simp; omega) (by simp; omega)⟩
          · exact absurd hj (by rintro (h | ⟨h, h'⟩ | ⟨h, h'⟩) <;> first | omega | exact hc0 h')
        · by_cases a1 : (j 1).val < 128
          · exact ⟨_, List.mem_cons_self, mem_tile 1 0 ![1, 0, 0] inb_S2x256x768_S1x128x768_1_0_0 rfl rfl rfl j (by simp; omega) (by simp; omega)⟩
          · exact absurd hj (by rintro (h | ⟨h, h'⟩ | ⟨h, h'⟩) <;> first | omega | exact hc1 h')
    iexact HT0

end Cert.MlpIdeal.Run

end
-- ==== Proof.MlpRun.lean ====
/-
  The run of the MLP call's ideal program, at any float operations: every execution ends, with the arguments unchanged, every counter
  at zero, and the result array holding, on the rows that the call writes, one closed function of the arguments.
-/
module

public import proofs.«01_k».proof.Proof.MlpBody
public import Idealize.ShloMosaic.Lib.Pipeline.DatRel
public import Idealize.ShloMosaic.Lib.Pipeline.ArrRel
public import Idealize.ShloMosaic.Lib.Pipeline.ValueKit.Geometry

@[expose] public section

set_option maxRecDepth 16384

noncomputable section

namespace Cert.MlpIdeal.Run

open Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The window that is held to a relation: the output. -/
def marks : Fin 8 → Bool := fun w => w.val == 7

/-- The arrays as the region finds them; each input's buffer left at its block. -/
def prf (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
  Φ _ := iprop(Pipeline.ΦA spec0 c ∗ Pipeline.ΦT pre0 (tbl m) c)
  q _ := fullShare
  owed _ := 0

/-- The output block at a point, as a function of the input blocks there. -/
def blockAt (hO : Ok m) (c : Dev nD) (t : Fin (cfgM m hO).N) : Vec F S2x256x768 .f32 :=
  outBlock (iblk m hO c 0 t) (iblk m hO c 1 t) (iblk m hO c 2 t) (iblk m hO c 3 t) (iblk m hO c 4 t) (iblk m hO c 5 t) (iblk m hO c 6 t)

/-- What the output's staging buffer is held to after the body at a point. -/
def left (hO : Ok m) (c : Dev nD) (w : Fin (cfgM m hO).W) (t : Fin (cfgM m hO).N) : (((cfgM m hO).win w).block.Idx → Elt F ((cfgM m hO).win w).elt) → Prop :=
  match w with
  | ⟨7, _⟩ => fun X => Written (F := F) (blockAt m hO c t) X
      (cond0_0 (grid0.coords t) (word0 (grid0.coords t) (tbl m 0))) (cond0_1 (grid0.coords t) (word1 (grid0.coords t) (tbl m 0)))
  | _ => fun _ => True

theorem A_eq (hO : Ok m) (c : Dev nD) (w : Fin (cfgM m hO).W) : (prf m hO 0 c).A w = V m c (Pipeline.arrRef spec0 w) := by
  dsimp only [prf]

theorem keeps_0 (hO : Ok m) (c : Dev nD) (t : Fin (cfgM m hO).N) : (prf m hO 0 c).after 0 t = iblk m hO c 0 t := by dsimp only [prf]; try rfl
theorem keeps_1 (hO : Ok m) (c : Dev nD) (t : Fin (cfgM m hO).N) : (prf m hO 0 c).after 1 t = iblk m hO c 1 t := by dsimp only [prf]; try rfl
theorem keeps_2 (hO : Ok m) (c : Dev nD) (t : Fin (cfgM m hO).N) : (prf m hO 0 c).after 2 t = iblk m hO c 2 t := by dsimp only [prf]; try rfl
theorem keeps_3 (hO : Ok m) (c : Dev nD) (t : Fin (cfgM m hO).N) : (prf m hO 0 c).after 3 t = iblk m hO c 3 t := by dsimp only [prf]; try rfl
theorem keeps_4 (hO : Ok m) (c : Dev nD) (t : Fin (cfgM m hO).N) : (prf m hO 0 c).after 4 t = iblk m hO c 4 t := by dsimp only [prf]; try rfl
theorem keeps_5 (hO : Ok m) (c : Dev nD) (t : Fin (cfgM m hO).N) : (prf m hO 0 c).after 5 t = iblk m hO c 5 t := by dsimp only [prf]; try rfl
theorem keeps_6 (hO : Ok m) (c : Dev nD) (t : Fin (cfgM m hO).N) : (prf m hO 0 c).after 6 t = iblk m hO c 6 t := by dsimp only [prf]; try rfl
theorem finds_0 (hO : Ok m) (c : Dev nD) (t : Fin (cfgM m hO).N) (d) : (prf m hO 0 c).before 0 t d = iblk m hO c 0 t :=
  finds_of_0 m hO (prf m hO 0 c) (A_eq m hO c 0) (keeps_0 m hO c) t d
theorem finds_1 (hO : Ok m) (c : Dev nD) (t : Fin (cfgM m hO).N) (d) : (prf m hO 0 c).before 1 t d = iblk m hO c 1 t :=
  finds_of_1 m hO (prf m hO 0 c) (A_eq m hO c 1) (keeps_1 m hO c) t d
theorem finds_2 (hO : Ok m) (c : Dev nD) (t : Fin (cfgM m hO).N) (d) : (prf m hO 0 c).before 2 t d = iblk m hO c 2 t :=
  finds_of_2 m hO (prf m hO 0 c) (A_eq m hO c 2) (keeps_2 m hO c) t d
theorem finds_3 (hO : Ok m) (c : Dev nD) (t : Fin (cfgM m hO).N) (d) : (prf m hO 0 c).before 3 t d = iblk m hO c 3 t :=
  finds_of_3 m hO (prf m hO 0 c) (A_eq m hO c 3) (keeps_3 m hO c) t d
theorem finds_4 (hO : Ok m) (c : Dev nD) (t : Fin (cfgM m hO).N) (d) : (prf m hO 0 c).before 4 t d = iblk m hO c 4 t :=
  finds_of_4 m hO (prf m hO 0 c) (A_eq m hO c 4) (keeps_4 m hO c) t d
theorem finds_5 (hO : Ok m) (c : Dev nD) (t : Fin (cfgM m hO).N) (d) : (prf m hO 0 c).before 5 t d = iblk m hO c 5 t :=
  finds_of_5 m hO (prf m hO 0 c) (A_eq m hO c 5) (keeps_5 m hO c) t d
theorem finds_6 (hO : Ok m) (c : Dev nD) (t : Fin (cfgM m hO).N) (d) : (prf m hO 0 c).before 6 t d = iblk m hO c 6 t :=
  finds_of_6 m hO (prf m hO 0 c) (A_eq m hO c 6) (keeps_6 m hO c) t d

/-! ## The body obligation -/

/-- What the body is called with at a point, -/
def called (hO : Ok m) (c : Dev nD) (t : Fin (cfgM m hO).N) : sProp 𝕄 :=
  iprop((prf m hO 0 c).Φ t.castSucc ∗ (prf m hO 0 c).owesAt () t.castSucc
    ∗ (∃ d, owns (c : Thread nD τ) (ms0_0 m hO t) fullShare ((prf m hO 0 c).before 0 t d))
    ∗ (∃ d, owns (c : Thread nD τ) (ms0_1 m hO t) fullShare ((prf m hO 0 c).before 1 t d))
    ∗ (∃ d, owns (c : Thread nD τ) (ms0_2 m hO t) fullShare ((prf m hO 0 c).before 2 t d))
    ∗ (∃ d, owns (c : Thread nD τ) (ms0_3 m hO t) fullShare ((prf m hO 0 c).before 3 t d))
    ∗ (∃ d, owns (c : Thread nD τ) (ms0_4 m hO t) fullShare ((prf m hO 0 c).before 4 t d))
    ∗ (∃ d, owns (c : Thread nD τ) (ms0_5 m hO t) fullShare ((prf m hO 0 c).before 5 t d))
    ∗ (∃ d, owns (c : Thread nD τ) (ms0_6 m hO t) fullShare ((prf m hO 0 c).before 6 t d))
    ∗ (∃ d, owns (c : Thread nD τ) (ms0_7 m hO t) fullShare d))

/-- and what it returns. -/
def returned (hO : Ok m) (c : Dev nD) (t : Fin (cfgM m hO).N) : sProp 𝕄 :=
  iprop((prf m hO 0 c).Φ t.succ ∗ (prf m hO 0 c).owesAt () t.succ
    ∗ owns (c : Thread nD τ) (ms0_0 m hO t) fullShare ((prf m hO 0 c).after 0 t)
    ∗ owns (c : Thread nD τ) (ms0_1 m hO t) fullShare ((prf m hO 0 c).after 1 t)
    ∗ owns (c : Thread nD τ) (ms0_2 m hO t) fullShare ((prf m hO 0 c).after 2 t)
    ∗ owns (c : Thread nD τ) (ms0_3 m hO t) fullShare ((prf m hO 0 c).after 3 t)
    ∗ owns (c : Thread nD τ) (ms0_4 m hO t) fullShare ((prf m hO 0 c).after 4 t)
    ∗ owns (c : Thread nD τ) (ms0_5 m hO t) fullShare ((prf m hO 0 c).after 5 t)
    ∗ owns (c : Thread nD τ) (ms0_6 m hO t) fullShare ((prf m hO 0 c).after 6 t)
    ∗ (∃ X, ⌜left m hO c 7 t X⌝ ∗ owns (c : Thread nD τ) (ms0_7 m hO t) fullShare X))

set_option maxHeartbeats 3200000 in
/-- The body at any point, its four cases. -/
theorem body_triple (hO : Ok m) (c : Dev nD) (t : Fin (cfgM m hO).N) :
    called m hO c t ⊢ wp frame (wpE (defs₀ (F := F)) Variants.none c none) Set.univ (bodyAt0 (adm m hO) t) (fun _ => returned m hO c t) := by
  unfold called returned bodyAt0
  simp only [finds_0, finds_1, finds_2, finds_3, finds_4, finds_5, finds_6]
  rw [show (prf m hO 0 c).Φ t.succ = (prf m hO 0 c).Φ t.castSucc from rfl,
    show (prf m hO 0 c).owesAt () t.succ = (prf m hO 0 c).owesAt () t.castSucc from rfl,
    keeps_0, keeps_1, keeps_2, keeps_3, keeps_4, keeps_5, keeps_6]
  rw [show (prf m hO 0 c).Φ t.castSucc = iprop(Pipeline.ΦA spec0 c ∗ Pipeline.ΦT pre0 (tbl m) c) from rfl, PhiT0_eq]
  by_cases h0 : cond0_0 (grid0.coords t) (word0 (grid0.coords t) (tbl m 0))
  · by_cases h1 : cond0_1 (grid0.coords t) (word1 (grid0.coords t) (tbl m 0))
    · skip
      iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_A c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) h0 h1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HT0]; · iexact HT0
      iintro ⟨H0, H1, H2, H3, H4, H5, H6, H7, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · skip
      iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_B c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) h0 h1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HT0]; · iexact HT0
      iintro ⟨H0, H1, H2, H3, H4, H5, H6, H7, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
  · by_cases h1 : cond0_1 (grid0.coords t) (word1 (grid0.coords t) (tbl m 0))
    · skip
      iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_C c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) h0 h1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HT0]; · iexact HT0
      iintro ⟨H0, H1, H2, H3, H4, H5, H6, H7, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · skip
      iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (body_D c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) h0 h1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HT0]; · iexact HT0
      iintro ⟨H0, H1, H2, H3, H4, H5, H6, H7, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at a point's slots. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's relational body obligation, from the triple. -/
theorem obligation (hO : Ok m) (c : Dev nD) :
    BodyObligationRel (prf (F := F) m hO 0 c) (defs₀ (F := F)) Variants.none () Set.univ marks (left m hO c) := fun t => by
  rw [bigSep_W0, bigSep_W0, defs₀_row m hO]
  refine triple_restated (body_triple m hO c t) ?_ ?_ fun _ => .rfl
  · rfl
  · show iprop((prf m hO 0 c).Φ t.castSucc ∗ (prf m hO 0 c).owesAt () t.castSucc
      ∗ (∃ d, owns (c : Thread nD τ) (ms0_0 m hO t) fullShare ((prf m hO 0 c).before 0 t d))
      ∗ (∃ d, owns (c : Thread nD τ) (ms0_1 m hO t) fullShare ((prf m hO 0 c).before 1 t d))
      ∗ (∃ d, owns (c : Thread nD τ) (ms0_2 m hO t) fullShare ((prf m hO 0 c).before 2 t d))
      ∗ (∃ d, owns (c : Thread nD τ) (ms0_3 m hO t) fullShare ((prf m hO 0 c).before 3 t d))
      ∗ (∃ d, owns (c : Thread nD τ) (ms0_4 m hO t) fullShare ((prf m hO 0 c).before 4 t d))
      ∗ (∃ d, owns (c : Thread nD τ) (ms0_5 m hO t) fullShare ((prf m hO 0 c).before 5 t d))
      ∗ (∃ d, owns (c : Thread nD τ) (ms0_6 m hO t) fullShare ((prf m hO 0 c).before 6 t d))
      ∗ (∃ Y, ⌜((prf m hO 0 c).toRRel marks (left m hO c)).Finds 7 t Y⌝ ∗ owns (c : Thread nD τ) (ms0_7 m hO t) fullShare Y)) ⊢ _
    iintro ⟨HΦ, Ho, H0, H1, H2, H3, H4, H5, H6, ⟨%Y, -, H7⟩⟩
    unfold called
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7

/-! ## The launch -/

set_option backward.isDefEq.respectTransparency.types false in
/-- The launch: the arrays' final contents under the relation, and every counter at zero. -/
theorem launched (hO : Ok m) : θ_run defs (onTc (τ := τ) (main (F := F))) (s₀ m ρ) (fun r =>
    (Pipeline.RDat.FramePost ((Pipeline.pin pcfgs fun _ => adm m hO) 0) (fun c => (prf m hO 0 c).toRRel marks (left m hO c)) (V m)) r ∧ r.2.sem = fun _ => 0) :=
  Pipeline.RDat.θ_run_frameP (Q' := _) pcfgs (fun _ => adm m hO) (0 : Fin 1) launch0 defs₀ Variants.none
    (fun c => (prf m hO 0 c).toRRel marks (left m hO c)) m ρ main
    (hbody := fun c => (obligation m hO c).toRRel) (hshare := fun c => (prf m hO 0 c).share_full fun _ => rfl)
    (howed := fun _ _ => rfl) (V := V m) (hmain := hmain m Variants.none) (hA := A_eq m hO) (hpf := V_pre m) (hΦ := fun _ _ => rfl)

/-! ## The blocks, as functions of the arguments -/

/-- The 128 rows of tile `k` of sample `s`. -/
def rowsAll (x : Vec F S64x256x768 .f32) (s : Fin 64) (k : Fin 2) : Vec F S1x128x768 .f32 :=
  fun j => x (ix3 s ⟨128 * k.val + (j 1).val, by have := (j 1).isLt; have := k.isLt; simp at *; omega⟩ (j 2))

/-- The result where the call writes it, as a function of the arguments. -/
def outAll (x : Vec F S64x256x768 .f32) (g b : Vec F S768 .f32) (w1 : Vec F S768x3072 .f32) (b1 : Vec F S3072 .f32)
    (w2 : Vec F S3072x768 .f32) (b2 : Vec F S768 .f32) : Vec F S64x256x768 .f32 :=
  fun i => tile (rowsAll x (i 0) ⟨(i 1).val / 128, by have := (i 1).isLt; simp at *; omega⟩)
    (shapeCast S1x768 g shapeCasts_S768_S1x768) (shapeCast S1x768 b shapeCasts_S768_S1x768) w1
    (shapeCast S1x3072 b1 shapeCasts_S3072_S1x3072) w2 (shapeCast S1x768 b2 shapeCasts_S768_S1x768)
    (ix3 0 ⟨(i 1).val % 128, Nat.mod_lt _ (by decide)⟩ (i 2))

theorem V_v0 (c : Dev nD) : V m c main_v0 = shapeCast S1x768 (m ((c : Thread nD τ).loc main_arg2)) shapeCasts_S768_S1x768 := by
  show StableHlo.after hostOps0 _ (Proc.devRef .tc main_v0) = _
  after_results
  rfl
theorem V_v1 (c : Dev nD) : V m c main_v1 = shapeCast S1x768 (m ((c : Thread nD τ).loc main_arg3)) shapeCasts_S768_S1x768 := by
  show StableHlo.after hostOps0 _ (Proc.devRef .tc main_v1) = _
  after_results
  rfl
theorem V_v2 (c : Dev nD) : V m c main_v2 = shapeCast S1x3072 (m ((c : Thread nD τ).loc main_arg5)) shapeCasts_S3072_S1x3072 := by
  show StableHlo.after hostOps0 _ (Proc.devRef .tc main_v2) = _
  after_results
  rfl
theorem V_v3 (c : Dev nD) : V m c main_v3 = shapeCast S1x768 (m ((c : Thread nD τ).loc main_arg7)) shapeCasts_S768_S1x768 := by
  show StableHlo.after hostOps0 _ (Proc.devRef .tc main_v3) = _
  after_results
  rfl

/-- The block index of the two moving windows at a point is the point. -/
theorem idx_moving : ∀ t : Fin grid0.N, cc0_transform_0 (grid0.coords t) = ![t.val, 0, 0] := by decide +kernel
theorem idx_out : ∀ t : Fin grid0.N, cc0_transform_7 (grid0.coords t) = ![t.val, 0, 0] := by decide +kernel
theorem coord_eq : ∀ t : Fin grid0.N, (grid0.coords t 0).val = t.val := by decide +kernel

theorem idx_1 : ∀ t : Fin grid0.N, cc0_transform_1 (grid0.coords t) = ![0, 0] := by decide +kernel
theorem iblk_1 (hO : Ok m) (c : Dev nD) (t : Fin (cfgM m hO).N) : iblk m hO c 1 t = V m c main_v0 := by
  funext j
  show V m c main_v0 ((((cfgM m hO).win 1).blk t).view.emb j) = _
  refine congrArg (V m c main_v0) (funext fun a => Fin.ext ?_)
  show cc0_transform_1 (grid0.coords t) a * S1x768.size a + 1 * (j a).val = (j a).val
  rw [idx_1 t]
  fin_cases a <;> simp

theorem idx_2 : ∀ t : Fin grid0.N, cc0_transform_2 (grid0.coords t) = ![0, 0] := by decide +kernel
theorem iblk_2 (hO : Ok m) (c : Dev nD) (t : Fin (cfgM m hO).N) : iblk m hO c 2 t = V m c main_v1 := by
  funext j
  show V m c main_v1 ((((cfgM m hO).win 2).blk t).view.emb j) = _
  refine congrArg (V m c main_v1) (funext fun a => Fin.ext ?_)
  show cc0_transform_2 (grid0.coords t) a * S1x768.size a + 1 * (j a).val = (j a).val
  rw [idx_2 t]
  fin_cases a <;> simp

theorem idx_3 : ∀ t : Fin grid0.N, cc0_transform_3 (grid0.coords t) = ![0, 0] := by decide +kernel
theorem iblk_3 (hO : Ok m) (c : Dev nD) (t : Fin (cfgM m hO).N) : iblk m hO c 3 t = V m c main_arg4 := by
  funext j
  show V m c main_arg4 ((((cfgM m hO).win 3).blk t).view.emb j) = _
  refine congrArg (V m c main_arg4) (funext fun a => Fin.ext ?_)
  show cc0_transform_3 (grid0.coords t) a * S768x3072.size a + 1 * (j a).val = (j a).val
  rw [idx_3 t]
  fin_cases a <;> simp

theorem idx_4 : ∀ t : Fin grid0.N, cc0_transform_4 (grid0.coords t) = ![0, 0] := by decide +kernel
theorem iblk_4 (hO : Ok m) (c : Dev nD) (t : Fin (cfgM m hO).N) : iblk m hO c 4 t = V m c main_v2 := by
  funext j
  show V m c main_v2 ((((cfgM m hO).win 4).blk t).view.emb j) = _
  refine congrArg (V m c main_v2) (funext fun a => Fin.ext ?_)
  show cc0_transform_4 (grid0.coords t) a * S1x3072.size a + 1 * (j a).val = (j a).val
  rw [idx_4 t]
  fin_cases a <;> simp

theorem idx_5 : ∀ t : Fin grid0.N, cc0_transform_5 (grid0.coords t) = ![0, 0] := by decide +kernel
theorem iblk_5 (hO : Ok m) (c : Dev nD) (t : Fin (cfgM m hO).N) : iblk m hO c 5 t = V m c main_arg6 := by
  funext j
  show V m c main_arg6 ((((cfgM m hO).win 5).blk t).view.emb j) = _
  refine congrArg (V m c main_arg6) (funext fun a => Fin.ext ?_)
  show cc0_transform_5 (grid0.coords t) a * S3072x768.size a + 1 * (j a).val = (j a).val
  rw [idx_5 t]
  fin_cases a <;> simp

theorem idx_6 : ∀ t : Fin grid0.N, cc0_transform_6 (grid0.coords t) = ![0, 0] := by decide +kernel
theorem iblk_6 (hO : Ok m) (c : Dev nD) (t : Fin (cfgM m hO).N) : iblk m hO c 6 t = V m c main_v3 := by
  funext j
  show V m c main_v3 ((((cfgM m hO).win 6).blk t).view.emb j) = _
  refine congrArg (V m c main_v3) (funext fun a => Fin.ext ?_)
  show cc0_transform_6 (grid0.coords t) a * S1x768.size a + 1 * (j a).val = (j a).val
  rw [idx_6 t]
  fin_cases a <;> simp

/-- Window 0's block, at coordinates. -/
theorem iblk_0 (hO : Ok m) (c : Dev nD) (t : Fin (cfgM m hO).N) (j : S2x256x768.Idx) :
    iblk m hO c 0 t j = V m c main_arg1 (ix3 ⟨2 * t.val + (j 0).val, by
      have h := t.isLt; have h2 : (cfgM m hO).N = 32 := N_0; have := (j 0).isLt; simp at *; omega⟩ (j 1) (j 2)) := by
  show V m c main_arg1 ((((cfgM m hO).win 0).blk t).view.emb j) = _
  refine congrArg (V m c main_arg1) (funext fun a => Fin.ext ?_)
  show cc0_transform_0 (grid0.coords t) a * S2x256x768.size a + 1 * (j a).val = _
  rw [idx_moving t]
  fin_cases a
  · show t.val * 2 + 1 * (j 0).val = 2 * t.val + (j 0).val
    omega
  · show 0 * 256 + 1 * (j 1).val = (j 1).val
    omega
  · show 0 * 768 + 1 * (j 2).val = (j 2).val
    omega

/-- The output block at coordinates is the closed function of the arguments. -/
theorem blockAt_eq (hO : Ok m) (c : Dev nD) (t : Fin (cfgM m hO).N) (j : S2x256x768.Idx) (i : S64x256x768.Idx)
    (h0 : (i 0).val = 2 * t.val + (j 0).val) (h1 : (i 1).val = (j 1).val) (h2 : (i 2).val = (j 2).val) :
    blockAt m hO c t j = outAll (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) i := by
  obtain ⟨s, hs⟩ : ∃ s : Fin 64, s.val = 2 * t.val + (j 0).val := ⟨i 0, h0⟩
  have hi : i = ix3 s (j 1) (j 2) := by
    funext a
    fin_cases a
    · exact Fin.ext (h0.trans hs.symm)
    · exact Fin.ext h1
    · exact Fin.ext h2
  subst hi
  unfold blockAt outBlock outAll
  rw [iblk_1, iblk_2, iblk_3, iblk_4, iblk_5, iblk_6, V_v0, V_v1, V_v2, V_v3,
    V_of_mem m c main_arg4 (by decide), V_of_mem m c main_arg6 (by decide)]
  have hr : ∀ k : Fin 2, rowsOf (iblk m hO c 0 t) (j 0) k = rowsAll (m ((c : Thread nD τ).loc main_arg1)) s k := by
    intro k
    funext y
    unfold rowsOf rowsAll
    rw [iblk_0, V_of_mem m c main_arg1 (by decide)]
    refine congrArg _ (funext fun a => Fin.ext ?_)
    fin_cases a
    · exact hs.symm
    · rfl
    · rfl
  rw [hr]

theorem off1_eq : ∀ t : Fin grid0.N, k0_off1 (grid0.coords t) = ![2 * t.val] := by decide +kernel
theorem off2_eq : ∀ t : Fin grid0.N, k0_off2 (grid0.coords t) = ![2 * t.val + 1] := by decide +kernel

/-- A table word, at the coordinate. -/
theorem word0_eq (t : Fin grid0.N) (x : Vec F S64 .i32) (i : S64.Idx) (hi : (i 0).val = 2 * t.val) : word0 (grid0.coords t) x = x i := by
  unfold word0
  rw [View.readAt_apply]
  show x _ = x i
  refine congrArg x (funext fun a => Fin.ext ?_)
  fin_cases a
  show k0_off1 (grid0.coords t) 0 + 1 * 0 = (i 0).val
  rw [off1_eq, hi]
  rfl
theorem word1_eq (t : Fin grid0.N) (x : Vec F S64 .i32) (i : S64.Idx) (hi : (i 0).val = 2 * t.val + 1) : word1 (grid0.coords t) x = x i := by
  unfold word1
  rw [View.readAt_apply]
  show x _ = x i
  refine congrArg x (funext fun a => Fin.ext ?_)
  fin_cases a
  show k0_off2 (grid0.coords t) 0 + 1 * 0 = (i 0).val
  rw [off2_eq, hi]
  rfl

theorem cond_of_slt (i : grid0.Coords) {v : BitVec 32} (h : BitVec.slt 1#32 v = true) : cond0_0 i v := by
  unfold cond0_0
  revert h
  generalize hv : BitVec.slt 1#32 v = q
  intro h
  subst h
  show (IntOp.cmpi .ne ((IntOp.cmpi .sgt v 1#32).setWidth 32) 0#32) = 1#1
  have : IntOp.cmpi .sgt v 1#32 = 1#1 := by
    show BitVec.ofBool (BitVec.slt 1#32 v) = 1#1
    rw [hv]; rfl
  rw [this]; decide

/-- Every point writes its block back. -/
theorem flush_out (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)

/-! ## The result array -/

/-- What the run leaves in the result, on the rows that the call writes. -/
theorem result_of (hO : Ok m) (r : PUnit × MemSt nD τ sig (Elt F))
    (h : (Pipeline.RDat.FramePost ((Pipeline.pin pcfgs fun _ => adm m hO) 0) (fun c => (prf m hO 0 c).toRRel marks (left m hO c)) (V m)) r)
    (c : Dev nD) (i : S64x256x768.Idx)
    (hi : (i 1).val < 128 ∨ BitVec.slt 1#32 (m ((c : Thread nD τ).loc main_arg0) (ix1 (i 0) : S64.Idx)) = true) :
    r.2.mem ((c : Thread nD τ).loc main_v4) i
      = outAll (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) i := by
  obtain ⟨after, hL, hA⟩ := Pipeline.RDat.FramePost.exists_exact h c
  have hw := hA (7 : Fin 8)
  refine (congrFun hw i).trans ?_
  revert hi
  refine Dat.arrAt_forall_of_cover (((prf m hO 0 c).toRRel marks (left m hO c)).withAfter after) (7 : Fin 8)
    (fun (i : S64x256x768.Idx) v => ((i 1).val < 128 ∨ BitVec.slt 1#32 (m ((c : Thread nD τ).loc main_arg0) (ix1 (i 0) : S64.Idx)) = true) →
      v = outAll (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) i)
    ?_ ?_ i
  · intro t hf y hi
    have hl : Written (F := F) (blockAt m hO c t) (after 7 t)
        (cond0_0 (grid0.coords t) (word0 (grid0.coords t) (tbl m 0))) (cond0_1 (grid0.coords t) (word1 (grid0.coords t) (tbl m 0))) :=
      (prf m hO 0 c).toRRel_leaves rfl (hL (7 : Fin 8) t hf)
    have e : ∀ a : Fin 3, (((((cfgM m hO).win 7).blk t).view.emb y) a).val = (![t.val, 0, 0] : Fin 3 → ℕ) a * S2x256x768.size a + 1 * (y a).val := by
      intro a
      show cc0_transform_7 (grid0.coords t) a * S2x256x768.size a + 1 * (y a).val = _
      rw [idx_out t]
    have e0 : (((((cfgM m hO).win 7).blk t).view.emb y) (0 : Fin 3)).val = 2 * t.val + (y (0 : Fin 3)).val := by
      rw [e]; show t.val * 2 + 1 * _ = _; omega
    have e1 : (((((cfgM m hO).win 7).blk t).view.emb y) (1 : Fin 3)).val = (y (1 : Fin 3)).val := by
      rw [e]; show 0 * 256 + 1 * _ = _; omega
    have e2 : (((((cfgM m hO).win 7).blk t).view.emb y) (2 : Fin 3)).val = (y (2 : Fin 3)).val := by
      rw [e]; show 0 * 768 + 1 * _ = _; omega
    have key : ∀ z : S64x256x768.Idx, (z 0).val = 2 * t.val + (y (0 : Fin 3)).val → (z 1).val = (y (1 : Fin 3)).val → (z 2).val = (y (2 : Fin 3)).val →
        ((z 1).val < 128 ∨ BitVec.slt 1#32 (m ((c : Thread nD τ).loc main_arg0) (ix1 (z 0) : S64.Idx)) = true) →
        after 7 t y = outAll (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) z := by
      intro z e0 e1 e2 hi
      have ht : tbl m 0 = m ((c : Thread nD τ).loc main_arg0) := by
        rw [← V_pre m c 0]; exact V_of_mem m c main_arg0 (by decide)
      refine (hl y ?_).trans (blockAt_eq m hO c t y z e0 e1 e2)
      rcases hi with hi | hi
      · exact .inl (e1 ▸ hi)
      · refine .inr ?_
        have hy : (y (0 : Fin 3)).val < 2 := (y (0 : Fin 3)).isLt
        rcases Nat.lt_or_ge (y (0 : Fin 3)).val 1 with h' | h'
        · refine .inl ⟨by omega, ?_⟩
          rw [word0_eq t (tbl m 0) (ix1 (z 0)) (by show (z 0).val = _; rw [e0]; omega), ht]
          exact cond_of_slt (grid0.coords t) hi
        · refine .inr ⟨by omega, ?_⟩
          rw [word1_eq t (tbl m 0) (ix1 (z 0)) (by show (z 0).val = _; rw [e0]; omega), ht]
          exact cond_of_slt (grid0.coords t) hi
    exact key _ e0 e1 e2 hi
  · intro i
    have hi0 : (i (0 : Fin 3)).val < 64 := (i (0 : Fin 3)).isLt
    let t : Fin (cfgM m hO).N := ⟨(i (0 : Fin 3)).val / 2, by
      have h2 : (cfgM m hO).N = 32 := N_0
      omega⟩
    refine ⟨t, flush_out _ t, ?_⟩
    let y : S2x256x768.Idx := ix3 ⟨(i (0 : Fin 3)).val % 2, Nat.mod_lt _ (by decide)⟩ (i (1 : Fin 3)) (i (2 : Fin 3))
    have he : (((cfgM m hO).win 7).blk t).view.emb y = i := by
      funext a
      refine Fin.ext ?_
      show cc0_transform_7 (grid0.coords t) a * S2x256x768.size a + 1 * (y a).val = _
      rw [idx_out t]
      match a with
      | ⟨0, _⟩ => show (i (0 : Fin 3)).val / 2 * 2 + 1 * ((i (0 : Fin 3)).val % 2) = (i (0 : Fin 3)).val; omega
      | ⟨1, _⟩ => show 0 * 256 + 1 * (i (1 : Fin 3)).val = (i (1 : Fin 3)).val; omega
      | ⟨2, _⟩ => show 0 * 768 + 1 * (i (2 : Fin 3)).val = (i (2 : Fin 3)).val; omega
    rw [← he]
    exact Finset.mem_map_of_mem _ (Finset.mem_univ y)

/-! ## The run -/

theorem ok : Ok m := trivial

/-- The arguments end as they began. -/
def Unchanged (c : Dev nD) (r : PUnit × MemSt nD τ sig (Elt F)) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)

theorem unchanged_of (hO : Ok m) (r : PUnit × MemSt nD τ sig (Elt F))
    (h : (Pipeline.RDat.FramePost ((Pipeline.pin pcfgs fun _ => adm m hO) 0) (fun c => (prf m hO 0 c).toRRel marks (left m hO c)) (V m)) r)
    (c : Dev nD) : Unchanged m c r :=
  ⟨((h c).2 main_arg0 (by decide : main_arg0 ∈ Pipeline.restRefs sig spec0)).trans (V_of_mem m c main_arg0 (by decide)),
    (Pipeline.RDat.FramePost.arr_in h c 0 rfl).trans ((A_eq m hO c 0).trans (V_of_mem m c main_arg1 (by decide))),
    ((h c).2 main_arg2 (by decide : main_arg2 ∈ Pipeline.restRefs sig spec0)).trans (V_of_mem m c main_arg2 (by decide)),
    ((h c).2 main_arg3 (by decide : main_arg3 ∈ Pipeline.restRefs sig spec0)).trans (V_of_mem m c main_arg3 (by decide)),
    (Pipeline.RDat.FramePost.arr_in h c 3 rfl).trans ((A_eq m hO c 3).trans (V_of_mem m c main_arg4 (by decide))),
    ((h c).2 main_arg5 (by decide : main_arg5 ∈ Pipeline.restRefs sig spec0)).trans (V_of_mem m c main_arg5 (by decide)),
    (Pipeline.RDat.FramePost.arr_in h c 5 rfl).trans ((A_eq m hO c 5).trans (V_of_mem m c main_arg6 (by decide))),
    ((h c).2 main_arg7 (by decide : main_arg7 ∈ Pipeline.restRefs sig spec0)).trans (V_of_mem m c main_arg7 (by decide))⟩

/-- The run: the written rows of the result are the closed function of the arguments; the arguments are unchanged; the counters are zero. -/
theorem run : θ_run defs (onTc (τ := τ) (main (F := F))) (s₀ m ρ) (fun r =>
    (∀ c : Dev nD, (∀ i : S64x256x768.Idx,
        ((i 1).val < 128 ∨ BitVec.slt 1#32 (m ((c : Thread nD τ).loc main_arg0) (ix1 (i 0) : S64.Idx)) = true) →
        r.2.mem ((c : Thread nD τ).loc main_v4) i
          = outAll (m ((c : Thread nD τ).loc main_arg1)) (m ((c : Thread nD τ).loc main_arg2)) (m ((c : Thread nD τ).loc main_arg3))
            (m ((c : Thread nD τ).loc main_arg4)) (m ((c : Thread nD τ).loc main_arg5)) (m ((c : Thread nD τ).loc main_arg6)) (m ((c : Thread nD τ).loc main_arg7)) i)
      ∧ Unchanged m c r)
    ∧ r.2.sem = fun _ => 0) :=
  (θ_run defs _ _).mono (fun r h => ⟨fun c => ⟨fun i hi => result_of m (ok m) r h.1 c i hi, unchanged_of m (ok m) r h.1 c⟩, h.2⟩)
    (launched m ρ (ok m))

end Cert.MlpIdeal.Run

end
-- ==== Proof.MlpPure.lean ====
/-
  The MLP call, value side, on the extended reals: a tile the kernel stores and the reference are both `Rows.mlp`, row by row.
-/
module

public import proofs.«01_k».proof.Proof.MlpRun
public import proofs.«01_k».proof.Proof.Rows
public import proofs.«01_k».proof.Proof.Gen.MlpRefIdeal.Read

@[expose] public section

set_option maxRecDepth 16384

noncomputable section

namespace Cert.MlpPure

open Idealize.ShloMosaic

section Kernel
open Cert.MlpIdeal Cert.MlpIdeal.Gen

/-- The kernel's hidden layer. -/
theorem kernel_hidden (x : Vec Ideal S1x128x768 .f32) (g b : Vec Ideal S1x768 .f32) (w1 : Vec Ideal S768x3072 .f32)
    (b1 : Vec Ideal S1x3072 .f32) (r : Fin 128) (k : Fin 3072) :
    k0_pay3 (F := Ideal) x g b w1 b1 (ix2 r k)
      = Rows.hidden (fun p => x (ix3 0 r p)) (fun p => g (ix2 0 p)) (fun p => b (ix2 0 p)) (fun p q => w1 (ix2 p q))
          (fun q => b1 (ix2 0 q)) k := by
  pointwise [k0_pay3, k0_pay2]
  rfl

/-- A stored tile is the MLP of its rows. -/
theorem tile_apply (x : Vec Ideal S1x128x768 .f32) (g b : Vec Ideal S1x768 .f32) (w1 : Vec Ideal S768x3072 .f32)
    (b1 : Vec Ideal S1x3072 .f32) (w2 : Vec Ideal S3072x768 .f32) (b2 : Vec Ideal S1x768 .f32) (r : Fin 128) (j : Fin 768) :
    MlpIdeal.Run.tile (F := Ideal) x g b w1 b1 w2 b2 (ix3 0 r j)
      = Rows.mlp (fun p => x (ix3 0 r p)) (fun p => g (ix2 0 p)) (fun p => b (ix2 0 p)) (fun p q => w1 (ix2 p q))
          (fun q => b1 (ix2 0 q)) (fun p q => w2 (ix2 p q)) (fun q => b2 (ix2 0 q)) j := by
  unfold MlpIdeal.Run.tile
  pointwise [k0_pay1, k0_pay2, k0_pay4, k0_pay5, k0_pay6]
  simp only [kernel_hidden]
  rfl
end Kernel

section Ref
open Cert.MlpRefIdeal Cert.MlpRefIdeal.Read

variable (x1 : (⟨S64x256x768, .f32⟩ : BufTy).Contents (Elt Ideal)) (x2 x3 : (⟨S768, .f32⟩ : BufTy).Contents (Elt Ideal))
  (x4 : (⟨S768x3072, .f32⟩ : BufTy).Contents (Elt Ideal)) (x5 : (⟨S3072, .f32⟩ : BufTy).Contents (Elt Ideal))
  (x6 : (⟨S3072x768, .f32⟩ : BufTy).Contents (Elt Ideal)) (x7 : (⟨S768, .f32⟩ : BufTy).Contents (Elt Ideal))

theorem ref_norm (s : Fin 64) (r : Fin 256) (k : Fin 768) :
    val_main_v23 x1 x2 x3 (ix3 s r k)
      = Rows.norm (fun p => x1 (ix3 s r p)) (fun p => x2 (ix1 p)) (fun p => x3 (ix1 p)) k := by
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2, val_main_cst_3]
  rfl

theorem ref_hidden (s : Fin 64) (r : Fin 256) (k : Fin 3072) :
    val_main_v27 x1 x2 x3 x4 x5 (ix3 s r k)
      = Rows.hidden (fun p => x1 (ix3 s r p)) (fun p => x2 (ix1 p)) (fun p => x3 (ix1 p)) (fun p q => x4 (ix2 p q))
          (fun q => x5 (ix1 q)) k := by
  pointwise [val_main_v27, val_main_v26, val_main_v25, val_main_v24]
  simp only [ref_norm]
  rfl

theorem ref_gelu (s : Fin 64) (r : Fin 256) (k : Fin 3072) :
    val_main_v34 x1 x2 x3 x4 x5 (ix3 s r k) = Rows.gelu (val_main_v27 x1 x2 x3 x4 x5 (ix3 s r k)) := by
  pointwise [val_main_v34, val_main_v33, val_main_v32, val_main_v31, val_main_v30, val_main_v29, val_main_v28, val_main_cst_4,
    val_main_cst_5]
  simp only [Ideal.hostUnary_erfc_def, Ideal.hostNegf_def, neg_mul, Ideal.erfc_neg]
  rfl

/-- The reference is the MLP of every row. -/
theorem ref_apply (s : Fin 64) (r : Fin 256) (j : Fin 768) :
    val_main_v39 x1 x2 x3 x4 x5 x6 x7 (ix3 s r j)
      = Rows.mlp (fun p => x1 (ix3 s r p)) (fun p => x2 (ix1 p)) (fun p => x3 (ix1 p)) (fun p q => x4 (ix2 p q))
          (fun q => x5 (ix1 q)) (fun p q => x6 (ix2 p q)) (fun q => x7 (ix1 q)) j := by
  pointwise [val_main_v39, val_main_v38, val_main_v37, val_main_v36, val_main_v35]
  simp only [ref_gelu, ref_hidden]
  rfl
end Ref

/-- What the kernel leaves in a written row is the reference's. -/
theorem outAll_eq (x1 : Vec Ideal MlpIdeal.S64x256x768 .f32) (x2 x3 : Vec Ideal MlpIdeal.S768 .f32)
    (x4 : Vec Ideal MlpIdeal.S768x3072 .f32) (x5 : Vec Ideal MlpIdeal.S3072 .f32) (x6 : Vec Ideal MlpIdeal.S3072x768 .f32)
    (x7 : Vec Ideal MlpIdeal.S768 .f32) (i : MlpIdeal.S64x256x768.Idx) :
    MlpIdeal.Run.outAll x1 x2 x3 x4 x5 x6 x7 i = MlpRefIdeal.Read.val_main_v39 x1 x2 x3 x4 x5 x6 x7 i := by
  idx_vars i
  unfold MlpIdeal.Run.outAll
  refine (tile_apply _ _ _ _ _ _ _ ⟨i1.val % 128, Nat.mod_lt _ (by decide)⟩ i2).trans ((ref_apply _ _ _ _ _ _ _ i0 i1 i2).trans ?_).symm
  have row : ∀ p : Fin 768, MlpIdeal.Run.rowsAll x1 i0 ⟨i1.val / 128, by omega⟩ (ix3 0 ⟨i1.val % 128, Nat.mod_lt _ (by decide)⟩ p)
      = x1 (ix3 i0 i1 p) := fun p => by
    unfold MlpIdeal.Run.rowsAll
    refine congrArg x1 (funext fun a => ?_)
    match a with
    | ⟨0, _⟩ => rfl
    | ⟨1, _⟩ => exact Fin.ext (Nat.div_add_mod _ _)
    | ⟨2, _⟩ => rfl
  have e1 : ∀ (v : Vec Ideal MlpIdeal.S768 .f32) h (p : Fin 768),
      shapeCast MlpIdeal.S1x768 v h (ix2 0 p) = v (ix1 p) := fun v h p => by pointwise
  have e2 : ∀ (v : Vec Ideal MlpIdeal.S3072 .f32) h (p : Fin 3072),
      shapeCast MlpIdeal.S1x3072 v h (ix2 0 p) = v (ix1 p) := fun v h p => by pointwise
  have row' := funext row
  simp only [e1, e2]
  exact (congrArg (fun x => Rows.mlp x _ _ _ _ _ _ _) row').symm

end Cert.MlpPure
-- ==== Proof.MlpFrame.lean ====
/-
  The frame of the MLP call's program as compiled: it is the ideal program's text, so its run at words is the run proved in MlpRun.lean.
-/
module

public import proofs.«01_k».proof.Proof.MlpRun
public import proofs.«01_k».proof.Proof.Gen.Mlp

@[expose] public section

set_option maxRecDepth 65536

noncomputable section

namespace Cert.Mlp.Run

open Idealize.ShloMosaic Idealize.ShloMosaic.TcCoe Idealize.SL.Sem

variable {F : FTy → Type} [FloatOps F]

theorem defs₀_eq : Cert.Mlp.defs₀ (F := F) = Cert.MlpIdeal.defs₀ := by
  unfold Cert.Mlp.defs₀ Cert.MlpIdeal.defs₀
  refine congrArg Defs.onTc ?_
  funext l a
  match l, a with
  | 0, (t, s) => rfl
theorem defs_eq : Cert.Mlp.defs (F := F) = Cert.MlpIdeal.defs := congrArg (Pipeline.defs Cert.MlpIdeal.pcfgs) defs₀_eq
theorem main_eq : Cert.Mlp.main (F := F) = Cert.MlpIdeal.main := rfl

/-- Every execution ends, with the arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq, main_eq]
  exact (θ_run (Cert.MlpIdeal.defs (F := F)) _ _).mono (fun r h => ⟨fun c => (h.1 c).2, h.2⟩) (Cert.MlpIdeal.Run.run (F := F) m ρ)

end Cert.Mlp.Run

end
-- ==== Proof.HeadRun.lean ====
/-
  The head call: its one grid point covers every array, so the result is the stored block; on the extended reals that block and the
  reference are both `Rows.head` of the class token's row.
-/
module

public import proofs.«01_k».proof.Proof.Rows
public import proofs.«01_k».proof.Proof.Gen.HeadIdeal.Value
public import proofs.«01_k».proof.Proof.Gen.HeadRefIdeal.Read
public import Idealize.ShloMosaic.Lib.Pipeline.ValueKit.Basic

@[expose] public section

set_option maxRecDepth 16384

noncomputable section

namespace Cert.HeadIdeal.Result

open Cert.HeadIdeal.Gen
open Idealize.ShloMosaic Idealize.ShloMosaic.TcCoe Idealize.ShloMosaic.Tactic Idealize.SL.Sem
open Idealize.ShloMosaic.Pipeline (Dat)

variable {F : FTy → Type} [FloatOps F]
variable (m : (ℓ : Loc nD τ sig) → Buf (Elt F) ℓ) (ρ : Dev nD → PrngReg)

/-! ## What the region reads -/

theorem V_v1 (c : Dev nD) : V m c main_v1 = shapeCast S64x768 (extractStridedSlice S64x1x768 ![0, 0, 0] (m ((c : Thread nD τ).loc main_arg0))
    slices_S64x256x768_S64x1x768_0_0_0) shapeCasts_S64x1x768_S64x768 := by
  show StableHlo.after hostOps0 _ (Proc.devRef .tc main_v1) = _
  after_results
  rfl
theorem V_v2 (c : Dev nD) : V m c main_v2 = shapeCast S1x768 (m ((c : Thread nD τ).loc main_arg1)) shapeCasts_S768_S1x768 := by
  show StableHlo.after hostOps0 _ (Proc.devRef .tc main_v2) = _
  after_results
  rfl
theorem V_v3 (c : Dev nD) : V m c main_v3 = shapeCast S1x768 (m ((c : Thread nD τ).loc main_arg2)) shapeCasts_S768_S1x768 := by
  show StableHlo.after hostOps0 _ (Proc.devRef .tc main_v3) = _
  after_results
  rfl
theorem V_v4 (c : Dev nD) : V m c main_v4 = shapeCast S1x1000 (m ((c : Thread nD τ).loc main_arg4)) shapeCasts_S1000_S1x1000 := by
  show StableHlo.after hostOps0 _ (Proc.devRef .tc main_v4) = _
  after_results
  rfl

theorem idx_0 : ∀ t : Fin grid0.N, cc0_transform_0 (grid0.coords t) = ![0, 0] := by decide +kernel
theorem iblk_0 (c : Dev nD) (t : Fin cfg0.N) : iblk m c 0 t = V m c main_v1 := by
  funext j
  show V m c main_v1 (((cfg0.win 0).blk t).view.emb j) = _
  refine congrArg (V m c main_v1) (funext fun a => Fin.ext ?_)
  show cc0_transform_0 (grid0.coords t) a * S64x768.size a + 1 * (j a).val = (j a).val
  rw [idx_0 t]
  fin_cases a <;> simp

theorem idx_1 : ∀ t : Fin grid0.N, cc0_transform_1 (grid0.coords t) = ![0, 0] := by decide +kernel
theorem iblk_1 (c : Dev nD) (t : Fin cfg0.N) : iblk m c 1 t = V m c main_v2 := by
  funext j
  show V m c main_v2 (((cfg0.win 1).blk t).view.emb j) = _
  refine congrArg (V m c main_v2) (funext fun a => Fin.ext ?_)
  show cc0_transform_1 (grid0.coords t) a * S1x768.size a + 1 * (j a).val = (j a).val
  rw [idx_1 t]
  fin_cases a <;> simp

theorem idx_2 : ∀ t : Fin grid0.N, cc0_transform_2 (grid0.coords t) = ![0, 0] := by decide +kernel
theorem iblk_2 (c : Dev nD) (t : Fin cfg0.N) : iblk m c 2 t = V m c main_v3 := by
  funext j
  show V m c main_v3 (((cfg0.win 2).blk t).view.emb j) = _
  refine congrArg (V m c main_v3) (funext fun a => Fin.ext ?_)
  show cc0_transform_2 (grid0.coords t) a * S1x768.size a + 1 * (j a).val = (j a).val
  rw [idx_2 t]
  fin_cases a <;> simp

theorem idx_3 : ∀ t : Fin grid0.N, cc0_transform_3 (grid0.coords t) = ![0, 0] := by decide +kernel
theorem iblk_3 (c : Dev nD) (t : Fin cfg0.N) : iblk m c 3 t = V m c main_arg3 := by
  funext j
  show V m c main_arg3 (((cfg0.win 3).blk t).view.emb j) = _
  refine congrArg (V m c main_arg3) (funext fun a => Fin.ext ?_)
  show cc0_transform_3 (grid0.coords t) a * S768x1000.size a + 1 * (j a).val = (j a).val
  rw [idx_3 t]
  fin_cases a <;> simp

theorem idx_4 : ∀ t : Fin grid0.N, cc0_transform_4 (grid0.coords t) = ![0, 0] := by decide +kernel
theorem iblk_4 (c : Dev nD) (t : Fin cfg0.N) : iblk m c 4 t = V m c main_v4 := by
  funext j
  show V m c main_v4 (((cfg0.win 4).blk t).view.emb j) = _
  refine congrArg (V m c main_v4) (funext fun a => Fin.ext ?_)
  show cc0_transform_4 (grid0.coords t) a * S1x1000.size a + 1 * (j a).val = (j a).val
  rw [idx_4 t]
  fin_cases a <;> simp

/-- The result as a function of the arguments. -/
def logits (x : Vec F S64x256x768 .f32) (g b : Vec F S768 .f32) (w : Vec F S768x1000 .f32) (d : Vec F S1000 .f32) : Vec F S64x1000 .f32 :=
  k0_pay1 (shapeCast S64x768 (extractStridedSlice S64x1x768 ![0, 0, 0] x slices_S64x256x768_S64x1x768_0_0_0) shapeCasts_S64x1x768_S64x768)
    (shapeCast S1x768 g shapeCasts_S768_S1x768) (shapeCast S1x768 b shapeCasts_S768_S1x768) w (shapeCast S1x1000 d shapeCasts_S1000_S1x1000)

theorem idx_5 : ∀ t : Fin grid0.N, cc0_transform_5 (grid0.coords t) = ![0, 0] := by decide +kernel

/-- The result array after the run. -/
theorem array_eq (c : Dev nD) : (dats m 0 c).arrAt 5 cfg0.N
    = logits (m ((c : Thread nD τ).loc main_arg0)) (m ((c : Thread nD τ).loc main_arg1)) (m ((c : Thread nD τ).loc main_arg2))
        (m ((c : Thread nD τ).loc main_arg3)) (m ((c : Thread nD τ).loc main_arg4)) := by
  let t : Fin cfg0.N := ⟨0, by decide⟩
  have hf : (cfg0.win 5).flush t = true := by decide
  funext i
  have h := congrFun (Value.blocks5 m c t hf) i
  have he : ((cfg0.win 5).blk t).view.emb i = i := by
    refine funext fun a => Fin.ext ?_
    show cc0_transform_5 (grid0.coords t) a * S64x1000.size a + 1 * (i a).val = (i a).val
    rw [idx_5 t]
    fin_cases a <;> simp
  have h2 : (dats m 0 c).arrAt 5 cfg0.N (((cfg0.win 5).blk t).view.emb i) = (dats m 0 c).flushed 5 t i := h
  rw [he, Value.flushed5, iblk_0, iblk_1, iblk_2, iblk_3, iblk_4, V_v1, V_v2, V_v3, V_v4, V_main_arg3] at h2
  refine h2.trans ?_
  show out0_5 _ _ _ _ _ i = _
  unfold out0_5 logits
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]

end Cert.HeadIdeal.Result

namespace Cert.HeadPure

open Idealize.ShloMosaic

section Kernel
open Cert.HeadIdeal Cert.HeadIdeal.Gen

theorem logits_apply (x : Vec Ideal S64x256x768 .f32) (g b : Vec Ideal S768 .f32) (w : Vec Ideal S768x1000 .f32) (d : Vec Ideal S1000 .f32)
    (s : Fin 64) (j : Fin 1000) :
    HeadIdeal.Result.logits x g b w d (ix2 s j)
      = Rows.head (fun p => x (ix3 s 0 p)) (fun p => g (ix1 p)) (fun p => b (ix1 p)) (fun p q => w (ix2 p q)) (fun q => d (ix1 q)) j := by
  pointwise [HeadIdeal.Result.logits, k0_pay1]
  rfl
end Kernel

section Ref
open Cert.HeadRefIdeal Cert.HeadRefIdeal.Read

variable (x0 : (⟨S64x256x768, .f32⟩ : BufTy).Contents (Elt Ideal)) (x1 x2 : (⟨S768, .f32⟩ : BufTy).Contents (Elt Ideal))
  (x3 : (⟨S768x1000, .f32⟩ : BufTy).Contents (Elt Ideal)) (x4 : (⟨S1000, .f32⟩ : BufTy).Contents (Elt Ideal))

theorem ref_norm (s : Fin 64) (r : Fin 256) (k : Fin 768) :
    val_main_v23 x0 x1 x2 (ix3 s r k)
      = Rows.norm (fun p => x0 (ix3 s r p)) (fun p => x1 (ix1 p)) (fun p => x2 (ix1 p)) k := by
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2, val_main_cst_3]
  rfl

theorem ref_apply (s : Fin 64) (j : Fin 1000) :
    val_main_v29 x0 x1 x2 x3 x4 (ix2 s j)
      = Rows.head (fun p => x0 (ix3 s 0 p)) (fun p => x1 (ix1 p)) (fun p => x2 (ix1 p)) (fun p q => x3 (ix2 p q)) (fun q => x4 (ix1 q)) j := by
  pointwise [val_main_v29, val_main_v28, val_main_v27, val_main_v26, val_main_v25, val_main_v24]
  simp only [ref_norm]
  rfl
end Ref

/-- The kernel's result is the reference's. -/
theorem logits_eq (x0 : Vec Ideal HeadIdeal.S64x256x768 .f32) (x1 x2 : Vec Ideal HeadIdeal.S768 .f32)
    (x3 : Vec Ideal HeadIdeal.S768x1000 .f32) (x4 : Vec Ideal HeadIdeal.S1000 .f32) :
    HeadIdeal.Result.logits x0 x1 x2 x3 x4 = HeadRefIdeal.Read.val_main_v29 x0 x1 x2 x3 x4 := by
  funext i
  idx_vars i
  exact (logits_apply _ _ _ _ _ _ _).trans (ref_apply _ _ _ _ _ _ _).symm

end Cert.HeadPure
-- ==== Proof.Claims.lean ====
/-
  The claims of the MLP call and of the head call, one theorem each.
-/
module

public import proofs.«01_k».proof.Defs
public import proofs.«01_k».proof.Proof.Mask
public import proofs.«01_k».proof.Proof.MlpPure
public import proofs.«01_k».proof.Proof.MlpFrame
public import proofs.«01_k».proof.Proof.HeadRun
public import proofs.«01_k».proof.Proof.Gen.Head.Frame
public import proofs.«01_k».proof.Proof.Gen.MlpRefIdeal.Run
public import proofs.«01_k».proof.Proof.Gen.HeadRefIdeal.Run
public import proofs.«01_k».proof.Proof.Gen.On_written_mlp
public import Idealize.ShloMosaic.Adequacy
public import Idealize.ShloMosaic.Init

@[expose] public section

set_option maxRecDepth 16384

noncomputable section

/-! ## The rows that the MLP call writes -/

namespace Cert.On_written_mlp

open Idealize.ShloMosaic

variable {F : FTy → Type} [FloatOps F] [Facts]

/-- The mask is set on the first row tile of every sample, and on the second one where the sample has two. -/
theorem rows_of_set (n : IVec S64 32) (x : FVec F S64x256x768 .f32) (g b : FVec F S768 .f32) (w1 : FVec F S768x3072 .f32) (b1 : FVec F S3072 .f32)
    (w2 : FVec F S3072x768 .f32) (b2 : FVec F S768 .f32) (i : S64x256x768.Idx) (h : fn n x g b w1 b1 w2 b2 i = 1#1) :
    (i 1 : Nat) < 128 ∨ BitVec.slt 1#32 (n (ValueIdx.ix1 (i 0) : S64.Idx)) = true := by
  refine Mask.row (i 1) _ (Eq.trans ?_ h)
  exact congrArg (fun k : S64.Idx => IntOp.cmpi .slt (BitVec.ofNat 32 (i 1 : Nat)) 128#32 ||| IntOp.cmpi .sgt (n k) 1#32)
      (funext fun a => match a with | ⟨0, _⟩ => rfl)

end Cert.On_written_mlp

namespace Cert.Claims

open Idealize.ShloMosaic Idealize.ShloMosaic.TcCoe Idealize.SL.Sem

/-! ## The MLP call -/

theorem frame_mlp : Cert.quiescent_Mlp := fun m ρ _ => Cert.Mlp.Run.frame m ρ

theorem frame_mlpIdeal : Cert.quiescent_MlpIdeal := fun m ρ _ =>
  (θ_run Cert.MlpIdeal.defs _ _).mono (fun r h => ⟨fun c => (h.1 c).2, h.2⟩) (Cert.MlpIdeal.Run.run (F := Ideal) m ρ)

theorem frame_mlpRefIdeal : Cert.quiescent_MlpRefIdeal := fun m ρ _ =>
  (θ_run Cert.MlpRefIdeal.defs _ _).mono (fun r h => ⟨fun c => (h c).2,
      Idealize.ShloMosaic.sem_eq_zero_of_no_sems (by decide) r.2⟩)
    (Cert.MlpRefIdeal.Value.run (F := Ideal) m ρ)

theorem preserves_mlp : Cert.preserves_Mlp_MlpIdeal := trivial

theorem algebraic_mlp : Cert.algebraic_MlpIdeal_MlpRefIdeal_on_written_mlp := by
  intro m ρ m' ρ' _ hagree
  refine ⟨fun c => Cert.MlpIdeal.Run.outAll (m ((c : Thread Cert.MlpIdeal.nD Cert.MlpIdeal.τ).loc Cert.MlpIdeal.main_arg1))
    (m ((c : Thread Cert.MlpIdeal.nD Cert.MlpIdeal.τ).loc Cert.MlpIdeal.main_arg2)) (m ((c : Thread Cert.MlpIdeal.nD Cert.MlpIdeal.τ).loc Cert.MlpIdeal.main_arg3))
    (m ((c : Thread Cert.MlpIdeal.nD Cert.MlpIdeal.τ).loc Cert.MlpIdeal.main_arg4)) (m ((c : Thread Cert.MlpIdeal.nD Cert.MlpIdeal.τ).loc Cert.MlpIdeal.main_arg5))
    (m ((c : Thread Cert.MlpIdeal.nD Cert.MlpIdeal.τ).loc Cert.MlpIdeal.main_arg6)) (m ((c : Thread Cert.MlpIdeal.nD Cert.MlpIdeal.τ).loc Cert.MlpIdeal.main_arg7)), ?_, ?_⟩
  · exact (θ_run Cert.MlpIdeal.defs _ _).mono
      (fun _ h c => ⟨fun i hi => (h.1 c).1 i (Cert.On_written_mlp.rows_of_set _ _ _ _ _ _ _ _ i hi), (h.1 c).2⟩)
      (Cert.MlpIdeal.Run.run (F := Ideal) m ρ)
  · refine (θ_run Cert.MlpRefIdeal.defs _ _).mono (fun _ h c => ⟨fun i _ => (congrFun (h c).1 i).trans ?_, (h c).2⟩)
      (Cert.MlpRefIdeal.Value.run (F := Ideal) m' ρ')
    refine (congrFun (Cert.MlpRefIdeal.Read.val_main_v39_eq m' c) i).trans ?_
    obtain ⟨-, e1, e2, e3, e4, e5, e6, e7⟩ := hagree c
    rw [e1, e2, e3, e4, e5, e6, e7]
    exact (Cert.MlpPure.outAll_eq _ _ _ _ _ _ _ i).symm

/-! ## The head call -/

theorem frame_head : Cert.quiescent_Head := fun m ρ _ => Cert.Head.Gen.frame m ρ
theorem frame_headIdeal : Cert.quiescent_HeadIdeal := fun m ρ _ => Cert.HeadIdeal.Gen.frame m ρ
theorem frame_headRefIdeal : Cert.quiescent_HeadRefIdeal := fun m ρ _ =>
  (θ_run Cert.HeadRefIdeal.defs _ _).mono (fun r h => ⟨fun c => (h c).2,
      Idealize.ShloMosaic.sem_eq_zero_of_no_sems (by decide) r.2⟩)
    (Cert.HeadRefIdeal.Value.run (F := Ideal) m ρ)

theorem preserves_head : Cert.preserves_Head_HeadIdeal := trivial

theorem algebraic_head : Cert.algebraic_HeadIdeal_HeadRefIdeal := by
  intro m ρ m' ρ' _ hagree
  refine ⟨fun c => _, (θ_run Cert.HeadIdeal.defs _ _).mono
    (fun _ h c => ⟨(h c).1.trans (Cert.HeadIdeal.Result.array_eq m c), (h c).2⟩) (Cert.HeadIdeal.Value.run_blocks (F := Ideal) m ρ), ?_⟩
  refine (θ_run Cert.HeadRefIdeal.defs _ _).mono (fun _ h c => ⟨(h c).1.trans ?_, (h c).2⟩)
    (Cert.HeadRefIdeal.Value.run (F := Ideal) m' ρ')
  refine (Cert.HeadRefIdeal.Read.val_main_v29_eq _ _ _ _ _).trans ?_
  obtain ⟨e0, e1, e2, e3, e4⟩ := hagree c
  rw [e0, e1, e2, e3, e4]
  exact (Cert.HeadPure.logits_eq _ _ _ _ _).symm

end Cert.Claims
-- ==== Proof.AttnSetup.lean ====
/-
  The launch set-up of the attention call's ideal program: the buffers when the region is entered, the prefetched table, the windows' blocks,
  the branch conditions and the staging memrefs. Shared by the run of the body (AttnBodyA.lean to AttnBodyD.lean) and the launch (AttnRun.lean).
-/
module

public import proofs.«01_k».proof.Proof.Gen.AttnIdeal.Launch
public import proofs.«01_k».proof.Proof.Gen.AttnIdeal.Skeleton
public import Idealize.ShloMosaic.Lib.Pipeline.FrameBody
public import Idealize.ShloMosaic.Lib.Ring
public import Idealize.ShloMosaic.Lib.Tactic
public import Idealize.ShloMosaic.Lib.WordCmp

@[expose] public section

-- the literal extents of the blocks are long
set_option maxRecDepth 16384

noncomputable section

namespace Cert.AttnIdeal.Run

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes an argument: the region finds each as launched. -/
theorem V_of_mem (c : Dev nD) (b : Ref sig .tc) (hb : b ∈ [main_arg0, main_arg1, main_arg2, main_arg3, main_arg4, main_arg5, main_arg6, main_arg7, main_arg8]) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    fin_cases hb
    all_goals
      repeat' apply And.intro
      all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (`ok0`). It is `True` here, no
    window's index map reading the table. -/
abbrev Ok : Prop := ok0 (F := F) (tbl m)
/-- The tables' contents as ADMISSIBLE contents, and the pipeline at them: what the launch theorem runs
    (`θ_run_frameP`). -/
abbrev adm (hO : Ok m) : (pcfg0 (F := F)).Adm := ⟨tbl m, hO⟩
abbrev cfgM (hO : Ok m) : Pipeline.Cfg sig Λ₀ := cfg0 (adm m hO)

/-- The table as the body is handed it: its whole buffer as a memref, and that memref's wholeness. -/
abbrev tbM0_0 : Memref sig .tc .smem S64 .i32 := Memref.whole main_arg0
abbrev htbM0_0 : tbM0_0.IsWhole := Memref.isWhole_whole _

/-- A table memref's buffer on core `c`: its contents type, and half of it held at `f`; the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (`ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0 holds its block at every point. -/
theorem finds_of_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 holds its block at every point. -/
theorem finds_of_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 holds its block at every point. -/
theorem finds_of_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 holds its block at every point. -/
theorem finds_of_3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4 holds its block at every point. -/
theorem finds_of_4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5 holds its block at every point. -/
theorem finds_of_5 (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6 holds its block at every point. -/
theorem finds_of_6 (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7 holds its block at every point. -/
theorem finds_of_7 (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- Whether the second row tile is taken, by a word of the table. -/
abbrev cond0_0 (i : grid0.Coords) (v : BitVec 32) : Prop := (Scalar.cmpi .ne (Scalar.extui (Scalar.cmpi .sgt v 1#32)) 0#32) = 1#1
abbrev cond0_1 (i : grid0.Coords) (v : BitVec 32) : Prop := (Scalar.cmpi .ne (Scalar.extui (Scalar.cmpi .sgt v 1#32)) 0#32) = 1#1

/-- Whether the second row tile's keys and values are set to zero. -/
abbrev zeroed (v : BitVec 32) : Prop := (Scalar.cmpi .ne (Scalar.extui (Scalar.cmpi .sle v 1#32)) 0#32) = 1#1

theorem taken_iff (v : BitVec 32) : (Scalar.cmpi .ne (Scalar.extui (Scalar.cmpi .sgt v 1#32)) 0#32) = 1#1 ↔ BitVec.slt 1#32 v = true := by
  show BitVec.ofBool (bne (BitVec.setWidth 32 (BitVec.ofBool (BitVec.slt 1#32 v))) 0#32) = 1#1 ↔ _
  cases BitVec.slt 1#32 v <;> decide

theorem zeroed_iff (v : BitVec 32) : zeroed v ↔ BitVec.slt 1#32 v = false := by
  show BitVec.ofBool (bne (BitVec.setWidth 32 (BitVec.ofBool (BitVec.sle v 1#32))) 0#32) = 1#1 ↔ _
  rw [show BitVec.sle v 1#32 = !BitVec.slt 1#32 v from by
    simp only [BitVec.sle, BitVec.slt]; rw [← decide_not]; exact decide_eq_decide.mpr (by omega)]
  cases BitVec.slt 1#32 v <;> decide

theorem not_zeroed {v : BitVec 32} (h : (Scalar.cmpi .ne (Scalar.extui (Scalar.cmpi .sgt v 1#32)) 0#32) = 1#1) : ¬ zeroed v := fun h' => by
  rw [zeroed_iff, (taken_iff v).mp h] at h'
  exact absurd h' (by decide)

theorem zeroed_of_not {v : BitVec 32} (h : ¬ (Scalar.cmpi .ne (Scalar.extui (Scalar.cmpi .sgt v 1#32)) 0#32) = 1#1) : zeroed v :=
  (zeroed_iff v).mpr (Bool.eq_false_iff.mpr fun h' => h ((taken_iff v).mpr h'))

/-! ## The staging memrefs -/

abbrev ms0_0 (hO : Ok m) (t : Fin (cfgM m hO).N) : Memref sig .tc .vmem S2x256x768 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S2x1x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x768 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x768 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S768x2304 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x2304 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S768x768 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x768 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S2x256x768 .f32 := spec0_8.stage ((cfgM m hO).slots t 8)
abbrev hs0_8 (hO : Ok m) (t : Fin (cfgM m hO).N) : (ms0_8 m hO t).IsWhole := hstage0_8 (((cfgM m hO).slots t 8).cast nbuf0_8)

/-- The two scratch buffers as memrefs: the queries, keys and values of both samples, and the heads' results. -/
abbrev scM0 : Memref sig .tc .vmem S2x256x2304 .f32 := Memref.whole cc0_scratch0
abbrev scM1 : Memref sig .tc .vmem S2x256x768 .f32 := Memref.whole cc0_scratch1

/-- The kernel body at point `t`, on what the pipeline calls it with. -/
abbrev bodyAt0 (a : (pcfg0 (F := F)).Adm) (t : Fin (cfg0 a).N) : Prog (TpuEff nD τ sig (Elt F) Λ₀ .tc) PUnit :=
  cc0_vit_attn (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) scM0 (Memref.isWhole_whole _) scM1 (Memref.isWhole_whole _)

end Cert.AttnIdeal.Run

end
-- ==== Proof.AttnTiles.lean ====
/-
  One grid point of the attention call's ideal program. Each of the four cases of the two conditions (whether sample 0, sample 1 of
  the block has a second row tile) is run once. What the body leaves in its two scratch buffers and in the output's staging buffer is
  read off as one function of the point's blocks: the stored pieces all agree with it, and they cover what is read.
-/
module

public import proofs.«01_k».proof.Proof.AttnSetup
public import Idealize.ShloMosaic.Lib.ValueIdx

@[expose] public section

set_option maxRecDepth 16384

noncomputable section

namespace Cert.AttnIdeal.Run

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The first word of the table the body reads at a point, and the second. -/
abbrev word0 (i : grid0.Coords) (xt0 : Vec F S64 .i32) : BitVec 32 :=
  tbM0_0.view.readAt (Elt F) (Rect.unit (s := S64) (k0_off1 i) S1.size (k0_off1_inb i)).toLoadRect xt0 (Shape.Idx.first (numel1_S1.symm ▸ Nat.one_pos))
abbrev word1 (i : grid0.Coords) (xt0 : Vec F S64 .i32) : BitVec 32 :=
  tbM0_0.view.readAt (Elt F) (Rect.unit (s := S64) (k0_off2 i) S1.size (k0_off2_inb i)).toLoadRect xt0 (Shape.Idx.first (numel1_S1.symm ▸ Nat.one_pos))

/-! ## What the body computes, tile by tile -/

/-- Queries, keys and values of one tile of 128 rows. -/
def qkvTile (x : Vec F S1x128x768 .f32) (g b : Vec F S1x768 .f32) (w : Vec F S768x2304 .f32) (c : Vec F S1x2304 .f32) : FVec F S1x128x2304 .f32 :=
  k0_pay57 x g b w c

/-- One head of one tile. -/
def headTile (bias : Vec F S1x1x256 .f32) (q : Vec F S1x128x64 .f32) (k v : Vec F S1x256x64 .f32) : FVec F S1x128x64 .f32 :=
  k0_pay1 (k0_pay59 bias) q k v

/-- The result rows of one tile. -/
def outTile (o : Vec F S1x128x768 .f32) (w : Vec F S768x768 .f32) (x : Vec F S1x128x768 .f32) (b : Vec F S1x768 .f32) : FVec F S1x128x768 .f32 :=
  k0_pay54 o w x b

/-- A block of two samples of 256 rows, given tile by tile. -/
def tiled {n : ℕ} (T : Fin 2 → Fin 2 → Vec F ⟨3, ![1, 128, n]⟩ .f32) : Vec F ⟨3, ![2, 256, n]⟩ .f32 :=
  fun j => T (j 0) ⟨(j 1).val / 128, by have := (j 1).isLt; simp at *; omega⟩ (ix3 0 ⟨(j 1).val % 128, Nat.mod_lt _ (by decide)⟩ (j 2))

/-- The rows of tile `k` of sample `s`. -/
def rowsOf (x0 : Vec F S2x256x768 .f32) (s : Fin 2) (k : Fin 2) : Vec F S1x128x768 .f32 :=
  fun j => x0 (ix3 s ⟨128 * k.val + (j 1).val, by have := (j 1).isLt; have := k.isLt; simp at *; omega⟩ (j 2))

/-- The bias row of sample `s`. -/
def biasOf (x1 : Vec F S2x1x256 .f32) (s : Fin 2) : Vec F S1x1x256 .f32 := fun j => x1 (ix3 s 0 (j 2))

/-- The queries of head `h` of tile `k` of sample `s`; the keys and the values of head `h` of sample `s`. -/
def qOf (Q : Vec F S2x256x2304 .f32) (s k : Fin 2) (h : Fin 12) : Vec F S1x128x64 .f32 :=
  fun j => Q (ix3 s ⟨128 * k.val + (j 1).val, by have := (j 1).isLt; have := k.isLt; simp at *; omega⟩
    ⟨64 * h.val + (j 2).val, by have := (j 2).isLt; have := h.isLt; simp at *; omega⟩)
def kOf (Q : Vec F S2x256x2304 .f32) (s : Fin 2) (h : Fin 12) : Vec F S1x256x64 .f32 :=
  fun j => Q (ix3 s (j 1) ⟨768 + 64 * h.val + (j 2).val, by have := (j 2).isLt; have := h.isLt; simp at *; omega⟩)
def vOf (Q : Vec F S2x256x2304 .f32) (s : Fin 2) (h : Fin 12) : Vec F S1x256x64 .f32 :=
  fun j => Q (ix3 s (j 1) ⟨1536 + 64 * h.val + (j 2).val, by have := (j 2).isLt; have := h.isLt; simp at *; omega⟩)

/-- Whether tile `k` of sample `s` is computed. -/
def Taken (p0 p1 : Prop) (s k : Fin 2) : Prop := k.val = 0 ∨ (s.val = 0 ∧ p0) ∨ (s.val = 1 ∧ p1)

/-- Queries, keys and values of the block: zero in a tile that is not computed. -/
def qkvBlock (x0 : Vec F S2x256x768 .f32) (x2 x3 : Vec F S1x768 .f32) (x4 : Vec F S768x2304 .f32) (x5 : Vec F S1x2304 .f32) (p0 p1 : Prop) :
    Vec F S2x256x2304 .f32 :=
  tiled fun s k => @ite _ (Taken p0 p1 s k) (Classical.dec _) (qkvTile (rowsOf x0 s k) x2 x3 x4 x5) k0_pay58

/-- The heads' results of the block. -/
def headBlock (x1 : Vec F S2x1x256 .f32) (Q : Vec F S2x256x2304 .f32) : Vec F S2x256x768 .f32 :=
  fun j => headTile (biasOf x1 (j 0))
    (qOf Q (j 0) ⟨(j 1).val / 128, by have := (j 1).isLt; simp at *; omega⟩ ⟨(j 2).val / 64, by have := (j 2).isLt; simp at *; omega⟩)
    (kOf Q (j 0) ⟨(j 2).val / 64, by have := (j 2).isLt; simp at *; omega⟩) (vOf Q (j 0) ⟨(j 2).val / 64, by have := (j 2).isLt; simp at *; omega⟩)
    (ix3 0 ⟨(j 1).val % 128, Nat.mod_lt _ (by decide)⟩ ⟨(j 2).val % 64, Nat.mod_lt _ (by decide)⟩)

/-- The block the body writes where it writes. -/
def outBlock (x0 : Vec F S2x256x768 .f32) (x1 : Vec F S2x1x256 .f32) (x2 x3 : Vec F S1x768 .f32) (x4 : Vec F S768x2304 .f32) (x5 : Vec F S1x2304 .f32)
    (x6 : Vec F S768x768 .f32) (x7 : Vec F S1x768 .f32) (p0 p1 : Prop) : Vec F S2x256x768 .f32 :=
  tiled fun s k => outTile (rowsOf (headBlock x1 (qkvBlock x0 x2 x3 x4 x5 p0 p1)) s k) x6 (rowsOf x0 s k) x7

/-- What is known of the output block: every row of a first tile, and every row of a sample whose word takes the second tile. -/
def Written (G X : Vec F S2x256x768 .f32) (p0 p1 : Prop) : Prop :=
  ∀ j : S2x256x768.Idx, ((j 1).val < 128 ∨ ((j 0).val = 0 ∧ p0) ∨ ((j 0).val = 1 ∧ p1)) → X j = G j

/-! ## Loads, and stored pieces -/

/-- The rows the body loads for one tile. -/
theorem load_rows {arg2 : Memref sig .tc .vmem S2x256x768 .f32} (harg2 : arg2.IsWhole) (x0 : Vec F S2x256x768 .f32) (s k : Fin 2)
    (off : Fin 3 → ℕ) (inb : ∀ a, off a + (![1, 128, 768] : Fin 3 → ℕ) a ≤ S2x256x768.size a)
    (h0 : off 0 = s.val) (h1 : off 1 = 128 * k.val) (h2 : off 2 = 0) :
    View.readAt (Elt F) arg2.view (Rect.unit (s := S2x256x768) off ![1, 128, 768] inb).toLoadRect (harg2.unread x0) = rowsOf x0 s k := by
  funext x
  rw [View.readAt_apply, harg2.read_unread]
  refine congrArg x0 (funext fun a => Fin.ext ?_)
  have hx0 : (x 0).val < 1 := (x 0).isLt
  fin_cases a
  · show off 0 + 1 * (x 0).val = s.val
    omega
  · show off 1 + 1 * (x 1).val = 128 * k.val + (x 1).val
    omega
  · show off 2 + 1 * (x 2).val = (x 2).val
    omega

/-- The bias row it loads. -/
theorem load_bias {arg3 : Memref sig .tc .vmem S2x1x256 .f32} (harg3 : arg3.IsWhole) (x1 : Vec F S2x1x256 .f32) (s : Fin 2)
    (off : Fin 3 → ℕ) (inb : ∀ a, off a + (![1, 1, 256] : Fin 3 → ℕ) a ≤ S2x1x256.size a) (h0 : off 0 = s.val) (h1 : off 1 = 0) (h2 : off 2 = 0) :
    View.readAt (Elt F) arg3.view (Rect.unit (s := S2x1x256) off ![1, 1, 256] inb).toLoadRect (harg3.unread x1) = biasOf x1 s := by
  funext x
  rw [View.readAt_apply, harg3.read_unread]
  refine congrArg x1 (funext fun a => Fin.ext ?_)
  have hx0 : (x 0).val < 1 := (x 0).isLt
  have hx1 : (x 1).val < 1 := (x 1).isLt
  fin_cases a
  · show off 0 + 1 * (x 0).val = s.val
    omega
  · show off 1 + 1 * (x 1).val = 0
    omega
  · show off 2 + 1 * (x 2).val = (x 2).val
    omega

/-- A load of the whole of a rank-two buffer. -/
theorem load_whole {n0 n1 : ℕ} {m : Memref sig .tc .vmem ⟨2, ![n0, n1]⟩ .f32} (h : m.IsWhole) (X : Vec F ⟨2, ![n0, n1]⟩ .f32)
    (inb : ∀ a, (![0, 0] : Fin 2 → ℕ) a + (![n0, n1] : Fin 2 → ℕ) a ≤ (⟨2, ![n0, n1]⟩ : Shape).size a) :
    View.readAt (Elt F) m.view (Rect.unit (s := ⟨2, ![n0, n1]⟩) ![0, 0] ![n0, n1] inb).toLoadRect (h.unread X) = X := by
  funext x
  rw [View.readAt_apply, h.read_unread]
  refine congrArg X (funext fun a => Fin.ext ?_)
  fin_cases a
  · show 0 + 1 * (x 0).val = (x 0).val
    omega
  · show 0 + 1 * (x 1).val = (x 1).val
    omega

/-- A stored piece that agrees with `G`. -/
def Good {s : Shape} (G : Vec F s .f32) (p : View.Piece (Elt F) s .f32) : Prop := ∀ x, p.2 x = G (p.1.emb x)

/-- A load of a rectangle that pieces agreeing with `G` cover reads `G`. -/
theorem readCov_good {s : Shape} (v : View sig .tc .vmem s .f32) (L : List (View.Piece (Elt F) s .f32)) (R : Rect s) (G : Vec F s .f32)
    (hg : ∀ p ∈ L, Good G p) (hc : ∀ x, ∃ p ∈ L, R.emb x ∈ p.1.set) : v.readCov L R.toLoadRect = fun x => G (R.emb x) := by
  funext x
  unfold View.readCov
  rw [View.readAt_apply]
  exact View.read_writes_apply_of_pieces _ _ G L hg _ (hc x)

/-- An index of a block, in the rectangle of sample `s`, tile `k`, whatever the width. -/
theorem mem_tile {n : ℕ} (s k : Fin 2) (off : Fin 3 → ℕ) (inb : ∀ a, off a + (![1, 128, n] : Fin 3 → ℕ) a ≤ (⟨3, ![2, 256, n]⟩ : Shape).size a)
    (h0 : off 0 = s.val) (h1 : off 1 = 128 * k.val) (h2 : off 2 = 0) (j : (⟨3, ![2, 256, n]⟩ : Shape).Idx)
    (hs : (j 0).val = s.val) (hk : (j 1).val / 128 = k.val) :
    j ∈ (Rect.unit (s := ⟨3, ![2, 256, n]⟩) off ![1, 128, n] inb).set := by
  have hj2 : (j 2).val < n := (j 2).isLt
  refine Rect.mem_set_unit.mpr fun a => ?_
  fin_cases a
  · exact ⟨by show off 0 ≤ (j 0).val; omega, by show (j 0).val < off 0 + 1; omega⟩
  · exact ⟨by show off 1 ≤ (j 1).val; omega, by show (j 1).val < off 1 + 128; omega⟩
  · exact ⟨by show off 2 ≤ (j 2).val; omega, by show (j 2).val < off 2 + n; omega⟩

/-- An index of the heads' block, in the rectangle of head `h` of tile `k` of sample `s`. -/
theorem mem_head (s k : Fin 2) (h : Fin 12) (off : Fin 3 → ℕ) (inb : ∀ a, off a + (![1, 128, 64] : Fin 3 → ℕ) a ≤ S2x256x768.size a)
    (h0 : off 0 = s.val) (h1 : off 1 = 128 * k.val) (h2 : off 2 = 64 * h.val) (j : S2x256x768.Idx)
    (hs : (j 0).val = s.val) (hk : (j 1).val / 128 = k.val) (hh : (j 2).val / 64 = h.val) :
    j ∈ (Rect.unit (s := S2x256x768) off ![1, 128, 64] inb).set := by
  refine Rect.mem_set_unit.mpr fun a => ?_
  fin_cases a
  · exact ⟨by show off 0 ≤ (j 0).val; omega, by show (j 0).val < off 0 + 1; omega⟩
  · exact ⟨by show off 1 ≤ (j 1).val; omega, by show (j 1).val < off 1 + 128; omega⟩
  · exact ⟨by show off 2 ≤ (j 2).val; omega, by show (j 2).val < off 2 + 64; omega⟩

/-- A piece that is tile `k` of sample `s` of a block given tile by tile. -/
theorem good_tile {n : ℕ} (T : Fin 2 → Fin 2 → Vec F ⟨3, ![1, 128, n]⟩ .f32) (s k : Fin 2) (off : Fin 3 → ℕ)
    (inb : ∀ a, off a + (![1, 128, n] : Fin 3 → ℕ) a ≤ (⟨3, ![2, 256, n]⟩ : Shape).size a)
    (h0 : off 0 = s.val) (h1 : off 1 = 128 * k.val) (h2 : off 2 = 0) (d : Vec F ⟨3, ![1, 128, n]⟩ .f32) (hd : d = T s k) :
    Good (tiled T) ⟨Rect.unit (s := ⟨3, ![2, 256, n]⟩) off ![1, 128, n] inb, d⟩ := by
  subst hd
  intro x
  have hx0 : (x 0).val < 1 := (x 0).isLt
  have hx1 : (x 1).val < 128 := (x 1).isLt
  have e0 : ((Rect.unit (s := ⟨3, ![2, 256, n]⟩) off ![1, 128, n] inb).emb x) 0 = s := Fin.ext (by
    show off 0 + 1 * (x 0).val = s.val
    omega)
  have e1 : (((Rect.unit (s := ⟨3, ![2, 256, n]⟩) off ![1, 128, n] inb).emb x) 1).val = 128 * k.val + (x 1).val := by
    show off 1 + 1 * (x 1).val = _
    omega
  have e2 : ((Rect.unit (s := ⟨3, ![2, 256, n]⟩) off ![1, 128, n] inb).emb x) 2 = x 2 := Fin.ext (by
    show off 2 + 1 * (x 2).val = (x 2).val
    omega)
  unfold tiled
  have hk : (⟨(((Rect.unit (s := ⟨3, ![2, 256, n]⟩) off ![1, 128, n] inb).emb x) 1).val / 128, by
      have := k.isLt; omega⟩ : Fin 2) = k := Fin.ext (by show _ / 128 = k.val; omega)
  have hi : x = ix3 0 ⟨(((Rect.unit (s := ⟨3, ![2, 256, n]⟩) off ![1, 128, n] inb).emb x) 1).val % 128, Nat.mod_lt _ (by decide)⟩
      (((Rect.unit (s := ⟨3, ![2, 256, n]⟩) off ![1, 128, n] inb).emb x) 2) := by
    funext a
    fin_cases a
    · exact Fin.ext (by show (x 0).val = 0; omega)
    · exact Fin.ext (by show (x 1).val = _ % 128; omega)
    · exact e2.symm
  rw [hk, e0]
  exact congrArg _ hi

/-- A piece that is head `h` of tile `k` of sample `s`. -/
theorem good_head (x1 : Vec F S2x1x256 .f32) (Q : Vec F S2x256x2304 .f32) (s k : Fin 2) (h : Fin 12) (off : Fin 3 → ℕ)
    (inb : ∀ a, off a + (![1, 128, 64] : Fin 3 → ℕ) a ≤ S2x256x768.size a)
    (h0 : off 0 = s.val) (h1 : off 1 = 128 * k.val) (h2 : off 2 = 64 * h.val) (d : Vec F S1x128x64 .f32)
    (hd : d = headTile (biasOf x1 s) (qOf Q s k h) (kOf Q s h) (vOf Q s h)) :
    Good (headBlock x1 Q) ⟨Rect.unit (s := S2x256x768) off ![1, 128, 64] inb, d⟩ := by
  subst hd
  intro x
  have hx0 : (x 0).val < 1 := (x 0).isLt
  have hx1 : (x 1).val < 128 := (x 1).isLt
  have hx2 : (x 2).val < 64 := (x 2).isLt
  have e0 : ((Rect.unit (s := S2x256x768) off ![1, 128, 64] inb).emb x) 0 = s := Fin.ext (by
    show off 0 + 1 * (x 0).val = s.val
    omega)
  have e1 : (((Rect.unit (s := S2x256x768) off ![1, 128, 64] inb).emb x) 1).val = 128 * k.val + (x 1).val := by
    show off 1 + 1 * (x 1).val = _
    omega
  have e2 : (((Rect.unit (s := S2x256x768) off ![1, 128, 64] inb).emb x) 2).val = 64 * h.val + (x 2).val := by
    show off 2 + 1 * (x 2).val = _
    omega
  unfold headBlock
  have hk : (⟨(((Rect.unit (s := S2x256x768) off ![1, 128, 64] inb).emb x) 1).val / 128, by
      have := k.isLt; omega⟩ : Fin 2) = k := Fin.ext (by show _ / 128 = k.val; omega)
  have hh : (⟨(((Rect.unit (s := S2x256x768) off ![1, 128, 64] inb).emb x) 2).val / 64, by
      have := h.isLt; omega⟩ : Fin 12) = h := Fin.ext (by show _ / 64 = h.val; omega)
  have hi : x = ix3 0 ⟨(((Rect.unit (s := S2x256x768) off ![1, 128, 64] inb).emb x) 1).val % 128, Nat.mod_lt _ (by decide)⟩
      ⟨(((Rect.unit (s := S2x256x768) off ![1, 128, 64] inb).emb x) 2).val % 64, Nat.mod_lt _ (by decide)⟩ := by
    funext a
    fin_cases a
    · exact Fin.ext (by show (x 0).val = 0; omega)
    · exact Fin.ext (by show (x 1).val = _ % 128; omega)
    · exact Fin.ext (by show (x 2).val = _ % 64; omega)
  rw [hk, hh, e0]
  exact congrArg _ hi

/-- The pieces of the first scratch buffer, when they cover sample `s`: what a head loads, and so what it stores. -/
theorem head_of {arg3 : Memref sig .tc .vmem S2x1x256 .f32} (harg3 : arg3.IsWhole) (x1 : Vec F S2x1x256 .f32)
    (v : View sig .tc .vmem S2x256x2304 .f32) (L : List (View.Piece (Elt F) S2x256x2304 .f32)) (Q : Vec F S2x256x2304 .f32) (hg : ∀ p ∈ L, Good Q p)
    (s : Fin 2) (hc : ∀ j : S2x256x2304.Idx, (j 0).val = s.val → ∃ p ∈ L, j ∈ p.1.set) (k : Fin 2) (h : Fin 12)
    (ob oq ok ov : Fin 3 → ℕ) (ib : ∀ a, ob a + (![1, 1, 256] : Fin 3 → ℕ) a ≤ S2x1x256.size a)
    (iq : ∀ a, oq a + (![1, 128, 64] : Fin 3 → ℕ) a ≤ S2x256x2304.size a) (ik : ∀ a, ok a + (![1, 256, 64] : Fin 3 → ℕ) a ≤ S2x256x2304.size a)
    (iv : ∀ a, ov a + (![1, 256, 64] : Fin 3 → ℕ) a ≤ S2x256x2304.size a)
    (b0 : ob 0 = s.val) (b1 : ob 1 = 0) (b2 : ob 2 = 0)
    (q0 : oq 0 = s.val) (q1 : oq 1 = 128 * k.val) (q2 : oq 2 = 64 * h.val) (k0 : ok 0 = s.val) (k1 : ok 1 = 0) (k2 : ok 2 = 768 + 64 * h.val)
    (v0 : ov 0 = s.val) (v1 : ov 1 = 0) (v2 : ov 2 = 1536 + 64 * h.val) :
    headTile (View.readAt (Elt F) arg3.view (Rect.unit (s := S2x1x256) ob ![1, 1, 256] ib).toLoadRect (harg3.unread x1))
        (v.readCov L (Rect.unit (s := S2x256x2304) oq ![1, 128, 64] iq).toLoadRect) (v.readCov L (Rect.unit (s := S2x256x2304) ok ![1, 256, 64] ik).toLoadRect)
        (v.readCov L (Rect.unit (s := S2x256x2304) ov ![1, 256, 64] iv).toLoadRect)
      = headTile (biasOf x1 s) (qOf Q s k h) (kOf Q s h) (vOf Q s h) := by
  rw [load_bias harg3 x1 s ob ib b0 b1 b2, readCov_good v L (Rect.unit (s := S2x256x2304) oq ![1, 128, 64] iq) Q hg, readCov_good v L (Rect.unit (s := S2x256x2304) ok ![1, 256, 64] ik) Q hg,
    readCov_good v L (Rect.unit (s := S2x256x2304) ov ![1, 256, 64] iv) Q hg]
  · have eq : (fun x => Q ((Rect.unit (s := S2x256x2304) oq ![1, 128, 64] iq).emb x)) = qOf Q s k h := by
      funext x
      have hx0 : (x 0).val < 1 := (x 0).isLt
      refine congrArg Q (funext fun a => Fin.ext ?_)
      fin_cases a
      · show oq 0 + 1 * (x 0).val = s.val
        omega
      · show oq 1 + 1 * (x 1).val = 128 * k.val + (x 1).val
        omega
      · show oq 2 + 1 * (x 2).val = 64 * h.val + (x 2).val
        omega
    have ek : (fun x => Q ((Rect.unit (s := S2x256x2304) ok ![1, 256, 64] ik).emb x)) = kOf Q s h := by
      funext x
      have hx0 : (x 0).val < 1 := (x 0).isLt
      refine congrArg Q (funext fun a => Fin.ext ?_)
      fin_cases a
      · show ok 0 + 1 * (x 0).val = s.val
        omega
      · show ok 1 + 1 * (x 1).val = (x 1).val
        omega
      · show ok 2 + 1 * (x 2).val = 768 + 64 * h.val + (x 2).val
        omega
    have ev : (fun x => Q ((Rect.unit (s := S2x256x2304) ov ![1, 256, 64] iv).emb x)) = vOf Q s h := by
      funext x
      have hx0 : (x 0).val < 1 := (x 0).isLt
      refine congrArg Q (funext fun a => Fin.ext ?_)
      fin_cases a
      · show ov 0 + 1 * (x 0).val = s.val
        omega
      · show ov 1 + 1 * (x 1).val = (x 1).val
        omega
      · show ov 2 + 1 * (x 2).val = 1536 + 64 * h.val + (x 2).val
        omega
    exact congr (congr (congrArg (headTile (biasOf x1 s)) eq) ek) ev
  all_goals
    intro x
    refine hc _ ?_
    have hx0 : (x 0).val < 1 := (x 0).isLt
  · show ov 0 + 1 * (x 0).val = s.val
    omega
  · show ok 0 + 1 * (x 0).val = s.val
    omega
  · show oq 0 + 1 * (x 0).val = s.val
    omega

/-- The rows of the heads' results that the body loads for one tile, when the tile's twelve heads are among the pieces. -/
theorem load_heads (v : View sig .tc .vmem S2x256x768 .f32) (L : List (View.Piece (Elt F) S2x256x768 .f32)) (O : Vec F S2x256x768 .f32) (hg : ∀ p ∈ L, Good O p)
    (s k : Fin 2) (hc : ∀ h : Fin 12, ∃ p ∈ L, ∀ j : S2x256x768.Idx, (j 0).val = s.val → (j 1).val / 128 = k.val → (j 2).val / 64 = h.val → j ∈ p.1.set)
    (off : Fin 3 → ℕ) (inb : ∀ a, off a + (![1, 128, 768] : Fin 3 → ℕ) a ≤ S2x256x768.size a)
    (h0 : off 0 = s.val) (h1 : off 1 = 128 * k.val) (h2 : off 2 = 0) :
    v.readCov L (Rect.unit (s := S2x256x768) off ![1, 128, 768] inb).toLoadRect = rowsOf O s k := by
  rw [readCov_good v L (Rect.unit (s := S2x256x768) off ![1, 128, 768] inb) O hg]
  · funext x
    have hx0 : (x 0).val < 1 := (x 0).isLt
    refine congrArg O (funext fun a => Fin.ext ?_)
    fin_cases a
    · show off 0 + 1 * (x 0).val = s.val
      omega
    · show off 1 + 1 * (x 1).val = 128 * k.val + (x 1).val
      omega
    · show off 2 + 1 * (x 2).val = (x 2).val
      omega
  · intro x
    have hx0 : (x 0).val < 1 := (x 0).isLt
    have hx1 : (x 1).val < 128 := (x 1).isLt
    have hx2 : (x 2).val < 768 := (x 2).isLt
    obtain ⟨p, hp, hm⟩ := hc ⟨(x 2).val / 64, by omega⟩
    refine ⟨p, hp, hm _ ?_ ?_ ?_⟩
    · show off 0 + 1 * (x 0).val = s.val
      omega
    · show (off 1 + 1 * (x 1).val) / 128 = k.val
      omega
    · show (off 2 + 1 * (x 2).val) / 64 = (x 2).val / 64
      rw [h2, Nat.zero_add, Nat.one_mul]

end Cert.AttnIdeal.Run

end
-- ==== Proof.AttnBodyA.lean ====
/-
  The body of the attention call's ideal program at one grid point, in each of its four cases.
-/
module

public import proofs.«01_k».proof.Proof.AttnTiles
public import Idealize.ShloMosaic.Lib.ValueIdx

@[expose] public section

set_option maxRecDepth 16384

noncomputable section

namespace Cert.AttnIdeal.Run

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body in case A. -/
theorem body_A (c : Dev nD) (i : grid0.Coords) (arg2 : Memref sig .tc .vmem S2x256x768 .f32) (harg2 : arg2.IsWhole) (arg3 : Memref sig .tc .vmem S2x1x256 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S768x2304 .f32) (harg6 : arg6.IsWhole) (arg7 : Memref sig .tc .vmem S1x2304 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S2x256x768 .f32) (harg10 : arg10.IsWhole) (arg11 : Memref sig .tc .vmem S2x256x2304 .f32) (harg11 : arg11.IsWhole) (arg12 : Memref sig .tc .vmem S2x256x768 .f32) (harg12 : arg12.IsWhole)
    (x0 : Vec F S2x256x768 .f32) (x1 : Vec F S2x1x256 .f32) (x2 : Vec F S1x768 .f32) (x3 : Vec F S1x768 .f32) (x4 : Vec F S768x2304 .f32) (x5 : Vec F S1x2304 .f32) (x6 : Vec F S768x768 .f32) (x7 : Vec F S1x768 .f32) (xt0 : TbBuf0 (F := F) c tbM0_0) (hc0 : cond0_0 i (word0 i xt0)) (hc1 : cond0_1 i (word1 i xt0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ X, ⌜Written (outBlock x0 x1 x2 x3 x4 x5 x6 x7 (cond0_0 i (word0 i xt0)) (cond0_1 i (word1 i xt0))) X (cond0_0 i (word0 i xt0)) (cond0_1 i (word1 i xt0))⌝ ∗ owns (c : Thread nD τ) arg10 fullShare X) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_vit_attn i tbM0_0 htbM0_0 arg2 harg2 arg3 harg3 arg4 harg4 arg5 harg5 arg6 harg6 arg7 harg7 arg8 harg8 arg9 harg9 arg10 harg10 arg11 harg11 arg12 harg12) K := by
    intro E K
    have hz0 := not_zeroed hc0
    have hz1 := not_zeroed hc1
    simp only [cc0_vit_attn_eq_skeleton]; unfold cc0_vit_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hz0 | sl_exact hz1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap
      · iexists _; isplitr; swap; · iexact H8
        ipureintro; rfl
      ipureintro
      have hq : ∀ p ∈ (body_A.sl.H9_4 c arg2 harg2 arg4 harg4 arg5 harg5 arg6 harg6 arg7 harg7 x0 x2 x3 x4 x5), Good (qkvBlock x0 x2 x3 x4 x5 (cond0_0 i (word0 i xt0)) (cond0_1 i (word1 i xt0))) p := by
        have hw : ∀ (s k : Fin 2) (hk : Taken (cond0_0 i (word0 i xt0)) (cond0_1 i (word1 i xt0)) s k) (off : Fin 3 → ℕ) (inb : ∀ a, off a + (![1, 128, 2304] : Fin 3 → ℕ) a ≤ S2x256x2304.size a)
            (inb' : ∀ a, off a + (![1, 128, 768] : Fin 3 → ℕ) a ≤ S2x256x768.size a)
            (h0 : off 0 = s.val) (h1 : off 1 = 128 * k.val) (h2 : off 2 = 0),
            Good (qkvBlock x0 x2 x3 x4 x5 (cond0_0 i (word0 i xt0)) (cond0_1 i (word1 i xt0))) ⟨Rect.unit (s := S2x256x2304) off ![1, 128, 2304] inb,
              qkvTile (View.readAt (Elt F) arg2.view (Rect.unit (s := S2x256x768) off ![1, 128, 768] inb').toLoadRect (harg2.unread x0))
              (View.readAt (Elt F) arg4.view (Rect.unit (s := S1x768) ![0, 0] ![1, 768] inb_S1x768_S1x768_0_0).toLoadRect (harg4.unread x2))
              (View.readAt (Elt F) arg5.view (Rect.unit (s := S1x768) ![0, 0] ![1, 768] inb_S1x768_S1x768_0_0).toLoadRect (harg5.unread x3))
              (View.readAt (Elt F) arg6.view (Rect.unit (s := S768x2304) ![0, 0] ![768, 2304] inb_S768x2304_S768x2304_0_0).toLoadRect (harg6.unread x4))
              (View.readAt (Elt F) arg7.view (Rect.unit (s := S1x2304) ![0, 0] ![1, 2304] inb_S1x2304_S1x2304_0_0).toLoadRect (harg7.unread x5))⟩ := by
          intro s k hk off inb inb' h0 h1 h2
          refine good_tile _ s k off inb h0 h1 h2 _ ?_
          rw [load_rows harg2 x0 s k off inb' h0 h1 h2, load_whole harg4, load_whole harg5, load_whole harg6, load_whole harg7]
          exact (if_pos hk).symm
        have hz : ∀ (s k : Fin 2) (hk : ¬ Taken (cond0_0 i (word0 i xt0)) (cond0_1 i (word1 i xt0)) s k) (off : Fin 3 → ℕ) (inb : ∀ a, off a + (![1, 128, 2304] : Fin 3 → ℕ) a ≤ S2x256x2304.size a)
            (h0 : off 0 = s.val) (h1 : off 1 = 128 * k.val) (h2 : off 2 = 0),
            Good (qkvBlock x0 x2 x3 x4 x5 (cond0_0 i (word0 i xt0)) (cond0_1 i (word1 i xt0))) ⟨Rect.unit (s := S2x256x2304) off ![1, 128, 2304] inb, k0_pay58⟩ := by
          intro s k hk off inb h0 h1 h2
          exact good_tile _ s k off inb h0 h1 h2 _ (if_neg hk).symm
        refine List.forall_mem_cons.mpr ⟨?_, List.forall_mem_cons.mpr ⟨?_, List.forall_mem_cons.mpr ⟨?_, List.forall_mem_cons.mpr ⟨?_, fun _ h => absurd h List.not_mem_nil⟩⟩⟩⟩
        · exact hw 1 1 (Or.inr (Or.inr ⟨rfl, hc1⟩)) ![1, 128, 0] inb_S2x256x2304_S1x128x2304_1_128_0 inb_S2x256x768_S1x128x768_1_128_0 rfl rfl rfl
        · exact hw 1 0 (Or.inl rfl) ![1, 0, 0] inb_S2x256x2304_S1x128x2304_1_0_0 inb_S2x256x768_S1x128x768_1_0_0 rfl rfl rfl
        · exact hw 0 1 (Or.inr (Or.inl ⟨rfl, hc0⟩)) ![0, 128, 0] inb_S2x256x2304_S1x128x2304_0_128_0 inb_S2x256x768_S1x128x768_0_128_0 rfl rfl rfl
        · exact hw 0 0 (Or.inl rfl) ![0, 0, 0] inb_S2x256x2304_S1x128x2304_0_0_0 inb_S2x256x768_S1x128x768_0_0_0 rfl rfl rfl
      have hq0 : ∀ p ∈ (body_A.sl.H9_2 c arg2 harg2 arg4 harg4 arg5 harg5 arg6 harg6 arg7 harg7 x0 x2 x3 x4 x5), Good (qkvBlock x0 x2 x3 x4 x5 (cond0_0 i (word0 i xt0)) (cond0_1 i (word1 i xt0))) p :=
        fun p hp => hq p (List.mem_cons_of_mem _ (List.mem_cons_of_mem _ hp))
      have cov0 : ∀ j : S2x256x2304.Idx, (j 0).val = ((0 : Fin 2)).val → ∃ p ∈ (body_A.sl.H9_2 c arg2 harg2 arg4 harg4 arg5 harg5 arg6 harg6 arg7 harg7 x0 x2 x3 x4 x5), j ∈ p.1.set := by
        intro j hj
        have hj1 : (j 1).val < 256 := (j 1).isLt
        by_cases a1 : (j 1).val < 128
        · exact ⟨_, List.mem_cons_of_mem _ (List.mem_cons_self), mem_tile 0 0 ![0, 0, 0] inb_S2x256x2304_S1x128x2304_0_0_0 rfl rfl rfl j hj (by show _ / 128 = 0; omega)⟩
        · exact ⟨_, List.mem_cons_self, mem_tile 0 1 ![0, 128, 0] inb_S2x256x2304_S1x128x2304_0_128_0 rfl rfl rfl j hj (by show _ / 128 = 1; omega)⟩
      have cov1 : ∀ j : S2x256x2304.Idx, (j 0).val = ((1 : Fin 2)).val → ∃ p ∈ (body_A.sl.H9_4 c arg2 harg2 arg4 harg4 arg5 harg5 arg6 harg6 arg7 harg7 x0 x2 x3 x4 x5), j ∈ p.1.set := by
        intro j hj
        have hj1 : (j 1).val < 256 := (j 1).isLt
        by_cases a1 : (j 1).val < 128
        · exact ⟨_, List.mem_cons_of_mem _ (List.mem_cons_self), mem_tile 1 0 ![1, 0, 0] inb_S2x256x2304_S1x128x2304_1_0_0 rfl rfl rfl j hj (by show _ / 128 = 0; omega)⟩
        · exact ⟨_, List.mem_cons_self, mem_tile 1 1 ![1, 128, 0] inb_S2x256x2304_S1x128x2304_1_128_0 rfl rfl rfl j hj (by show _ / 128 = 1; omega)⟩
      have hh12 : ∀ p ∈ (body_A.sl.H10_12 c arg2 harg2 arg3 harg3 arg4 harg4 arg5 harg5 arg6 harg6 arg7 harg7 arg11 x0 x1 x2 x3 x4 x5), Good (headBlock x1 (qkvBlock x0 x2 x3 x4 x5 (cond0_0 i (word0 i xt0)) (cond0_1 i (word1 i xt0)))) p := by
        have hw : ∀ (h : Fin 12) (off oq ok ov : Fin 3 → ℕ) (inb : ∀ a, off a + (![1, 128, 64] : Fin 3 → ℕ) a ≤ S2x256x768.size a)
            (iq : ∀ a, oq a + (![1, 128, 64] : Fin 3 → ℕ) a ≤ S2x256x2304.size a) (ik : ∀ a, ok a + (![1, 256, 64] : Fin 3 → ℕ) a ≤ S2x256x2304.size a)
            (iv : ∀ a, ov a + (![1, 256, 64] : Fin 3 → ℕ) a ≤ S2x256x2304.size a)
            (h0 : off 0 = (0 : Fin 2).val) (h1 : off 1 = 128 * (0 : Fin 2).val) (h2 : off 2 = 64 * h.val)
            (q0 : oq 0 = (0 : Fin 2).val) (q1 : oq 1 = 128 * (0 : Fin 2).val) (q2 : oq 2 = 64 * h.val) (k0 : ok 0 = (0 : Fin 2).val) (k1 : ok 1 = 0) (k2 : ok 2 = 768 + 64 * h.val)
            (v0 : ov 0 = (0 : Fin 2).val) (v1 : ov 1 = 0) (v2 : ov 2 = 1536 + 64 * h.val),
            Good (headBlock x1 (qkvBlock x0 x2 x3 x4 x5 (cond0_0 i (word0 i xt0)) (cond0_1 i (word1 i xt0)))) ⟨Rect.unit (s := S2x256x768) off ![1, 128, 64] inb,
              headTile (View.readAt (Elt F) arg3.view (Rect.unit (s := S2x1x256) ![0, 0, 0] ![1, 1, 256] inb_S2x1x256_S1x1x256_0_0_0).toLoadRect (harg3.unread x1))
              (arg11.view.readCov (body_A.sl.H9_2 c arg2 harg2 arg4 harg4 arg5 harg5 arg6 harg6 arg7 harg7 x0 x2 x3 x4 x5) (Rect.unit (s := S2x256x2304) oq ![1, 128, 64] iq).toLoadRect)
              (arg11.view.readCov (body_A.sl.H9_2 c arg2 harg2 arg4 harg4 arg5 harg5 arg6 harg6 arg7 harg7 x0 x2 x3 x4 x5) (Rect.unit (s := S2x256x2304) ok ![1, 256, 64] ik).toLoadRect)
              (arg11.view.readCov (body_A.sl.H9_2 c arg2 harg2 arg4 harg4 arg5 harg5 arg6 harg6 arg7 harg7 x0 x2 x3 x4 x5) (Rect.unit (s := S2x256x2304) ov ![1, 256, 64] iv).toLoadRect)⟩ :=
          fun h off oq ok ov inb iq ik iv h0 h1 h2 q0 q1 q2 k0 k1 k2 v0 v1 v2 => good_head x1 _ 0 0 h off inb h0 h1 h2 _
            (head_of harg3 x1 arg11.view (body_A.sl.H9_2 c arg2 harg2 arg4 harg4 arg5 harg5 arg6 harg6 arg7 harg7 x0 x2 x3 x4 x5) _ hq0 0 cov0 0 h ![0, 0, 0] oq ok ov _ iq ik iv rfl rfl rfl q0 q1 q2 k0 k1 k2 v0 v1 v2)
        refine List.forall_mem_cons.mpr ⟨hw 11 ![0, 0, 704] ![0, 0, 704] ![0, 0, 1472] ![0, 0, 2240] inb_S2x256x768_S1x128x64_0_0_704 inb_S2x256x2304_S1x128x64_0_0_704 inb_S2x256x2304_S1x256x64_0_0_1472 inb_S2x256x2304_S1x256x64_0_0_2240 rfl rfl rfl rfl rfl rfl rfl rfl rfl rfl rfl rfl, ?_⟩
        refine List.forall_mem_cons.mpr ⟨hw 10 ![0, 0, 640] ![0, 0, 640] ![0, 0, 1408] ![0, 0, 2176] inb_S2x256x768_S1x128x64_0_0_640 inb_S2x256x2304_S1x128x64_0_0_640 inb_S2x256x2304_S1x256x64_0_0_1408 inb_S2x256x2304_S1x256x64_0_0_2176 rfl rfl rfl rfl rfl rfl rfl rfl rfl rfl rfl rfl, ?_⟩
        refine List.forall_mem_cons.mpr ⟨hw 9 ![0, 0, 576] ![0, 0, 576] ![0, 0, 1344] ![0, 0, 2112] inb_S2x256x768_S1x128x64_0_0_576 inb_S2x256x2304_S1x128x64_0_0_576 inb_S2x256x2304_S1x256x64_0_0_1344 inb_S2x256x2304_S1x256x64_0_0_2112 rfl rfl rfl rfl rfl rfl rfl rfl rfl rfl rfl rfl, ?_⟩
        refine List.forall_mem_cons.mpr ⟨hw 8 ![0, 0, 512] ![0, 0, 512] ![0, 0, 1280] ![0, 0, 2048] inb_S2x256x768_S1x128x64_0_0_512 inb_S2x256x2304_S1x128x64_0_0_512 inb_S2x256x2304_S1x256x64_0_0_1280 inb_S2x256x2304_S1x256x64_0_0_2048 rfl rfl rfl rfl rfl rfl rfl rfl rfl rfl rfl rfl, ?_⟩
        refine List.forall_mem_cons.mpr ⟨hw 7 ![0, 0, 448] ![0, 0, 448] ![0, 0, 1216] ![0, 0, 1984] inb_S2x256x768_S1x128x64_0_0_448 inb_S2x256x2304_S1x128x64_0_0_448 inb_S2x256x2304_S1x256x64_0_0_1216 inb_S2x256x2304_S1x256x64_0_0_1984 rfl rfl rfl rfl rfl rfl rfl rfl rfl rfl rfl rfl, ?_⟩
        refine List.forall_mem_cons.mpr ⟨hw 6 ![0, 0, 384] ![0, 0, 384] ![0, 0, 1152] ![0, 0, 1920] inb_S2x256x768_S1x128x64_0_0_384 inb_S2x256x2304_S1x128x64_0_0_384 inb_S2x256x2304_S1x256x64_0_0_1152 inb_S2x256x2304_S1x256x64_0_0_1920 rfl rfl rfl rfl rfl rfl rfl rfl rfl rfl rfl rfl, ?_⟩
        refine List.forall_mem_cons.mpr ⟨hw 5 ![0, 0, 320] ![0, 0, 320] ![0, 0, 1088] ![0, 0, 1856] inb_S2x256x768_S1x128x64_0_0_320 inb_S2x256x2304_S1x128x64_0_0_320 inb_S2x256x2304_S1x256x64_0_0_1088 inb_S2x256x2304_S1x256x64_0_0_1856 rfl rfl rfl rfl rfl rfl rfl rfl rfl rfl rfl rfl, ?_⟩
        refine List.forall_mem_cons.mpr ⟨hw 4 ![0, 0, 256] ![0, 0, 256] ![0, 0, 1024] ![0, 0, 1792] inb_S2x256x768_S1x128x64_0_0_256 inb_S2x256x2304_S1x128x64_0_0_256 inb_S2x256x2304_S1x256x64_0_0_1024 inb_S2x256x2304_S1x256x64_0_0_1792 rfl rfl rfl rfl rfl rfl rfl rfl rfl rfl rfl rfl, ?_⟩
        refine List.forall_mem_cons.mpr ⟨hw 3 ![0, 0, 192] ![0, 0, 192] ![0, 0, 960] ![0, 0, 1728] inb_S2x256x768_S1x128x64_0_0_192 inb_S2x256x2304_S1x128x64_0_0_192 inb_S2x256x2304_S1x256x64_0_0_960 inb_S2x256x2304_S1x256x64_0_0_1728 rfl rfl rfl rfl rfl rfl rfl rfl rfl rfl rfl rfl, ?_⟩
        refine List.forall_mem_cons.mpr ⟨hw 2 ![0, 0, 128] ![0, 0, 128] ![0, 0, 896] ![0, 0, 1664] inb_S2x256x768_S1x128x64_0_0_128 inb_S2x256x2304_S1x128x64_0_0_128 inb_S2x256x2304_S1x256x64_0_0_896 inb_S2x256x2304_S1x256x64_0_0_1664 rfl rfl rfl rfl rfl rfl rfl rfl rfl rfl rfl rfl, ?_⟩
        refine List.forall_mem_cons.mpr ⟨hw 1 ![0, 0, 64] ![0, 0, 64] ![0, 0, 832] ![0, 0, 1600] inb_S2x256x768_S1x128x64_0_0_64 inb_S2x256x2304_S1x128x64_0_0_64 inb_S2x256x2304_S1x256x64_0_0_832 inb_S2x256x2304_S1x256x64_0_0_1600 rfl rfl rfl rfl rfl rfl rfl rfl rfl rfl rfl rfl, ?_⟩
        refine List.forall_mem_cons.mpr ⟨hw 0 ![0, 0, 0] ![0, 0, 0] ![0, 0, 768] ![0, 0, 1536] inb_S2x256x768_S1x128x64_0_0_0 inb_S2x256x2304_S1x128x64_0_0_0 inb_S2x256x2304_S1x256x64_0_0_768 inb_S2x256x2304_S1x256x64_0_0_1536 rfl rfl rfl rfl rfl rfl rfl rfl rfl rfl rfl rfl, ?_⟩
        exact fun _ h => absurd h List.not_mem_nil
      have cv12 : ∀ h : Fin 12, ∃ p ∈ (body_A.sl.H10_12 c arg2 harg2 arg3 harg3 arg4 harg4 arg5 harg5 arg6 harg6 arg7 harg7 arg11 x0 x1 x2 x3 x4 x5), ∀ j : S2x256x768.Idx, (j 0).val = (0 : Fin 2).val → (j 1).val / 128 = (0 : Fin 2).val → (j 2).val / 64 = h.val → j ∈ p.1.set := by
        intro h
        fin_cases h
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_head 0 0 0 ![0, 0, 0] inb_S2x256x768_S1x128x64_0_0_0 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_head 0 0 1 ![0, 0, 64] inb_S2x256x768_S1x128x64_0_0_64 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_head 0 0 2 ![0, 0, 128] inb_S2x256x768_S1x128x64_0_0_128 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_head 0 0 3 ![0, 0, 192] inb_S2x256x768_S1x128x64_0_0_192 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_head 0 0 4 ![0, 0, 256] inb_S2x256x768_S1x128x64_0_0_256 rfl rfl rfl⟩
        · exact ⟨_, List.mem_cons_of_mem _ (List.mem_cons_of_mem _ (List.mem_cons_of_mem _ (List.mem_cons_of_mem _ (List.mem_cons_of_mem _ (List.mem_cons_of_mem _ (List.mem_cons_self)))))), mem_head 0 0 5 ![0, 0, 320] inb_S2x256x768_S1x128x64_0_0_320 rfl rfl rfl⟩
        · exact ⟨_, List.mem_cons_of_mem _ (List.mem_cons_of_mem _ (List.mem_cons_of_mem _ (List.mem_cons_of_mem _ (List.mem_cons_of_mem _ (List.mem_cons_self))))), mem_head 0 0 6 ![0, 0, 384] inb_S2x256x768_S1x128x64_0_0_384 rfl rfl rfl⟩
        · exact ⟨_, List.mem_cons_of_mem _ (List.mem_cons_of_mem _ (List.mem_cons_of_mem _ (List.mem_cons_of_mem _ (List.mem_cons_self)))), mem_head 0 0 7 ![0, 0, 448] inb_S2x256x768_S1x128x64_0_0_448 rfl rfl rfl⟩
        · exact ⟨_, List.mem_cons_of_mem _ (List.mem_cons_of_mem _ (List.mem_cons_of_mem _ (List.mem_cons_self))), mem_head 0 0 8 ![0, 0, 512] inb_S2x256x768_S1x128x64_0_0_512 rfl rfl rfl⟩
        · exact ⟨_, List.mem_cons_of_mem _ (List.mem_cons_of_mem _ (List.mem_cons_self)), mem_head 0 0 9 ![0, 0, 576] inb_S2x256x768_S1x128x64_0_0_576 rfl rfl rfl⟩
        · exact ⟨_, List.mem_cons_of_mem _ (List.mem_cons_self), mem_head 0 0 10 ![0, 0, 640] inb_S2x256x768_S1x128x64_0_0_640 rfl rfl rfl⟩
        · exact ⟨_, List.mem_cons_self, mem_head 0 0 11 ![0, 0, 704] inb_S2x256x768_S1x128x64_0_0_704 rfl rfl rfl⟩
      have hh24 : ∀ p ∈ (body_A.sl.H10_24 c arg2 harg2 arg3 harg3 arg4 harg4 arg5 harg5 arg6 harg6 arg7 harg7 arg11 x0 x1 x2 x3 x4 x5), Good (headBlock x1 (qkvBlock x0 x2 x3 x4 x5 (cond0_0 i (word0 i xt0)) (cond0_1 i (word1 i xt0)))) p := by
        have hw : ∀ (h : Fin 12) (off oq ok ov : Fin 3 → ℕ) (inb : ∀ a, off a + (![1, 128, 64] : Fin 3 → ℕ) a ≤ S2x256x768.size a)
            (iq : ∀ a, oq a + (![1, 128, 64] : Fin 3 → ℕ) a ≤ S2x256x2304.size a) (ik : ∀ a, ok a + (![1, 256, 64] : Fin 3 → ℕ) a ≤ S2x256x2304.size a)
            (iv : ∀ a, ov a + (![1, 256, 64] : Fin 3 → ℕ) a ≤ S2x256x2304.size a)
            (h0 : off 0 = (0 : Fin 2).val) (h1 : off 1 = 128 * (1 : Fin 2).val) (h2 : off 2 = 64 * h.val)
            (q0 : oq 0 = (0 : Fin 2).val) (q1 : oq 1 = 128 * (1 : Fin 2).val) (q2 : oq 2 = 64 * h.val) (k0 : ok 0 = (0 : Fin 2).val) (k1 : ok 1 = 0) (k2 : ok 2 = 768 + 64 * h.val)
            (v0 : ov 0 = (0 : Fin 2).val) (v1 : ov 1 = 0) (v2 : ov 2 = 1536 + 64 * h.val),
            Good (headBlock x1 (qkvBlock x0 x2 x3 x4 x5 (cond0_0 i (word0 i xt0)) (cond0_1 i (word1 i xt0)))) ⟨Rect.unit (s := S2x256x768) off ![1, 128, 64] inb,
              headTile (View.readAt (Elt F) arg3.view (Rect.unit (s := S2x1x256) ![0, 0, 0] ![1, 1, 256] inb_S2x1x256_S1x1x256_0_0_0).toLoadRect (harg3.unread x1))
              (arg11.view.readCov (body_A.sl.H9_2 c arg2 harg2 arg4 harg4 arg5 harg5 arg6 harg6 arg7 harg7 x0 x2 x3 x4 x5) (Rect.unit (s := S2x256x2304) oq ![1, 128, 64] iq).toLoadRect)
              (arg11.view.readCov (body_A.sl.H9_2 c arg2 harg2 arg4 harg4 arg5 harg5 arg6 harg6 arg7 harg7 x0 x2 x3 x4 x5) (Rect.unit (s := S2x256x2304) ok ![1, 256, 64] ik).toLoadRect)
              (arg11.view.readCov (body_A.sl.H9_2 c arg2 harg2 arg4 harg4 arg5 harg5 arg6 harg6 arg7 harg7 x0 x2 x3 x4 x5) (Rect.unit (s := S2x256x2304) ov ![1, 256, 64] iv).toLoadRect)⟩ :=
          fun h off oq ok ov inb iq ik iv h0 h1 h2 q0 q1 q2 k0 k1 k2 v0 v1 v2 => good_head x1 _ 0 1 h off inb h0 h1 h2 _
            (head_of harg3 x1 arg11.view (body_A.sl.H9_2 c arg2 harg2 arg4 harg4 arg5 harg5 arg6 harg6 arg7 harg7 x0 x2 x3 x4 x5) _ hq0 0 cov0 1 h ![0, 0, 0] oq ok ov _ iq ik iv rfl rfl rfl q0 q1 q2 k0 k1 k2 v0 v1 v2)
        refine List.forall_mem_cons.mpr ⟨hw 11 ![0, 128, 704] ![0, 128, 704] ![0, 0, 1472] ![0, 0, 2240] inb_S2x256x768_S1x128x64_0_128_704 inb_S2x256x2304_S1x128x64_0_128_704 inb_S2x256x2304_S1x256x64_0_0_1472 inb_S2x256x2304_S1x256x64_0_0_2240 rfl rfl rfl rfl rfl rfl rfl rfl rfl rfl rfl rfl, ?_⟩
        refine List.forall_mem_cons.mpr ⟨hw 10 ![0, 128, 640] ![0, 128, 640] ![0, 0, 1408] ![0, 0, 2176] inb_S2x256x768_S1x128x64_0_128_640 inb_S2x256x2304_S1x128x64_0_128_640 inb_S2x256x2304_S1x256x64_0_0_1408 inb_S2x256x2304_S1x256x64_0_0_2176 rfl rfl rfl rfl rfl rfl rfl rfl rfl rfl rfl rfl, ?_⟩
        refine List.forall_mem_cons.mpr ⟨hw 9 ![0, 128, 576] ![0, 128, 576] ![0, 0, 1344] ![0, 0, 2112] inb_S2x256x768_S1x128x64_0_128_576 inb_S2x256x2304_S1x128x64_0_128_576 inb_S2x256x2304_S1x256x64_0_0_1344 inb_S2x256x2304_S1x256x64_0_0_2112 rfl rfl rfl rfl rfl rfl rfl rfl rfl rfl rfl rfl, ?_⟩
        refine List.forall_mem_cons.mpr ⟨hw 8 ![0, 128, 512] ![0, 128, 512] ![0, 0, 1280] ![0, 0, 2048] inb_S2x256x768_S1x128x64_0_128_512 inb_S2x256x2304_S1x128x64_0_128_512 inb_S2x256x2304_S1x256x64_0_0_1280 inb_S2x256x2304_S1x256x64_0_0_2048 rfl rfl rfl rfl rfl rfl rfl rfl rfl rfl rfl rfl, ?_⟩
        refine List.forall_mem_cons.mpr ⟨hw 7 ![0, 128, 448] ![0, 128, 448] ![0, 0, 1216] ![0, 0, 1984] inb_S2x256x768_S1x128x64_0_128_448 inb_S2x256x2304_S1x128x64_0_128_448 inb_S2x256x2304_S1x256x64_0_0_1216 inb_S2x256x2304_S1x256x64_0_0_1984 rfl rfl rfl rfl rfl rfl rfl rfl rfl rfl rfl rfl, ?_⟩
        refine List.forall_mem_cons.mpr ⟨hw 6 ![0, 128, 384] ![0, 128, 384] ![0, 0, 1152] ![0, 0, 1920] inb_S2x256x768_S1x128x64_0_128_384 inb_S2x256x2304_S1x128x64_0_128_384 inb_S2x256x2304_S1x256x64_0_0_1152 inb_S2x256x2304_S1x256x64_0_0_1920 rfl rfl rfl rfl rfl rfl rfl rfl rfl rfl rfl rfl, ?_⟩
        refine List.forall_mem_cons.mpr ⟨hw 5 ![0, 128, 320] ![0, 128, 320] ![0, 0, 1088] ![0, 0, 1856] inb_S2x256x768_S1x128x64_0_128_320 inb_S2x256x2304_S1x128x64_0_128_320 inb_S2x256x2304_S1x256x64_0_0_1088 inb_S2x256x2304_S1x256x64_0_0_1856 rfl rfl rfl rfl rfl rfl rfl rfl rfl rfl rfl rfl, ?_⟩
        refine List.forall_mem_cons.mpr ⟨hw 4 ![0, 128, 256] ![0, 128, 256] ![0, 0, 1024] ![0, 0, 1792] inb_S2x256x768_S1x128x64_0_128_256 inb_S2x256x2304_S1x128x64_0_128_256 inb_S2x256x2304_S1x256x64_0_0_1024 inb_S2x256x2304_S1x256x64_0_0_1792 rfl rfl rfl rfl rfl rfl rfl rfl rfl rfl rfl rfl, ?_⟩
        refine List.forall_mem_cons.mpr ⟨hw 3 ![0, 128, 192] ![0, 128, 192] ![0, 0, 960] ![0, 0, 1728] inb_S2x256x768_S1x128x64_0_128_192 inb_S2x256x2304_S1x128x64_0_128_192 inb_S2x256x2304_S1x256x64_0_0_960 inb_S2x256x2304_S1x256x64_0_0_1728 rfl rfl rfl rfl rfl rfl rfl rfl rfl rfl rfl rfl, ?_⟩
        refine List.forall_mem_cons.mpr ⟨hw 2 ![0, 128, 128] ![0, 128, 128] ![0, 0, 896] ![0, 0, 1664] inb_S2x256x768_S1x128x64_0_128_128 inb_S2x256x2304_S1x128x64_0_128_128 inb_S2x256x2304_S1x256x64_0_0_896 inb_S2x256x2304_S1x256x64_0_0_1664 rfl rfl rfl rfl rfl rfl rfl rfl rfl rfl rfl rfl, ?_⟩
        refine List.forall_mem_cons.mpr ⟨hw 1 ![0, 128, 64] ![0, 128, 64] ![0, 0, 832] ![0, 0, 1600] inb_S2x256x768_S1x128x64_0_128_64 inb_S2x256x2304_S1x128x64_0_128_64 inb_S2x256x2304_S1x256x64_0_0_832 inb_S2x256x2304_S1x256x64_0_0_1600 rfl rfl rfl rfl rfl rfl rfl rfl rfl rfl rfl rfl, ?_⟩
        refine List.forall_mem_cons.mpr ⟨hw 0 ![0, 128, 0] ![0, 128, 0] ![0, 0, 768] ![0, 0, 1536] inb_S2x256x768_S1x128x64_0_128_0 inb_S2x256x2304_S1x128x64_0_128_0 inb_S2x256x2304_S1x256x64_0_0_768 inb_S2x256x2304_S1x256x64_0_0_1536 rfl rfl rfl rfl rfl rfl rfl rfl rfl rfl rfl rfl, ?_⟩
        exact hh12
      have cv24 : ∀ h : Fin 12, ∃ p ∈ (body_A.sl.H10_24 c arg2 harg2 arg3 harg3 arg4 harg4 arg5 harg5 arg6 harg6 arg7 harg7 arg11 x0 x1 x2 x3 x4 x5), ∀ j : S2x256x768.Idx, (j 0).val = (0 : Fin 2).val → (j 1).val / 128 = (1 : Fin 2).val → (j 2).val / 64 = h.val → j ∈ p.1.set := by
        intro h
        fin_cases h
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_head 0 1 0 ![0, 128, 0] inb_S2x256x768_S1x128x64_0_128_0 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_head 0 1 1 ![0, 128, 64] inb_S2x256x768_S1x128x64_0_128_64 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_head 0 1 2 ![0, 128, 128] inb_S2x256x768_S1x128x64_0_128_128 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_head 0 1 3 ![0, 128, 192] inb_S2x256x768_S1x128x64_0_128_192 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_head 0 1 4 ![0, 128, 256] inb_S2x256x768_S1x128x64_0_128_256 rfl rfl rfl⟩
        · exact ⟨_, List.mem_cons_of_mem _ (List.mem_cons_of_mem _ (List.mem_cons_of_mem _ (List.mem_cons_of_mem _ (List.mem_cons_of_mem _ (List.mem_cons_of_mem _ (List.mem_cons_self)))))), mem_head 0 1 5 ![0, 128, 320] inb_S2x256x768_S1x128x64_0_128_320 rfl rfl rfl⟩
        · exact ⟨_, List.mem_cons_of_mem _ (List.mem_cons_of_mem _ (List.mem_cons_of_mem _ (List.mem_cons_of_mem _ (List.mem_cons_of_mem _ (List.mem_cons_self))))), mem_head 0 1 6 ![0, 128, 384] inb_S2x256x768_S1x128x64_0_128_384 rfl rfl rfl⟩
        · exact ⟨_, List.mem_cons_of_mem _ (List.mem_cons_of_mem _ (List.mem_cons_of_mem _ (List.mem_cons_of_mem _ (List.mem_cons_self)))), mem_head 0 1 7 ![0, 128, 448] inb_S2x256x768_S1x128x64_0_128_448 rfl rfl rfl⟩
        · exact ⟨_, List.mem_cons_of_mem _ (List.mem_cons_of_mem _ (List.mem_cons_of_mem _ (List.mem_cons_self))), mem_head 0 1 8 ![0, 128, 512] inb_S2x256x768_S1x128x64_0_128_512 rfl rfl rfl⟩
        · exact ⟨_, List.mem_cons_of_mem _ (List.mem_cons_of_mem _ (List.mem_cons_self)), mem_head 0 1 9 ![0, 128, 576] inb_S2x256x768_S1x128x64_0_128_576 rfl rfl rfl⟩
        · exact ⟨_, List.mem_cons_of_mem _ (List.mem_cons_self), mem_head 0 1 10 ![0, 128, 640] inb_S2x256x768_S1x128x64_0_128_640 rfl rfl rfl⟩
        · exact ⟨_, List.mem_cons_self, mem_head 0 1 11 ![0, 128, 704] inb_S2x256x768_S1x128x64_0_128_704 rfl rfl rfl⟩
      have hh36 : ∀ p ∈ (body_A.sl.H10_36 c arg2 harg2 arg3 harg3 arg4 harg4 arg5 harg5 arg6 harg6 arg7 harg7 arg11 x0 x1 x2 x3 x4 x5), Good (headBlock x1 (qkvBlock x0 x2 x3 x4 x5 (cond0_0 i (word0 i xt0)) (cond0_1 i (word1 i xt0)))) p := by
        have hw : ∀ (h : Fin 12) (off oq ok ov : Fin 3 → ℕ) (inb : ∀ a, off a + (![1, 128, 64] : Fin 3 → ℕ) a ≤ S2x256x768.size a)
            (iq : ∀ a, oq a + (![1, 128, 64] : Fin 3 → ℕ) a ≤ S2x256x2304.size a) (ik : ∀ a, ok a + (![1, 256, 64] : Fin 3 → ℕ) a ≤ S2x256x2304.size a)
            (iv : ∀ a, ov a + (![1, 256, 64] : Fin 3 → ℕ) a ≤ S2x256x2304.size a)
            (h0 : off 0 = (1 : Fin 2).val) (h1 : off 1 = 128 * (0 : Fin 2).val) (h2 : off 2 = 64 * h.val)
            (q0 : oq 0 = (1 : Fin 2).val) (q1 : oq 1 = 128 * (0 : Fin 2).val) (q2 : oq 2 = 64 * h.val) (k0 : ok 0 = (1 : Fin 2).val) (k1 : ok 1 = 0) (k2 : ok 2 = 768 + 64 * h.val)
            (v0 : ov 0 = (1 : Fin 2).val) (v1 : ov 1 = 0) (v2 : ov 2 = 1536 + 64 * h.val),
            Good (headBlock x1 (qkvBlock x0 x2 x3 x4 x5 (cond0_0 i (word0 i xt0)) (cond0_1 i (word1 i xt0)))) ⟨Rect.unit (s := S2x256x768) off ![1, 128, 64] inb,
              headTile (View.readAt (Elt F) arg3.view (Rect.unit (s := S2x1x256) ![1, 0, 0] ![1, 1, 256] inb_S2x1x256_S1x1x256_1_0_0).toLoadRect (harg3.unread x1))
              (arg11.view.readCov (body_A.sl.H9_4 c arg2 harg2 arg4 harg4 arg5 harg5 arg6 harg6 arg7 harg7 x0 x2 x3 x4 x5) (Rect.unit (s := S2x256x2304) oq ![1, 128, 64] iq).toLoadRect)
              (arg11.view.readCov (body_A.sl.H9_4 c arg2 harg2 arg4 harg4 arg5 harg5 arg6 harg6 arg7 harg7 x0 x2 x3 x4 x5) (Rect.unit (s := S2x256x2304) ok ![1, 256, 64] ik).toLoadRect)
              (arg11.view.readCov (body_A.sl.H9_4 c arg2 harg2 arg4 harg4 arg5 harg5 arg6 harg6 arg7 harg7 x0 x2 x3 x4 x5) (Rect.unit (s := S2x256x2304) ov ![1, 256, 64] iv).toLoadRect)⟩ :=
          fun h off oq ok ov inb iq ik iv h0 h1 h2 q0 q1 q2 k0 k1 k2 v0 v1 v2 => good_head x1 _ 1 0 h off inb h0 h1 h2 _
            (head_of harg3 x1 arg11.view (body_A.sl.H9_4 c arg2 harg2 arg4 harg4 arg5 harg5 arg6 harg6 arg7 harg7 x0 x2 x3 x4 x5) _ hq 1 cov1 0 h ![1, 0, 0] oq ok ov _ iq ik iv rfl rfl rfl q0 q1 q2 k0 k1 k2 v0 v1 v2)
        refine List.forall_mem_cons.mpr ⟨hw 11 ![1, 0, 704] ![1, 0, 704] ![1, 0, 1472] ![1, 0, 2240] inb_S2x256x768_S1x128x64_1_0_704 inb_S2x256x2304_S1x128x64_1_0_704 inb_S2x256x2304_S1x256x64_1_0_1472 inb_S2x256x2304_S1x256x64_1_0_2240 rfl rfl rfl rfl rfl rfl rfl rfl rfl rfl rfl rfl, ?_⟩
        refine List.forall_mem_cons.mpr ⟨hw 10 ![1, 0, 640] ![1, 0, 640] ![1, 0, 1408] ![1, 0, 2176] inb_S2x256x768_S1x128x64_1_0_640 inb_S2x256x2304_S1x128x64_1_0_640 inb_S2x256x2304_S1x256x64_1_0_1408 inb_S2x256x2304_S1x256x64_1_0_2176 rfl rfl rfl rfl rfl rfl rfl rfl rfl rfl rfl rfl, ?_⟩
        refine List.forall_mem_cons.mpr ⟨hw 9 ![1, 0, 576] ![1, 0, 576] ![1, 0, 1344] ![1, 0, 2112] inb_S2x256x768_S1x128x64_1_0_576 inb_S2x256x2304_S1x128x64_1_0_576 inb_S2x256x2304_S1x256x64_1_0_1344 inb_S2x256x2304_S1x256x64_1_0_2112 rfl rfl rfl rfl rfl rfl rfl rfl rfl rfl rfl rfl, ?_⟩
        refine List.forall_mem_cons.mpr ⟨hw 8 ![1, 0, 512] ![1, 0, 512] ![1, 0, 1280] ![1, 0, 2048] inb_S2x256x768_S1x128x64_1_0_512 inb_S2x256x2304_S1x128x64_1_0_512 inb_S2x256x2304_S1x256x64_1_0_1280 inb_S2x256x2304_S1x256x64_1_0_2048 rfl rfl rfl rfl rfl rfl rfl rfl rfl rfl rfl rfl, ?_⟩
        refine List.forall_mem_cons.mpr ⟨hw 7 ![1, 0, 448] ![1, 0, 448] ![1, 0, 1216] ![1, 0, 1984] inb_S2x256x768_S1x128x64_1_0_448 inb_S2x256x2304_S1x128x64_1_0_448 inb_S2x256x2304_S1x256x64_1_0_1216 inb_S2x256x2304_S1x256x64_1_0_1984 rfl rfl rfl rfl rfl rfl rfl rfl rfl rfl rfl rfl, ?_⟩
        refine List.forall_mem_cons.mpr ⟨hw 6 ![1, 0, 384] ![1, 0, 384] ![1, 0, 1152] ![1, 0, 1920] inb_S2x256x768_S1x128x64_1_0_384 inb_S2x256x2304_S1x128x64_1_0_384 inb_S2x256x2304_S1x256x64_1_0_1152 inb_S2x256x2304_S1x256x64_1_0_1920 rfl rfl rfl rfl rfl rfl rfl rfl rfl rfl rfl rfl, ?_⟩
        refine List.forall_mem_cons.mpr ⟨hw 5 ![1, 0, 320] ![1, 0, 320] ![1, 0, 1088] ![1, 0, 1856] inb_S2x256x768_S1x128x64_1_0_320 inb_S2x256x2304_S1x128x64_1_0_320 inb_S2x256x2304_S1x256x64_1_0_1088 inb_S2x256x2304_S1x256x64_1_0_1856 rfl rfl rfl rfl rfl rfl rfl rfl rfl rfl rfl rfl, ?_⟩
        refine List.forall_mem_cons.mpr ⟨hw 4 ![1, 0, 256] ![1, 0, 256] ![1, 0, 1024] ![1, 0, 1792] inb_S2x256x768_S1x128x64_1_0_256 inb_S2x256x2304_S1x128x64_1_0_256 inb_S2x256x2304_S1x256x64_1_0_1024 inb_S2x256x2304_S1x256x64_1_0_1792 rfl rfl rfl rfl rfl rfl rfl rfl rfl rfl rfl rfl, ?_⟩
        refine List.forall_mem_cons.mpr ⟨hw 3 ![1, 0, 192] ![1, 0, 192] ![1, 0, 960] ![1, 0, 1728] inb_S2x256x768_S1x128x64_1_0_192 inb_S2x256x2304_S1x128x64_1_0_192 inb_S2x256x2304_S1x256x64_1_0_960 inb_S2x256x2304_S1x256x64_1_0_1728 rfl rfl rfl rfl rfl rfl rfl rfl rfl rfl rfl rfl, ?_⟩
        refine List.forall_mem_cons.mpr ⟨hw 2 ![1, 0, 128] ![1, 0, 128] ![1, 0, 896] ![1, 0, 1664] inb_S2x256x768_S1x128x64_1_0_128 inb_S2x256x2304_S1x128x64_1_0_128 inb_S2x256x2304_S1x256x64_1_0_896 inb_S2x256x2304_S1x256x64_1_0_1664 rfl rfl rfl rfl rfl rfl rfl rfl rfl rfl rfl rfl, ?_⟩
        refine List.forall_mem_cons.mpr ⟨hw 1 ![1, 0, 64] ![1, 0, 64] ![1, 0, 832] ![1, 0, 1600] inb_S2x256x768_S1x128x64_1_0_64 inb_S2x256x2304_S1x128x64_1_0_64 inb_S2x256x2304_S1x256x64_1_0_832 inb_S2x256x2304_S1x256x64_1_0_1600 rfl rfl rfl rfl rfl rfl rfl rfl rfl rfl rfl rfl, ?_⟩
        refine List.forall_mem_cons.mpr ⟨hw 0 ![1, 0, 0] ![1, 0, 0] ![1, 0, 768] ![1, 0, 1536] inb_S2x256x768_S1x128x64_1_0_0 inb_S2x256x2304_S1x128x64_1_0_0 inb_S2x256x2304_S1x256x64_1_0_768 inb_S2x256x2304_S1x256x64_1_0_1536 rfl rfl rfl rfl rfl rfl rfl rfl rfl rfl rfl rfl, ?_⟩
        exact hh24
      have cv36 : ∀ h : Fin 12, ∃ p ∈ (body_A.sl.H10_36 c arg2 harg2 arg3 harg3 arg4 harg4 arg5 harg5 arg6 harg6 arg7 harg7 arg11 x0 x1 x2 x3 x4 x5), ∀ j : S2x256x768.Idx, (j 0).val = (1 : Fin 2).val → (j 1).val / 128 = (0 : Fin 2).val → (j 2).val / 64 = h.val → j ∈ p.1.set := by
        intro h
        fin_cases h
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_head 1 0 0 ![1, 0, 0] inb_S2x256x768_S1x128x64_1_0_0 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_head 1 0 1 ![1, 0, 64] inb_S2x256x768_S1x128x64_1_0_64 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_head 1 0 2 ![1, 0, 128] inb_S2x256x768_S1x128x64_1_0_128 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_head 1 0 3 ![1, 0, 192] inb_S2x256x768_S1x128x64_1_0_192 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_head 1 0 4 ![1, 0, 256] inb_S2x256x768_S1x128x64_1_0_256 rfl rfl rfl⟩
        · exact ⟨_, List.mem_cons_of_mem _ (List.mem_cons_of_mem _ (List.mem_cons_of_mem _ (List.mem_cons_of_mem _ (List.mem_cons_of_mem _ (List.mem_cons_of_mem _ (List.mem_cons_self)))))), mem_head 1 0 5 ![1, 0, 320] inb_S2x256x768_S1x128x64_1_0_320 rfl rfl rfl⟩
        · exact ⟨_, List.mem_cons_of_mem _ (List.mem_cons_of_mem _ (List.mem_cons_of_mem _ (List.mem_cons_of_mem _ (List.mem_cons_of_mem _ (List.mem_cons_self))))), mem_head 1 0 6 ![1, 0, 384] inb_S2x256x768_S1x128x64_1_0_384 rfl rfl rfl⟩
        · exact ⟨_, List.mem_cons_of_mem _ (List.mem_cons_of_mem _ (List.mem_cons_of_mem _ (List.mem_cons_of_mem _ (List.mem_cons_self)))), mem_head 1 0 7 ![1, 0, 448] inb_S2x256x768_S1x128x64_1_0_448 rfl rfl rfl⟩
        · exact ⟨_, List.mem_cons_of_mem _ (List.mem_cons_of_mem _ (List.mem_cons_of_mem _ (List.mem_cons_self))), mem_head 1 0 8 ![1, 0, 512] inb_S2x256x768_S1x128x64_1_0_512 rfl rfl rfl⟩
        · exact ⟨_, List.mem_cons_of_mem _ (List.mem_cons_of_mem _ (List.mem_cons_self)), mem_head 1 0 9 ![1, 0, 576] inb_S2x256x768_S1x128x64_1_0_576 rfl rfl rfl⟩
        · exact ⟨_, List.mem_cons_of_mem _ (List.mem_cons_self), mem_head 1 0 10 ![1, 0, 640] inb_S2x256x768_S1x128x64_1_0_640 rfl rfl rfl⟩
        · exact ⟨_, List.mem_cons_self, mem_head 1 0 11 ![1, 0, 704] inb_S2x256x768_S1x128x64_1_0_704 rfl rfl rfl⟩
      have hh48 : ∀ p ∈ (body_A.sl.H10_48 c arg2 harg2 arg3 harg3 arg4 harg4 arg5 harg5 arg6 harg6 arg7 harg7 arg11 x0 x1 x2 x3 x4 x5), Good (headBlock x1 (qkvBlock x0 x2 x3 x4 x5 (cond0_0 i (word0 i xt0)) (cond0_1 i (word1 i xt0)))) p := by
        have hw : ∀ (h : Fin 12) (off oq ok ov : Fin 3 → ℕ) (inb : ∀ a, off a + (![1, 128, 64] : Fin 3 → ℕ) a ≤ S2x256x768.size a)
            (iq : ∀ a, oq a + (![1, 128, 64] : Fin 3 → ℕ) a ≤ S2x256x2304.size a) (ik : ∀ a, ok a + (![1, 256, 64] : Fin 3 → ℕ) a ≤ S2x256x2304.size a)
            (iv : ∀ a, ov a + (![1, 256, 64] : Fin 3 → ℕ) a ≤ S2x256x2304.size a)
            (h0 : off 0 = (1 : Fin 2).val) (h1 : off 1 = 128 * (1 : Fin 2).val) (h2 : off 2 = 64 * h.val)
            (q0 : oq 0 = (1 : Fin 2).val) (q1 : oq 1 = 128 * (1 : Fin 2).val) (q2 : oq 2 = 64 * h.val) (k0 : ok 0 = (1 : Fin 2).val) (k1 : ok 1 = 0) (k2 : ok 2 = 768 + 64 * h.val)
            (v0 : ov 0 = (1 : Fin 2).val) (v1 : ov 1 = 0) (v2 : ov 2 = 1536 + 64 * h.val),
            Good (headBlock x1 (qkvBlock x0 x2 x3 x4 x5 (cond0_0 i (word0 i xt0)) (cond0_1 i (word1 i xt0)))) ⟨Rect.unit (s := S2x256x768) off ![1, 128, 64] inb,
              headTile (View.readAt (Elt F) arg3.view (Rect.unit (s := S2x1x256) ![1, 0, 0] ![1, 1, 256] inb_S2x1x256_S1x1x256_1_0_0).toLoadRect (harg3.unread x1))
              (arg11.view.readCov (body_A.sl.H9_4 c arg2 harg2 arg4 harg4 arg5 harg5 arg6 harg6 arg7 harg7 x0 x2 x3 x4 x5) (Rect.unit (s := S2x256x2304) oq ![1, 128, 64] iq).toLoadRect)
              (arg11.view.readCov (body_A.sl.H9_4 c arg2 harg2 arg4 harg4 arg5 harg5 arg6 harg6 arg7 harg7 x0 x2 x3 x4 x5) (Rect.unit (s := S2x256x2304) ok ![1, 256, 64] ik).toLoadRect)
              (arg11.view.readCov (body_A.sl.H9_4 c arg2 harg2 arg4 harg4 arg5 harg5 arg6 harg6 arg7 harg7 x0 x2 x3 x4 x5) (Rect.unit (s := S2x256x2304) ov ![1, 256, 64] iv).toLoadRect)⟩ :=
          fun h off oq ok ov inb iq ik iv h0 h1 h2 q0 q1 q2 k0 k1 k2 v0 v1 v2 => good_head x1 _ 1 1 h off inb h0 h1 h2 _
            (head_of harg3 x1 arg11.view (body_A.sl.H9_4 c arg2 harg2 arg4 harg4 arg5 harg5 arg6 harg6 arg7 harg7 x0 x2 x3 x4 x5) _ hq 1 cov1 1 h ![1, 0, 0] oq ok ov _ iq ik iv rfl rfl rfl q0 q1 q2 k0 k1 k2 v0 v1 v2)
        refine List.forall_mem_cons.mpr ⟨hw 11 ![1, 128, 704] ![1, 128, 704] ![1, 0, 1472] ![1, 0, 2240] inb_S2x256x768_S1x128x64_1_128_704 inb_S2x256x2304_S1x128x64_1_128_704 inb_S2x256x2304_S1x256x64_1_0_1472 inb_S2x256x2304_S1x256x64_1_0_2240 rfl rfl rfl rfl rfl rfl rfl rfl rfl rfl rfl rfl, ?_⟩
        refine List.forall_mem_cons.mpr ⟨hw 10 ![1, 128, 640] ![1, 128, 640] ![1, 0, 1408] ![1, 0, 2176] inb_S2x256x768_S1x128x64_1_128_640 inb_S2x256x2304_S1x128x64_1_128_640 inb_S2x256x2304_S1x256x64_1_0_1408 inb_S2x256x2304_S1x256x64_1_0_2176 rfl rfl rfl rfl rfl rfl rfl rfl rfl rfl rfl rfl, ?_⟩
        refine List.forall_mem_cons.mpr ⟨hw 9 ![1, 128, 576] ![1, 128, 576] ![1, 0, 1344] ![1, 0, 2112] inb_S2x256x768_S1x128x64_1_128_576 inb_S2x256x2304_S1x128x64_1_128_576 inb_S2x256x2304_S1x256x64_1_0_1344 inb_S2x256x2304_S1x256x64_1_0_2112 rfl rfl rfl rfl rfl rfl rfl rfl rfl rfl rfl rfl, ?_⟩
        refine List.forall_mem_cons.mpr ⟨hw 8 ![1, 128, 512] ![1, 128, 512] ![1, 0, 1280] ![1, 0, 2048] inb_S2x256x768_S1x128x64_1_128_512 inb_S2x256x2304_S1x128x64_1_128_512 inb_S2x256x2304_S1x256x64_1_0_1280 inb_S2x256x2304_S1x256x64_1_0_2048 rfl rfl rfl rfl rfl rfl rfl rfl rfl rfl rfl rfl, ?_⟩
        refine List.forall_mem_cons.mpr ⟨hw 7 ![1, 128, 448] ![1, 128, 448] ![1, 0, 1216] ![1, 0, 1984] inb_S2x256x768_S1x128x64_1_128_448 inb_S2x256x2304_S1x128x64_1_128_448 inb_S2x256x2304_S1x256x64_1_0_1216 inb_S2x256x2304_S1x256x64_1_0_1984 rfl rfl rfl rfl rfl rfl rfl rfl rfl rfl rfl rfl, ?_⟩
        refine List.forall_mem_cons.mpr ⟨hw 6 ![1, 128, 384] ![1, 128, 384] ![1, 0, 1152] ![1, 0, 1920] inb_S2x256x768_S1x128x64_1_128_384 inb_S2x256x2304_S1x128x64_1_128_384 inb_S2x256x2304_S1x256x64_1_0_1152 inb_S2x256x2304_S1x256x64_1_0_1920 rfl rfl rfl rfl rfl rfl rfl rfl rfl rfl rfl rfl, ?_⟩
        refine List.forall_mem_cons.mpr ⟨hw 5 ![1, 128, 320] ![1, 128, 320] ![1, 0, 1088] ![1, 0, 1856] inb_S2x256x768_S1x128x64_1_128_320 inb_S2x256x2304_S1x128x64_1_128_320 inb_S2x256x2304_S1x256x64_1_0_1088 inb_S2x256x2304_S1x256x64_1_0_1856 rfl rfl rfl rfl rfl rfl rfl rfl rfl rfl rfl rfl, ?_⟩
        refine List.forall_mem_cons.mpr ⟨hw 4 ![1, 128, 256] ![1, 128, 256] ![1, 0, 1024] ![1, 0, 1792] inb_S2x256x768_S1x128x64_1_128_256 inb_S2x256x2304_S1x128x64_1_128_256 inb_S2x256x2304_S1x256x64_1_0_1024 inb_S2x256x2304_S1x256x64_1_0_1792 rfl rfl rfl rfl rfl rfl rfl rfl rfl rfl rfl rfl, ?_⟩
        refine List.forall_mem_cons.mpr ⟨hw 3 ![1, 128, 192] ![1, 128, 192] ![1, 0, 960] ![1, 0, 1728] inb_S2x256x768_S1x128x64_1_128_192 inb_S2x256x2304_S1x128x64_1_128_192 inb_S2x256x2304_S1x256x64_1_0_960 inb_S2x256x2304_S1x256x64_1_0_1728 rfl rfl rfl rfl rfl rfl rfl rfl rfl rfl rfl rfl, ?_⟩
        refine List.forall_mem_cons.mpr ⟨hw 2 ![1, 128, 128] ![1, 128, 128] ![1, 0, 896] ![1, 0, 1664] inb_S2x256x768_S1x128x64_1_128_128 inb_S2x256x2304_S1x128x64_1_128_128 inb_S2x256x2304_S1x256x64_1_0_896 inb_S2x256x2304_S1x256x64_1_0_1664 rfl rfl rfl rfl rfl rfl rfl rfl rfl rfl rfl rfl, ?_⟩
        refine List.forall_mem_cons.mpr ⟨hw 1 ![1, 128, 64] ![1, 128, 64] ![1, 0, 832] ![1, 0, 1600] inb_S2x256x768_S1x128x64_1_128_64 inb_S2x256x2304_S1x128x64_1_128_64 inb_S2x256x2304_S1x256x64_1_0_832 inb_S2x256x2304_S1x256x64_1_0_1600 rfl rfl rfl rfl rfl rfl rfl rfl rfl rfl rfl rfl, ?_⟩
        refine List.forall_mem_cons.mpr ⟨hw 0 ![1, 128, 0] ![1, 128, 0] ![1, 0, 768] ![1, 0, 1536] inb_S2x256x768_S1x128x64_1_128_0 inb_S2x256x2304_S1x128x64_1_128_0 inb_S2x256x2304_S1x256x64_1_0_768 inb_S2x256x2304_S1x256x64_1_0_1536 rfl rfl rfl rfl rfl rfl rfl rfl rfl rfl rfl rfl, ?_⟩
        exact hh36
      have cv48 : ∀ h : Fin 12, ∃ p ∈ (body_A.sl.H10_48 c arg2 harg2 arg3 harg3 arg4 harg4 arg5 harg5 arg6 harg6 arg7 harg7 arg11 x0 x1 x2 x3 x4 x5), ∀ j : S2x256x768.Idx, (j 0).val = (1 : Fin 2).val → (j 1).val / 128 = (1 : Fin 2).val → (j 2).val / 64 = h.val → j ∈ p.1.set := by
        intro h
        fin_cases h
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_head 1 1 0 ![1, 128, 0] inb_S2x256x768_S1x128x64_1_128_0 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_head 1 1 1 ![1, 128, 64] inb_S2x256x768_S1x128x64_1_128_64 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_head 1 1 2 ![1, 128, 128] inb_S2x256x768_S1x128x64_1_128_128 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_head 1 1 3 ![1, 128, 192] inb_S2x256x768_S1x128x64_1_128_192 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_head 1 1 4 ![1, 128, 256] inb_S2x256x768_S1x128x64_1_128_256 rfl rfl rfl⟩
        · exact ⟨_, List.mem_cons_of_mem _ (List.mem_cons_of_mem _ (List.mem_cons_of_mem _ (List.mem_cons_of_mem _ (List.mem_cons_of_mem _ (List.mem_cons_of_mem _ (List.mem_cons_self)))))), mem_head 1 1 5 ![1, 128, 320] inb_S2x256x768_S1x128x64_1_128_320 rfl rfl rfl⟩
        · exact ⟨_, List.mem_cons_of_mem _ (List.mem_cons_of_mem _ (List.mem_cons_of_mem _ (List.mem_cons_of_mem _ (List.mem_cons_of_mem _ (List.mem_cons_self))))), mem_head 1 1 6 ![1, 128, 384] inb_S2x256x768_S1x128x64_1_128_384 rfl rfl rfl⟩
        · exact ⟨_, List.mem_cons_of_mem _ (List.mem_cons_of_mem _ (List.mem_cons_of_mem _ (List.mem_cons_of_mem _ (List.mem_cons_self)))), mem_head 1 1 7 ![1, 128, 448] inb_S2x256x768_S1x128x64_1_128_448 rfl rfl rfl⟩
        · exact ⟨_, List.mem_cons_of_mem _ (List.mem_cons_of_mem _ (List.mem_cons_of_mem _ (List.mem_cons_self))), mem_head 1 1 8 ![1, 128, 512] inb_S2x256x768_S1x128x64_1_128_512 rfl rfl rfl⟩
        · exact ⟨_, List.mem_cons_of_mem _ (List.mem_cons_of_mem _ (List.mem_cons_self)), mem_head 1 1 9 ![1, 128, 576] inb_S2x256x768_S1x128x64_1_128_576 rfl rfl rfl⟩
        · exact ⟨_, List.mem_cons_of_mem _ (List.mem_cons_self), mem_head 1 1 10 ![1, 128, 640] inb_S2x256x768_S1x128x64_1_128_640 rfl rfl rfl⟩
        · exact ⟨_, List.mem_cons_self, mem_head 1 1 11 ![1, 128, 704] inb_S2x256x768_S1x128x64_1_128_704 rfl rfl rfl⟩
      intro j hj
      refine View.read_writes_apply_of_pieces _ _ (outBlock x0 x1 x2 x3 x4 x5 x6 x7 (cond0_0 i (word0 i xt0)) (cond0_1 i (word1 i xt0))) _ ?_ j ?_
      · have hw : ∀ (L : List (View.Piece (Elt F) S2x256x768 .f32)) (hg : ∀ p ∈ L, Good (headBlock x1 (qkvBlock x0 x2 x3 x4 x5 (cond0_0 i (word0 i xt0)) (cond0_1 i (word1 i xt0)))) p) (s k : Fin 2)
            (hc : ∀ h : Fin 12, ∃ p ∈ L, ∀ j : S2x256x768.Idx, (j 0).val = s.val → (j 1).val / 128 = k.val → (j 2).val / 64 = h.val → j ∈ p.1.set)
            (off : Fin 3 → ℕ) (inb : ∀ a, off a + (![1, 128, 768] : Fin 3 → ℕ) a ≤ S2x256x768.size a)
            (h0 : off 0 = s.val) (h1 : off 1 = 128 * k.val) (h2 : off 2 = 0),
            Good (outBlock x0 x1 x2 x3 x4 x5 x6 x7 (cond0_0 i (word0 i xt0)) (cond0_1 i (word1 i xt0))) ⟨Rect.unit (s := S2x256x768) off ![1, 128, 768] inb,
              outTile (arg12.view.readCov L (Rect.unit (s := S2x256x768) off ![1, 128, 768] inb).toLoadRect)
              (View.readAt (Elt F) arg8.view (Rect.unit (s := S768x768) ![0, 0] ![768, 768] inb_S768x768_S768x768_0_0).toLoadRect (harg8.unread x6))
              (View.readAt (Elt F) arg2.view (Rect.unit (s := S2x256x768) off ![1, 128, 768] inb).toLoadRect (harg2.unread x0))
              (View.readAt (Elt F) arg9.view (Rect.unit (s := S1x768) ![0, 0] ![1, 768] inb_S1x768_S1x768_0_0).toLoadRect (harg9.unread x7))⟩ := by
          intro L hg s k hc off inb h0 h1 h2
          refine good_tile _ s k off inb h0 h1 h2 _ ?_
          rw [load_heads arg12.view L _ hg s k hc off inb h0 h1 h2, load_rows harg2 x0 s k off inb h0 h1 h2, load_whole harg8, load_whole harg9]
        show ∀ p ∈ _, Good _ p
        refine List.forall_mem_cons.mpr ⟨hw (body_A.sl.H10_48 c arg2 harg2 arg3 harg3 arg4 harg4 arg5 harg5 arg6 harg6 arg7 harg7 arg11 x0 x1 x2 x3 x4 x5) hh48 1 1 cv48 ![1, 128, 0] inb_S2x256x768_S1x128x768_1_128_0 rfl rfl rfl, ?_⟩
        refine List.forall_mem_cons.mpr ⟨hw (body_A.sl.H10_36 c arg2 harg2 arg3 harg3 arg4 harg4 arg5 harg5 arg6 harg6 arg7 harg7 arg11 x0 x1 x2 x3 x4 x5) hh36 1 0 cv36 ![1, 0, 0] inb_S2x256x768_S1x128x768_1_0_0 rfl rfl rfl, ?_⟩
        refine List.forall_mem_cons.mpr ⟨hw (body_A.sl.H10_24 c arg2 harg2 arg3 harg3 arg4 harg4 arg5 harg5 arg6 harg6 arg7 harg7 arg11 x0 x1 x2 x3 x4 x5) hh24 0 1 cv24 ![0, 128, 0] inb_S2x256x768_S1x128x768_0_128_0 rfl rfl rfl, ?_⟩
        refine List.forall_mem_cons.mpr ⟨hw (body_A.sl.H10_12 c arg2 harg2 arg3 harg3 arg4 harg4 arg5 harg5 arg6 harg6 arg7 harg7 arg11 x0 x1 x2 x3 x4 x5) hh12 0 0 cv12 ![0, 0, 0] inb_S2x256x768_S1x128x768_0_0_0 rfl rfl rfl, ?_⟩
        exact fun _ h => absurd h List.not_mem_nil
      · have hj0 : (j 0).val < 2 := (j 0).isLt
        have hj1 : (j 1).val < 256 := (j 1).isLt
        by_cases a0 : (j 0).val = 0
        · by_cases a1 : (j 1).val < 128
          · exact ⟨_, List.mem_cons_of_mem _ (List.mem_cons_of_mem _ (List.mem_cons_of_mem _ (List.mem_cons_self))), mem_tile 0 0 ![0, 0, 0] inb_S2x256x768_S1x128x768_0_0_0 rfl rfl rfl j a0 (by show _ / 128 = 0; omega)⟩
          · exact ⟨_, List.mem_cons_of_mem _ (List.mem_cons_of_mem _ (List.mem_cons_self)), mem_tile 0 1 ![0, 128, 0] inb_S2x256x768_S1x128x768_0_128_0 rfl rfl rfl j a0 (by show _ / 128 = 1; omega)⟩
        · by_cases a1 : (j 1).val < 128
          · exact ⟨_, List.mem_cons_of_mem _ (List.mem_cons_self), mem_tile 1 0 ![1, 0, 0] inb_S2x256x768_S1x128x768_1_0_0 rfl rfl rfl j (by show _ = 1; omega) (by show _ / 128 = 0; omega)⟩
          · exact ⟨_, List.mem_cons_self, mem_tile 1 1 ![1, 128, 0] inb_S2x256x768_S1x128x768_1_128_0 rfl rfl rfl j (by show _ = 1; omega) (by show _ / 128 = 1; omega)⟩
    isplitl [H9]
    · iexists _; iexists _; isplitr; swap; · iexact H9
      ipureintro; rfl
    isplitl [H10]
    · iexists _; iexists _; isplitr; swap; · iexact H10
      ipureintro; rfl
    iexact HT0

end Cert.AttnIdeal.Run

end
-- ==== Proof.AttnBodyB.lean ====
/-
  The body of the attention call's ideal program at one grid point, in each of its four cases.
-/
module

public import proofs.«01_k».proof.Proof.AttnTiles
public import Idealize.ShloMosaic.Lib.ValueIdx

@[expose] public section

set_option maxRecDepth 16384

noncomputable section

namespace Cert.AttnIdeal.Run

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body in case B. -/
theorem body_B (c : Dev nD) (i : grid0.Coords) (arg2 : Memref sig .tc .vmem S2x256x768 .f32) (harg2 : arg2.IsWhole) (arg3 : Memref sig .tc .vmem S2x1x256 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S768x2304 .f32) (harg6 : arg6.IsWhole) (arg7 : Memref sig .tc .vmem S1x2304 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S2x256x768 .f32) (harg10 : arg10.IsWhole) (arg11 : Memref sig .tc .vmem S2x256x2304 .f32) (harg11 : arg11.IsWhole) (arg12 : Memref sig .tc .vmem S2x256x768 .f32) (harg12 : arg12.IsWhole)
    (x0 : Vec F S2x256x768 .f32) (x1 : Vec F S2x1x256 .f32) (x2 : Vec F S1x768 .f32) (x3 : Vec F S1x768 .f32) (x4 : Vec F S768x2304 .f32) (x5 : Vec F S1x2304 .f32) (x6 : Vec F S768x768 .f32) (x7 : Vec F S1x768 .f32) (xt0 : TbBuf0 (F := F) c tbM0_0) (hc0 : cond0_0 i (word0 i xt0)) (hc1 : ¬ cond0_1 i (word1 i xt0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ X, ⌜Written (outBlock x0 x1 x2 x3 x4 x5 x6 x7 (cond0_0 i (word0 i xt0)) (cond0_1 i (word1 i xt0))) X (cond0_0 i (word0 i xt0)) (cond0_1 i (word1 i xt0))⌝ ∗ owns (c : Thread nD τ) arg10 fullShare X) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_vit_attn i tbM0_0 htbM0_0 arg2 harg2 arg3 harg3 arg4 harg4 arg5 harg5 arg6 harg6 arg7 harg7 arg8 harg8 arg9 harg9 arg10 harg10 arg11 harg11 arg12 harg12) K := by
    intro E K
    have hz0 := not_zeroed hc0
    have hz1 := zeroed_of_not hc1
    simp only [cc0_vit_attn_eq_skeleton]; unfold cc0_vit_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hz0 | sl_exact hz1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap
      · iexists _; isplitr; swap; · iexact H8
        ipureintro; rfl
      ipureintro
      have hq : ∀ p ∈ (body_B.sl.H9_4 c arg2 harg2 arg4 harg4 arg5 harg5 arg6 harg6 arg7 harg7 x0 x2 x3 x4 x5), Good (qkvBlock x0 x2 x3 x4 x5 (cond0_0 i (word0 i xt0)) (cond0_1 i (word1 i xt0))) p := by
        have hw : ∀ (s k : Fin 2) (hk : Taken (cond0_0 i (word0 i xt0)) (cond0_1 i (word1 i xt0)) s k) (off : Fin 3 → ℕ) (inb : ∀ a, off a + (![1, 128, 2304] : Fin 3 → ℕ) a ≤ S2x256x2304.size a)
            (inb' : ∀ a, off a + (![1, 128, 768] : Fin 3 → ℕ) a ≤ S2x256x768.size a)
            (h0 : off 0 = s.val) (h1 : off 1 = 128 * k.val) (h2 : off 2 = 0),
            Good (qkvBlock x0 x2 x3 x4 x5 (cond0_0 i (word0 i xt0)) (cond0_1 i (word1 i xt0))) ⟨Rect.unit (s := S2x256x2304) off ![1, 128, 2304] inb,
              qkvTile (View.readAt (Elt F) arg2.view (Rect.unit (s := S2x256x768) off ![1, 128, 768] inb').toLoadRect (harg2.unread x0))
              (View.readAt (Elt F) arg4.view (Rect.unit (s := S1x768) ![0, 0] ![1, 768] inb_S1x768_S1x768_0_0).toLoadRect (harg4.unread x2))
              (View.readAt (Elt F) arg5.view (Rect.unit (s := S1x768) ![0, 0] ![1, 768] inb_S1x768_S1x768_0_0).toLoadRect (harg5.unread x3))
              (View.readAt (Elt F) arg6.view (Rect.unit (s := S768x2304) ![0, 0] ![768, 2304] inb_S768x2304_S768x2304_0_0).toLoadRect (harg6.unread x4))
              (View.readAt (Elt F) arg7.view (Rect.unit (s := S1x2304) ![0, 0] ![1, 2304] inb_S1x2304_S1x2304_0_0).toLoadRect (harg7.unread x5))⟩ := by
          intro s k hk off inb inb' h0 h1 h2
          refine good_tile _ s k off inb h0 h1 h2 _ ?_
          rw [load_rows harg2 x0 s k off inb' h0 h1 h2, load_whole harg4, load_whole harg5, load_whole harg6, load_whole harg7]
          exact (if_pos hk).symm
        have hz : ∀ (s k : Fin 2) (hk : ¬ Taken (cond0_0 i (word0 i xt0)) (cond0_1 i (word1 i xt0)) s k) (off : Fin 3 → ℕ) (inb : ∀ a, off a + (![1, 128, 2304] : Fin 3 → ℕ) a ≤ S2x256x2304.size a)
            (h0 : off 0 = s.val) (h1 : off 1 = 128 * k.val) (h2 : off 2 = 0),
            Good (qkvBlock x0 x2 x3 x4 x5 (cond0_0 i (word0 i xt0)) (cond0_1 i (word1 i xt0))) ⟨Rect.unit (s := S2x256x2304) off ![1, 128, 2304] inb, k0_pay58⟩ := by
          intro s k hk off inb h0 h1 h2
          exact good_tile _ s k off inb h0 h1 h2 _ (if_neg hk).symm
        refine List.forall_mem_cons.mpr ⟨?_, List.forall_mem_cons.mpr ⟨?_, List.forall_mem_cons.mpr ⟨?_, List.forall_mem_cons.mpr ⟨?_, fun _ h => absurd h List.not_mem_nil⟩⟩⟩⟩
        · exact hz 1 1 (by rintro (h | ⟨h, h'⟩ | ⟨h, h'⟩) <;> first | exact absurd h (by decide) | exact hc1 h') ![1, 128, 0] inb_S2x256x2304_S1x128x2304_1_128_0 rfl rfl rfl
        · exact hw 1 0 (Or.inl rfl) ![1, 0, 0] inb_S2x256x2304_S1x128x2304_1_0_0 inb_S2x256x768_S1x128x768_1_0_0 rfl rfl rfl
        · exact hw 0 1 (Or.inr (Or.inl ⟨rfl, hc0⟩)) ![0, 128, 0] inb_S2x256x2304_S1x128x2304_0_128_0 inb_S2x256x768_S1x128x768_0_128_0 rfl rfl rfl
        · exact hw 0 0 (Or.inl rfl) ![0, 0, 0] inb_S2x256x2304_S1x128x2304_0_0_0 inb_S2x256x768_S1x128x768_0_0_0 rfl rfl rfl
      have hq0 : ∀ p ∈ (body_B.sl.H9_2 c arg2 harg2 arg4 harg4 arg5 harg5 arg6 harg6 arg7 harg7 x0 x2 x3 x4 x5), Good (qkvBlock x0 x2 x3 x4 x5 (cond0_0 i (word0 i xt0)) (cond0_1 i (word1 i xt0))) p :=
        fun p hp => hq p (List.mem_cons_of_mem _ (List.mem_cons_of_mem _ hp))
      have cov0 : ∀ j : S2x256x2304.Idx, (j 0).val = ((0 : Fin 2)).val → ∃ p ∈ (body_B.sl.H9_2 c arg2 harg2 arg4 harg4 arg5 harg5 arg6 harg6 arg7 harg7 x0 x2 x3 x4 x5), j ∈ p.1.set := by
        intro j hj
        have hj1 : (j 1).val < 256 := (j 1).isLt
        by_cases a1 : (j 1).val < 128
        · exact ⟨_, List.mem_cons_of_mem _ (List.mem_cons_self), mem_tile 0 0 ![0, 0, 0] inb_S2x256x2304_S1x128x2304_0_0_0 rfl rfl rfl j hj (by show _ / 128 = 0; omega)⟩
        · exact ⟨_, List.mem_cons_self, mem_tile 0 1 ![0, 128, 0] inb_S2x256x2304_S1x128x2304_0_128_0 rfl rfl rfl j hj (by show _ / 128 = 1; omega)⟩
      have cov1 : ∀ j : S2x256x2304.Idx, (j 0).val = ((1 : Fin 2)).val → ∃ p ∈ (body_B.sl.H9_4 c arg2 harg2 arg4 harg4 arg5 harg5 arg6 harg6 arg7 harg7 x0 x2 x3 x4 x5), j ∈ p.1.set := by
        intro j hj
        have hj1 : (j 1).val < 256 := (j 1).isLt
        by_cases a1 : (j 1).val < 128
        · exact ⟨_, List.mem_cons_of_mem _ (List.mem_cons_self), mem_tile 1 0 ![1, 0, 0] inb_S2x256x2304_S1x128x2304_1_0_0 rfl rfl rfl j hj (by show _ / 128 = 0; omega)⟩
        · exact ⟨_, List.mem_cons_self, mem_tile 1 1 ![1, 128, 0] inb_S2x256x2304_S1x128x2304_1_128_0 rfl rfl rfl j hj (by show _ / 128 = 1; omega)⟩
      have hh12 : ∀ p ∈ (body_B.sl.H10_12 c arg2 harg2 arg3 harg3 arg4 harg4 arg5 harg5 arg6 harg6 arg7 harg7 arg11 x0 x1 x2 x3 x4 x5), Good (headBlock x1 (qkvBlock x0 x2 x3 x4 x5 (cond0_0 i (word0 i xt0)) (cond0_1 i (word1 i xt0)))) p := by
        have hw : ∀ (h : Fin 12) (off oq ok ov : Fin 3 → ℕ) (inb : ∀ a, off a + (![1, 128, 64] : Fin 3 → ℕ) a ≤ S2x256x768.size a)
            (iq : ∀ a, oq a + (![1, 128, 64] : Fin 3 → ℕ) a ≤ S2x256x2304.size a) (ik : ∀ a, ok a + (![1, 256, 64] : Fin 3 → ℕ) a ≤ S2x256x2304.size a)
            (iv : ∀ a, ov a + (![1, 256, 64] : Fin 3 → ℕ) a ≤ S2x256x2304.size a)
            (h0 : off 0 = (0 : Fin 2).val) (h1 : off 1 = 128 * (0 : Fin 2).val) (h2 : off 2 = 64 * h.val)
            (q0 : oq 0 = (0 : Fin 2).val) (q1 : oq 1 = 128 * (0 : Fin 2).val) (q2 : oq 2 = 64 * h.val) (k0 : ok 0 = (0 : Fin 2).val) (k1 : ok 1 = 0) (k2 : ok 2 = 768 + 64 * h.val)
            (v0 : ov 0 = (0 : Fin 2).val) (v1 : ov 1 = 0) (v2 : ov 2 = 1536 + 64 * h.val),
            Good (headBlock x1 (qkvBlock x0 x2 x3 x4 x5 (cond0_0 i (word0 i xt0)) (cond0_1 i (word1 i xt0)))) ⟨Rect.unit (s := S2x256x768) off ![1, 128, 64] inb,
              headTile (View.readAt (Elt F) arg3.view (Rect.unit (s := S2x1x256) ![0, 0, 0] ![1, 1, 256] inb_S2x1x256_S1x1x256_0_0_0).toLoadRect (harg3.unread x1))
              (arg11.view.readCov (body_B.sl.H9_2 c arg2 harg2 arg4 harg4 arg5 harg5 arg6 harg6 arg7 harg7 x0 x2 x3 x4 x5) (Rect.unit (s := S2x256x2304) oq ![1, 128, 64] iq).toLoadRect)
              (arg11.view.readCov (body_B.sl.H9_2 c arg2 harg2 arg4 harg4 arg5 harg5 arg6 harg6 arg7 harg7 x0 x2 x3 x4 x5) (Rect.unit (s := S2x256x2304) ok ![1, 256, 64] ik).toLoadRect)
              (arg11.view.readCov (body_B.sl.H9_2 c arg2 harg2 arg4 harg4 arg5 harg5 arg6 harg6 arg7 harg7 x0 x2 x3 x4 x5) (Rect.unit (s := S2x256x2304) ov ![1, 256, 64] iv).toLoadRect)⟩ :=
          fun h off oq ok ov inb iq ik iv h0 h1 h2 q0 q1 q2 k0 k1 k2 v0 v1 v2 => good_head x1 _ 0 0 h off inb h0 h1 h2 _
            (head_of harg3 x1 arg11.view (body_B.sl.H9_2 c arg2 harg2 arg4 harg4 arg5 harg5 arg6 harg6 arg7 harg7 x0 x2 x3 x4 x5) _ hq0 0 cov0 0 h ![0, 0, 0] oq ok ov _ iq ik iv rfl rfl rfl q0 q1 q2 k0 k1 k2 v0 v1 v2)
        refine List.forall_mem_cons.mpr ⟨hw 11 ![0, 0, 704] ![0, 0, 704] ![0, 0, 1472] ![0, 0, 2240] inb_S2x256x768_S1x128x64_0_0_704 inb_S2x256x2304_S1x128x64_0_0_704 inb_S2x256x2304_S1x256x64_0_0_1472 inb_S2x256x2304_S1x256x64_0_0_2240 rfl rfl rfl rfl rfl rfl rfl rfl rfl rfl rfl rfl, ?_⟩
        refine List.forall_mem_cons.mpr ⟨hw 10 ![0, 0, 640] ![0, 0, 640] ![0, 0, 1408] ![0, 0, 2176] inb_S2x256x768_S1x128x64_0_0_640 inb_S2x256x2304_S1x128x64_0_0_640 inb_S2x256x2304_S1x256x64_0_0_1408 inb_S2x256x2304_S1x256x64_0_0_2176 rfl rfl rfl rfl rfl rfl rfl rfl rfl rfl rfl rfl, ?_⟩
        refine List.forall_mem_cons.mpr ⟨hw 9 ![0, 0, 576] ![0, 0, 576] ![0, 0, 1344] ![0, 0, 2112] inb_S2x256x768_S1x128x64_0_0_576 inb_S2x256x2304_S1x128x64_0_0_576 inb_S2x256x2304_S1x256x64_0_0_1344 inb_S2x256x2304_S1x256x64_0_0_2112 rfl rfl rfl rfl rfl rfl rfl rfl rfl rfl rfl rfl, ?_⟩
        refine List.forall_mem_cons.mpr ⟨hw 8 ![0, 0, 512] ![0, 0, 512] ![0, 0, 1280] ![0, 0, 2048] inb_S2x256x768_S1x128x64_0_0_512 inb_S2x256x2304_S1x128x64_0_0_512 inb_S2x256x2304_S1x256x64_0_0_1280 inb_S2x256x2304_S1x256x64_0_0_2048 rfl rfl rfl rfl rfl rfl rfl rfl rfl rfl rfl rfl, ?_⟩
        refine List.forall_mem_cons.mpr ⟨hw 7 ![0, 0, 448] ![0, 0, 448] ![0, 0, 1216] ![0, 0, 1984] inb_S2x256x768_S1x128x64_0_0_448 inb_S2x256x2304_S1x128x64_0_0_448 inb_S2x256x2304_S1x256x64_0_0_1216 inb_S2x256x2304_S1x256x64_0_0_1984 rfl rfl rfl rfl rfl rfl rfl rfl rfl rfl rfl rfl, ?_⟩
        refine List.forall_mem_cons.mpr ⟨hw 6 ![0, 0, 384] ![0, 0, 384] ![0, 0, 1152] ![0, 0, 1920] inb_S2x256x768_S1x128x64_0_0_384 inb_S2x256x2304_S1x128x64_0_0_384 inb_S2x256x2304_S1x256x64_0_0_1152 inb_S2x256x2304_S1x256x64_0_0_1920 rfl rfl rfl rfl rfl rfl rfl rfl rfl rfl rfl rfl, ?_⟩
        refine List.forall_mem_cons.mpr ⟨hw 5 ![0, 0, 320] ![0, 0, 320] ![0, 0, 1088] ![0, 0, 1856] inb_S2x256x768_S1x128x64_0_0_320 inb_S2x256x2304_S1x128x64_0_0_320 inb_S2x256x2304_S1x256x64_0_0_1088 inb_S2x256x2304_S1x256x64_0_0_1856 rfl rfl rfl rfl rfl rfl rfl rfl rfl rfl rfl rfl, ?_⟩
        refine List.forall_mem_cons.mpr ⟨hw 4 ![0, 0, 256] ![0, 0, 256] ![0, 0, 1024] ![0, 0, 1792] inb_S2x256x768_S1x128x64_0_0_256 inb_S2x256x2304_S1x128x64_0_0_256 inb_S2x256x2304_S1x256x64_0_0_1024 inb_S2x256x2304_S1x256x64_0_0_1792 rfl rfl rfl rfl rfl rfl rfl rfl rfl rfl rfl rfl, ?_⟩
        refine List.forall_mem_cons.mpr ⟨hw 3 ![0, 0, 192] ![0, 0, 192] ![0, 0, 960] ![0, 0, 1728] inb_S2x256x768_S1x128x64_0_0_192 inb_S2x256x2304_S1x128x64_0_0_192 inb_S2x256x2304_S1x256x64_0_0_960 inb_S2x256x2304_S1x256x64_0_0_1728 rfl rfl rfl rfl rfl rfl rfl rfl rfl rfl rfl rfl, ?_⟩
        refine List.forall_mem_cons.mpr ⟨hw 2 ![0, 0, 128] ![0, 0, 128] ![0, 0, 896] ![0, 0, 1664] inb_S2x256x768_S1x128x64_0_0_128 inb_S2x256x2304_S1x128x64_0_0_128 inb_S2x256x2304_S1x256x64_0_0_896 inb_S2x256x2304_S1x256x64_0_0_1664 rfl rfl rfl rfl rfl rfl rfl rfl rfl rfl rfl rfl, ?_⟩
        refine List.forall_mem_cons.mpr ⟨hw 1 ![0, 0, 64] ![0, 0, 64] ![0, 0, 832] ![0, 0, 1600] inb_S2x256x768_S1x128x64_0_0_64 inb_S2x256x2304_S1x128x64_0_0_64 inb_S2x256x2304_S1x256x64_0_0_832 inb_S2x256x2304_S1x256x64_0_0_1600 rfl rfl rfl rfl rfl rfl rfl rfl rfl rfl rfl rfl, ?_⟩
        refine List.forall_mem_cons.mpr ⟨hw 0 ![0, 0, 0] ![0, 0, 0] ![0, 0, 768] ![0, 0, 1536] inb_S2x256x768_S1x128x64_0_0_0 inb_S2x256x2304_S1x128x64_0_0_0 inb_S2x256x2304_S1x256x64_0_0_768 inb_S2x256x2304_S1x256x64_0_0_1536 rfl rfl rfl rfl rfl rfl rfl rfl rfl rfl rfl rfl, ?_⟩
        exact fun _ h => absurd h List.not_mem_nil
      have cv12 : ∀ h : Fin 12, ∃ p ∈ (body_B.sl.H10_12 c arg2 harg2 arg3 harg3 arg4 harg4 arg5 harg5 arg6 harg6 arg7 harg7 arg11 x0 x1 x2 x3 x4 x5), ∀ j : S2x256x768.Idx, (j 0).val = (0 : Fin 2).val → (j 1).val / 128 = (0 : Fin 2).val → (j 2).val / 64 = h.val → j ∈ p.1.set := by
        intro h
        fin_cases h
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_head 0 0 0 ![0, 0, 0] inb_S2x256x768_S1x128x64_0_0_0 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_head 0 0 1 ![0, 0, 64] inb_S2x256x768_S1x128x64_0_0_64 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_head 0 0 2 ![0, 0, 128] inb_S2x256x768_S1x128x64_0_0_128 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_head 0 0 3 ![0, 0, 192] inb_S2x256x768_S1x128x64_0_0_192 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_head 0 0 4 ![0, 0, 256] inb_S2x256x768_S1x128x64_0_0_256 rfl rfl rfl⟩
        · exact ⟨_, List.mem_cons_of_mem _ (List.mem_cons_of_mem _ (List.mem_cons_of_mem _ (List.mem_cons_of_mem _ (List.mem_cons_of_mem _ (List.mem_cons_of_mem _ (List.mem_cons_self)))))), mem_head 0 0 5 ![0, 0, 320] inb_S2x256x768_S1x128x64_0_0_320 rfl rfl rfl⟩
        · exact ⟨_, List.mem_cons_of_mem _ (List.mem_cons_of_mem _ (List.mem_cons_of_mem _ (List.mem_cons_of_mem _ (List.mem_cons_of_mem _ (List.mem_cons_self))))), mem_head 0 0 6 ![0, 0, 384] inb_S2x256x768_S1x128x64_0_0_384 rfl rfl rfl⟩
        · exact ⟨_, List.mem_cons_of_mem _ (List.mem_cons_of_mem _ (List.mem_cons_of_mem _ (List.mem_cons_of_mem _ (List.mem_cons_self)))), mem_head 0 0 7 ![0, 0, 448] inb_S2x256x768_S1x128x64_0_0_448 rfl rfl rfl⟩
        · exact ⟨_, List.mem_cons_of_mem _ (List.mem_cons_of_mem _ (List.mem_cons_of_mem _ (List.mem_cons_self))), mem_head 0 0 8 ![0, 0, 512] inb_S2x256x768_S1x128x64_0_0_512 rfl rfl rfl⟩
        · exact ⟨_, List.mem_cons_of_mem _ (List.mem_cons_of_mem _ (List.mem_cons_self)), mem_head 0 0 9 ![0, 0, 576] inb_S2x256x768_S1x128x64_0_0_576 rfl rfl rfl⟩
        · exact ⟨_, List.mem_cons_of_mem _ (List.mem_cons_self), mem_head 0 0 10 ![0, 0, 640] inb_S2x256x768_S1x128x64_0_0_640 rfl rfl rfl⟩
        · exact ⟨_, List.mem_cons_self, mem_head 0 0 11 ![0, 0, 704] inb_S2x256x768_S1x128x64_0_0_704 rfl rfl rfl⟩
      have hh24 : ∀ p ∈ (body_B.sl.H10_24 c arg2 harg2 arg3 harg3 arg4 harg4 arg5 harg5 arg6 harg6 arg7 harg7 arg11 x0 x1 x2 x3 x4 x5), Good (headBlock x1 (qkvBlock x0 x2 x3 x4 x5 (cond0_0 i (word0 i xt0)) (cond0_1 i (word1 i xt0)))) p := by
        have hw : ∀ (h : Fin 12) (off oq ok ov : Fin 3 → ℕ) (inb : ∀ a, off a + (![1, 128, 64] : Fin 3 → ℕ) a ≤ S2x256x768.size a)
            (iq : ∀ a, oq a + (![1, 128, 64] : Fin 3 → ℕ) a ≤ S2x256x2304.size a) (ik : ∀ a, ok a + (![1, 256, 64] : Fin 3 → ℕ) a ≤ S2x256x2304.size a)
            (iv : ∀ a, ov a + (![1, 256, 64] : Fin 3 → ℕ) a ≤ S2x256x2304.size a)
            (h0 : off 0 = (0 : Fin 2).val) (h1 : off 1 = 128 * (1 : Fin 2).val) (h2 : off 2 = 64 * h.val)
            (q0 : oq 0 = (0 : Fin 2).val) (q1 : oq 1 = 128 * (1 : Fin 2).val) (q2 : oq 2 = 64 * h.val) (k0 : ok 0 = (0 : Fin 2).val) (k1 : ok 1 = 0) (k2 : ok 2 = 768 + 64 * h.val)
            (v0 : ov 0 = (0 : Fin 2).val) (v1 : ov 1 = 0) (v2 : ov 2 = 1536 + 64 * h.val),
            Good (headBlock x1 (qkvBlock x0 x2 x3 x4 x5 (cond0_0 i (word0 i xt0)) (cond0_1 i (word1 i xt0)))) ⟨Rect.unit (s := S2x256x768) off ![1, 128, 64] inb,
              headTile (View.readAt (Elt F) arg3.view (Rect.unit (s := S2x1x256) ![0, 0, 0] ![1, 1, 256] inb_S2x1x256_S1x1x256_0_0_0).toLoadRect (harg3.unread x1))
              (arg11.view.readCov (body_B.sl.H9_2 c arg2 harg2 arg4 harg4 arg5 harg5 arg6 harg6 arg7 harg7 x0 x2 x3 x4 x5) (Rect.unit (s := S2x256x2304) oq ![1, 128, 64] iq).toLoadRect)
              (arg11.view.readCov (body_B.sl.H9_2 c arg2 harg2 arg4 harg4 arg5 harg5 arg6 harg6 arg7 harg7 x0 x2 x3 x4 x5) (Rect.unit (s := S2x256x2304) ok ![1, 256, 64] ik).toLoadRect)
              (arg11.view.readCov (body_B.sl.H9_2 c arg2 harg2 arg4 harg4 arg5 harg5 arg6 harg6 arg7 harg7 x0 x2 x3 x4 x5) (Rect.unit (s := S2x256x2304) ov ![1, 256, 64] iv).toLoadRect)⟩ :=
          fun h off oq ok ov inb iq ik iv h0 h1 h2 q0 q1 q2 k0 k1 k2 v0 v1 v2 => good_head x1 _ 0 1 h off inb h0 h1 h2 _
            (head_of harg3 x1 arg11.view (body_B.sl.H9_2 c arg2 harg2 arg4 harg4 arg5 harg5 arg6 harg6 arg7 harg7 x0 x2 x3 x4 x5) _ hq0 0 cov0 1 h ![0, 0, 0] oq ok ov _ iq ik iv rfl rfl rfl q0 q1 q2 k0 k1 k2 v0 v1 v2)
        refine List.forall_mem_cons.mpr ⟨hw 11 ![0, 128, 704] ![0, 128, 704] ![0, 0, 1472] ![0, 0, 2240] inb_S2x256x768_S1x128x64_0_128_704 inb_S2x256x2304_S1x128x64_0_128_704 inb_S2x256x2304_S1x256x64_0_0_1472 inb_S2x256x2304_S1x256x64_0_0_2240 rfl rfl rfl rfl rfl rfl rfl rfl rfl rfl rfl rfl, ?_⟩
        refine List.forall_mem_cons.mpr ⟨hw 10 ![0, 128, 640] ![0, 128, 640] ![0, 0, 1408] ![0, 0, 2176] inb_S2x256x768_S1x128x64_0_128_640 inb_S2x256x2304_S1x128x64_0_128_640 inb_S2x256x2304_S1x256x64_0_0_1408 inb_S2x256x2304_S1x256x64_0_0_2176 rfl rfl rfl rfl rfl rfl rfl rfl rfl rfl rfl rfl, ?_⟩
        refine List.forall_mem_cons.mpr ⟨hw 9 ![0, 128, 576] ![0, 128, 576] ![0, 0, 1344] ![0, 0, 2112] inb_S2x256x768_S1x128x64_0_128_576 inb_S2x256x2304_S1x128x64_0_128_576 inb_S2x256x2304_S1x256x64_0_0_1344 inb_S2x256x2304_S1x256x64_0_0_2112 rfl rfl rfl rfl rfl rfl rfl rfl rfl rfl rfl rfl, ?_⟩
        refine List.forall_mem_cons.mpr ⟨hw 8 ![0, 128, 512] ![0, 128, 512] ![0, 0, 1280] ![0, 0, 2048] inb_S2x256x768_S1x128x64_0_128_512 inb_S2x256x2304_S1x128x64_0_128_512 inb_S2x256x2304_S1x256x64_0_0_1280 inb_S2x256x2304_S1x256x64_0_0_2048 rfl rfl rfl rfl rfl rfl rfl rfl rfl rfl rfl rfl, ?_⟩
        refine List.forall_mem_cons.mpr ⟨hw 7 ![0, 128, 448] ![0, 128, 448] ![0, 0, 1216] ![0, 0, 1984] inb_S2x256x768_S1x128x64_0_128_448 inb_S2x256x2304_S1x128x64_0_128_448 inb_S2x256x2304_S1x256x64_0_0_1216 inb_S2x256x2304_S1x256x64_0_0_1984 rfl rfl rfl rfl rfl rfl rfl rfl rfl rfl rfl rfl, ?_⟩
        refine List.forall_mem_cons.mpr ⟨hw 6 ![0, 128, 384] ![0, 128, 384] ![0, 0, 1152] ![0, 0, 1920] inb_S2x256x768_S1x128x64_0_128_384 inb_S2x256x2304_S1x128x64_0_128_384 inb_S2x256x2304_S1x256x64_0_0_1152 inb_S2x256x2304_S1x256x64_0_0_1920 rfl rfl rfl rfl rfl rfl rfl rfl rfl rfl rfl rfl, ?_⟩
        refine List.forall_mem_cons.mpr ⟨hw 5 ![0, 128, 320] ![0, 128, 320] ![0, 0, 1088] ![0, 0, 1856] inb_S2x256x768_S1x128x64_0_128_320 inb_S2x256x2304_S1x128x64_0_128_320 inb_S2x256x2304_S1x256x64_0_0_1088 inb_S2x256x2304_S1x256x64_0_0_1856 rfl rfl rfl rfl rfl rfl rfl rfl rfl rfl rfl rfl, ?_⟩
        refine List.forall_mem_cons.mpr ⟨hw 4 ![0, 128, 256] ![0, 128, 256] ![0, 0, 1024] ![0, 0, 1792] inb_S2x256x768_S1x128x64_0_128_256 inb_S2x256x2304_S1x128x64_0_128_256 inb_S2x256x2304_S1x256x64_0_0_1024 inb_S2x256x2304_S1x256x64_0_0_1792 rfl rfl rfl rfl rfl rfl rfl rfl rfl rfl rfl rfl, ?_⟩
        refine List.forall_mem_cons.mpr ⟨hw 3 ![0, 128, 192] ![0, 128, 192] ![0, 0, 960] ![0, 0, 1728] inb_S2x256x768_S1x128x64_0_128_192 inb_S2x256x2304_S1x128x64_0_128_192 inb_S2x256x2304_S1x256x64_0_0_960 inb_S2x256x2304_S1x256x64_0_0_1728 rfl rfl rfl rfl rfl rfl rfl rfl rfl rfl rfl rfl, ?_⟩
        refine List.forall_mem_cons.mpr ⟨hw 2 ![0, 128, 128] ![0, 128, 128] ![0, 0, 896] ![0, 0, 1664] inb_S2x256x768_S1x128x64_0_128_128 inb_S2x256x2304_S1x128x64_0_128_128 inb_S2x256x2304_S1x256x64_0_0_896 inb_S2x256x2304_S1x256x64_0_0_1664 rfl rfl rfl rfl rfl rfl rfl rfl rfl rfl rfl rfl, ?_⟩
        refine List.forall_mem_cons.mpr ⟨hw 1 ![0, 128, 64] ![0, 128, 64] ![0, 0, 832] ![0, 0, 1600] inb_S2x256x768_S1x128x64_0_128_64 inb_S2x256x2304_S1x128x64_0_128_64 inb_S2x256x2304_S1x256x64_0_0_832 inb_S2x256x2304_S1x256x64_0_0_1600 rfl rfl rfl rfl rfl rfl rfl rfl rfl rfl rfl rfl, ?_⟩
        refine List.forall_mem_cons.mpr ⟨hw 0 ![0, 128, 0] ![0, 128, 0] ![0, 0, 768] ![0, 0, 1536] inb_S2x256x768_S1x128x64_0_128_0 inb_S2x256x2304_S1x128x64_0_128_0 inb_S2x256x2304_S1x256x64_0_0_768 inb_S2x256x2304_S1x256x64_0_0_1536 rfl rfl rfl rfl rfl rfl rfl rfl rfl rfl rfl rfl, ?_⟩
        exact hh12
      have cv24 : ∀ h : Fin 12, ∃ p ∈ (body_B.sl.H10_24 c arg2 harg2 arg3 harg3 arg4 harg4 arg5 harg5 arg6 harg6 arg7 harg7 arg11 x0 x1 x2 x3 x4 x5), ∀ j : S2x256x768.Idx, (j 0).val = (0 : Fin 2).val → (j 1).val / 128 = (1 : Fin 2).val → (j 2).val / 64 = h.val → j ∈ p.1.set := by
        intro h
        fin_cases h
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_head 0 1 0 ![0, 128, 0] inb_S2x256x768_S1x128x64_0_128_0 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_head 0 1 1 ![0, 128, 64] inb_S2x256x768_S1x128x64_0_128_64 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_head 0 1 2 ![0, 128, 128] inb_S2x256x768_S1x128x64_0_128_128 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_head 0 1 3 ![0, 128, 192] inb_S2x256x768_S1x128x64_0_128_192 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_head 0 1 4 ![0, 128, 256] inb_S2x256x768_S1x128x64_0_128_256 rfl rfl rfl⟩
        · exact ⟨_, List.mem_cons_of_mem _ (List.mem_cons_of_mem _ (List.mem_cons_of_mem _ (List.mem_cons_of_mem _ (List.mem_cons_of_mem _ (List.mem_cons_of_mem _ (List.mem_cons_self)))))), mem_head 0 1 5 ![0, 128, 320] inb_S2x256x768_S1x128x64_0_128_320 rfl rfl rfl⟩
        · exact ⟨_, List.mem_cons_of_mem _ (List.mem_cons_of_mem _ (List.mem_cons_of_mem _ (List.mem_cons_of_mem _ (List.mem_cons_of_mem _ (List.mem_cons_self))))), mem_head 0 1 6 ![0, 128, 384] inb_S2x256x768_S1x128x64_0_128_384 rfl rfl rfl⟩
        · exact ⟨_, List.mem_cons_of_mem _ (List.mem_cons_of_mem _ (List.mem_cons_of_mem _ (List.mem_cons_of_mem _ (List.mem_cons_self)))), mem_head 0 1 7 ![0, 128, 448] inb_S2x256x768_S1x128x64_0_128_448 rfl rfl rfl⟩
        · exact ⟨_, List.mem_cons_of_mem _ (List.mem_cons_of_mem _ (List.mem_cons_of_mem _ (List.mem_cons_self))), mem_head 0 1 8 ![0, 128, 512] inb_S2x256x768_S1x128x64_0_128_512 rfl rfl rfl⟩
        · exact ⟨_, List.mem_cons_of_mem _ (List.mem_cons_of_mem _ (List.mem_cons_self)), mem_head 0 1 9 ![0, 128, 576] inb_S2x256x768_S1x128x64_0_128_576 rfl rfl rfl⟩
        · exact ⟨_, List.mem_cons_of_mem _ (List.mem_cons_self), mem_head 0 1 10 ![0, 128, 640] inb_S2x256x768_S1x128x64_0_128_640 rfl rfl rfl⟩
        · exact ⟨_, List.mem_cons_self, mem_head 0 1 11 ![0, 128, 704] inb_S2x256x768_S1x128x64_0_128_704 rfl rfl rfl⟩
      have hh36 : ∀ p ∈ (body_B.sl.H10_36 c arg2 harg2 arg3 harg3 arg4 harg4 arg5 harg5 arg6 harg6 arg7 harg7 arg11 x0 x1 x2 x3 x4 x5), Good (headBlock x1 (qkvBlock x0 x2 x3 x4 x5 (cond0_0 i (word0 i xt0)) (cond0_1 i (word1 i xt0)))) p := by
        have hw : ∀ (h : Fin 12) (off oq ok ov : Fin 3 → ℕ) (inb : ∀ a, off a + (![1, 128, 64] : Fin 3 → ℕ) a ≤ S2x256x768.size a)
            (iq : ∀ a, oq a + (![1, 128, 64] : Fin 3 → ℕ) a ≤ S2x256x2304.size a) (ik : ∀ a, ok a + (![1, 256, 64] : Fin 3 → ℕ) a ≤ S2x256x2304.size a)
            (iv : ∀ a, ov a + (![1, 256, 64] : Fin 3 → ℕ) a ≤ S2x256x2304.size a)
            (h0 : off 0 = (1 : Fin 2).val) (h1 : off 1 = 128 * (0 : Fin 2).val) (h2 : off 2 = 64 * h.val)
            (q0 : oq 0 = (1 : Fin 2).val) (q1 : oq 1 = 128 * (0 : Fin 2).val) (q2 : oq 2 = 64 * h.val) (k0 : ok 0 = (1 : Fin 2).val) (k1 : ok 1 = 0) (k2 : ok 2 = 768 + 64 * h.val)
            (v0 : ov 0 = (1 : Fin 2).val) (v1 : ov 1 = 0) (v2 : ov 2 = 1536 + 64 * h.val),
            Good (headBlock x1 (qkvBlock x0 x2 x3 x4 x5 (cond0_0 i (word0 i xt0)) (cond0_1 i (word1 i xt0)))) ⟨Rect.unit (s := S2x256x768) off ![1, 128, 64] inb,
              headTile (View.readAt (Elt F) arg3.view (Rect.unit (s := S2x1x256) ![1, 0, 0] ![1, 1, 256] inb_S2x1x256_S1x1x256_1_0_0).toLoadRect (harg3.unread x1))
              (arg11.view.readCov (body_B.sl.H9_4 c arg2 harg2 arg4 harg4 arg5 harg5 arg6 harg6 arg7 harg7 x0 x2 x3 x4 x5) (Rect.unit (s := S2x256x2304) oq ![1, 128, 64] iq).toLoadRect)
              (arg11.view.readCov (body_B.sl.H9_4 c arg2 harg2 arg4 harg4 arg5 harg5 arg6 harg6 arg7 harg7 x0 x2 x3 x4 x5) (Rect.unit (s := S2x256x2304) ok ![1, 256, 64] ik).toLoadRect)
              (arg11.view.readCov (body_B.sl.H9_4 c arg2 harg2 arg4 harg4 arg5 harg5 arg6 harg6 arg7 harg7 x0 x2 x3 x4 x5) (Rect.unit (s := S2x256x2304) ov ![1, 256, 64] iv).toLoadRect)⟩ :=
          fun h off oq ok ov inb iq ik iv h0 h1 h2 q0 q1 q2 k0 k1 k2 v0 v1 v2 => good_head x1 _ 1 0 h off inb h0 h1 h2 _
            (head_of harg3 x1 arg11.view (body_B.sl.H9_4 c arg2 harg2 arg4 harg4 arg5 harg5 arg6 harg6 arg7 harg7 x0 x2 x3 x4 x5) _ hq 1 cov1 0 h ![1, 0, 0] oq ok ov _ iq ik iv rfl rfl rfl q0 q1 q2 k0 k1 k2 v0 v1 v2)
        refine List.forall_mem_cons.mpr ⟨hw 11 ![1, 0, 704] ![1, 0, 704] ![1, 0, 1472] ![1, 0, 2240] inb_S2x256x768_S1x128x64_1_0_704 inb_S2x256x2304_S1x128x64_1_0_704 inb_S2x256x2304_S1x256x64_1_0_1472 inb_S2x256x2304_S1x256x64_1_0_2240 rfl rfl rfl rfl rfl rfl rfl rfl rfl rfl rfl rfl, ?_⟩
        refine List.forall_mem_cons.mpr ⟨hw 10 ![1, 0, 640] ![1, 0, 640] ![1, 0, 1408] ![1, 0, 2176] inb_S2x256x768_S1x128x64_1_0_640 inb_S2x256x2304_S1x128x64_1_0_640 inb_S2x256x2304_S1x256x64_1_0_1408 inb_S2x256x2304_S1x256x64_1_0_2176 rfl rfl rfl rfl rfl rfl rfl rfl rfl rfl rfl rfl, ?_⟩
        refine List.forall_mem_cons.mpr ⟨hw 9 ![1, 0, 576] ![1, 0, 576] ![1, 0, 1344] ![1, 0, 2112] inb_S2x256x768_S1x128x64_1_0_576 inb_S2x256x2304_S1x128x64_1_0_576 inb_S2x256x2304_S1x256x64_1_0_1344 inb_S2x256x2304_S1x256x64_1_0_2112 rfl rfl rfl rfl rfl rfl rfl rfl rfl rfl rfl rfl, ?_⟩
        refine List.forall_mem_cons.mpr ⟨hw 8 ![1, 0, 512] ![1, 0, 512] ![1, 0, 1280] ![1, 0, 2048] inb_S2x256x768_S1x128x64_1_0_512 inb_S2x256x2304_S1x128x64_1_0_512 inb_S2x256x2304_S1x256x64_1_0_1280 inb_S2x256x2304_S1x256x64_1_0_2048 rfl rfl rfl rfl rfl rfl rfl rfl rfl rfl rfl rfl, ?_⟩
        refine List.forall_mem_cons.mpr ⟨hw 7 ![1, 0, 448] ![1, 0, 448] ![1, 0, 1216] ![1, 0, 1984] inb_S2x256x768_S1x128x64_1_0_448 inb_S2x256x2304_S1x128x64_1_0_448 inb_S2x256x2304_S1x256x64_1_0_1216 inb_S2x256x2304_S1x256x64_1_0_1984 rfl rfl rfl rfl rfl rfl rfl rfl rfl rfl rfl rfl, ?_⟩
        refine List.forall_mem_cons.mpr ⟨hw 6 ![1, 0, 384] ![1, 0, 384] ![1, 0, 1152] ![1, 0, 1920] inb_S2x256x768_S1x128x64_1_0_384 inb_S2x256x2304_S1x128x64_1_0_384 inb_S2x256x2304_S1x256x64_1_0_1152 inb_S2x256x2304_S1x256x64_1_0_1920 rfl rfl rfl rfl rfl rfl rfl rfl rfl rfl rfl rfl, ?_⟩
        refine List.forall_mem_cons.mpr ⟨hw 5 ![1, 0, 320] ![1, 0, 320] ![1, 0, 1088] ![1, 0, 1856] inb_S2x256x768_S1x128x64_1_0_320 inb_S2x256x2304_S1x128x64_1_0_320 inb_S2x256x2304_S1x256x64_1_0_1088 inb_S2x256x2304_S1x256x64_1_0_1856 rfl rfl rfl rfl rfl rfl rfl rfl rfl rfl rfl rfl, ?_⟩
        refine List.forall_mem_cons.mpr ⟨hw 4 ![1, 0, 256] ![1, 0, 256] ![1, 0, 1024] ![1, 0, 1792] inb_S2x256x768_S1x128x64_1_0_256 inb_S2x256x2304_S1x128x64_1_0_256 inb_S2x256x2304_S1x256x64_1_0_1024 inb_S2x256x2304_S1x256x64_1_0_1792 rfl rfl rfl rfl rfl rfl rfl rfl rfl rfl rfl rfl, ?_⟩
        refine List.forall_mem_cons.mpr ⟨hw 3 ![1, 0, 192] ![1, 0, 192] ![1, 0, 960] ![1, 0, 1728] inb_S2x256x768_S1x128x64_1_0_192 inb_S2x256x2304_S1x128x64_1_0_192 inb_S2x256x2304_S1x256x64_1_0_960 inb_S2x256x2304_S1x256x64_1_0_1728 rfl rfl rfl rfl rfl rfl rfl rfl rfl rfl rfl rfl, ?_⟩
        refine List.forall_mem_cons.mpr ⟨hw 2 ![1, 0, 128] ![1, 0, 128] ![1, 0, 896] ![1, 0, 1664] inb_S2x256x768_S1x128x64_1_0_128 inb_S2x256x2304_S1x128x64_1_0_128 inb_S2x256x2304_S1x256x64_1_0_896 inb_S2x256x2304_S1x256x64_1_0_1664 rfl rfl rfl rfl rfl rfl rfl rfl rfl rfl rfl rfl, ?_⟩
        refine List.forall_mem_cons.mpr ⟨hw 1 ![1, 0, 64] ![1, 0, 64] ![1, 0, 832] ![1, 0, 1600] inb_S2x256x768_S1x128x64_1_0_64 inb_S2x256x2304_S1x128x64_1_0_64 inb_S2x256x2304_S1x256x64_1_0_832 inb_S2x256x2304_S1x256x64_1_0_1600 rfl rfl rfl rfl rfl rfl rfl rfl rfl rfl rfl rfl, ?_⟩
        refine List.forall_mem_cons.mpr ⟨hw 0 ![1, 0, 0] ![1, 0, 0] ![1, 0, 768] ![1, 0, 1536] inb_S2x256x768_S1x128x64_1_0_0 inb_S2x256x2304_S1x128x64_1_0_0 inb_S2x256x2304_S1x256x64_1_0_768 inb_S2x256x2304_S1x256x64_1_0_1536 rfl rfl rfl rfl rfl rfl rfl rfl rfl rfl rfl rfl, ?_⟩
        exact hh24
      have cv36 : ∀ h : Fin 12, ∃ p ∈ (body_B.sl.H10_36 c arg2 harg2 arg3 harg3 arg4 harg4 arg5 harg5 arg6 harg6 arg7 harg7 arg11 x0 x1 x2 x3 x4 x5), ∀ j : S2x256x768.Idx, (j 0).val = (1 : Fin 2).val → (j 1).val / 128 = (0 : Fin 2).val → (j 2).val / 64 = h.val → j ∈ p.1.set := by
        intro h
        fin_cases h
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_head 1 0 0 ![1, 0, 0] inb_S2x256x768_S1x128x64_1_0_0 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_head 1 0 1 ![1, 0, 64] inb_S2x256x768_S1x128x64_1_0_64 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_head 1 0 2 ![1, 0, 128] inb_S2x256x768_S1x128x64_1_0_128 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_head 1 0 3 ![1, 0, 192] inb_S2x256x768_S1x128x64_1_0_192 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_head 1 0 4 ![1, 0, 256] inb_S2x256x768_S1x128x64_1_0_256 rfl rfl rfl⟩
        · exact ⟨_, List.mem_cons_of_mem _ (List.mem_cons_of_mem _ (List.mem_cons_of_mem _ (List.mem_cons_of_mem _ (List.mem_cons_of_mem _ (List.mem_cons_of_mem _ (List.mem_cons_self)))))), mem_head 1 0 5 ![1, 0, 320] inb_S2x256x768_S1x128x64_1_0_320 rfl rfl rfl⟩
        · exact ⟨_, List.mem_cons_of_mem _ (List.mem_cons_of_mem _ (List.mem_cons_of_mem _ (List.mem_cons_of_mem _ (List.mem_cons_of_mem _ (List.mem_cons_self))))), mem_head 1 0 6 ![1, 0, 384] inb_S2x256x768_S1x128x64_1_0_384 rfl rfl rfl⟩
        · exact ⟨_, List.mem_cons_of_mem _ (List.mem_cons_of_mem _ (List.mem_cons_of_mem _ (List.mem_cons_of_mem _ (List.mem_cons_self)))), mem_head 1 0 7 ![1, 0, 448] inb_S2x256x768_S1x128x64_1_0_448 rfl rfl rfl⟩
        · exact ⟨_, List.mem_cons_of_mem _ (List.mem_cons_of_mem _ (List.mem_cons_of_mem _ (List.mem_cons_self))), mem_head 1 0 8 ![1, 0, 512] inb_S2x256x768_S1x128x64_1_0_512 rfl rfl rfl⟩
        · exact ⟨_, List.mem_cons_of_mem _ (List.mem_cons_of_mem _ (List.mem_cons_self)), mem_head 1 0 9 ![1, 0, 576] inb_S2x256x768_S1x128x64_1_0_576 rfl rfl rfl⟩
        · exact ⟨_, List.mem_cons_of_mem _ (List.mem_cons_self), mem_head 1 0 10 ![1, 0, 640] inb_S2x256x768_S1x128x64_1_0_640 rfl rfl rfl⟩
        · exact ⟨_, List.mem_cons_self, mem_head 1 0 11 ![1, 0, 704] inb_S2x256x768_S1x128x64_1_0_704 rfl rfl rfl⟩
      intro j hj
      refine View.read_writes_apply_of_pieces _ _ (outBlock x0 x1 x2 x3 x4 x5 x6 x7 (cond0_0 i (word0 i xt0)) (cond0_1 i (word1 i xt0))) _ ?_ j ?_
      · have hw : ∀ (L : List (View.Piece (Elt F) S2x256x768 .f32)) (hg : ∀ p ∈ L, Good (headBlock x1 (qkvBlock x0 x2 x3 x4 x5 (cond0_0 i (word0 i xt0)) (cond0_1 i (word1 i xt0)))) p) (s k : Fin 2)
            (hc : ∀ h : Fin 12, ∃ p ∈ L, ∀ j : S2x256x768.Idx, (j 0).val = s.val → (j 1).val / 128 = k.val → (j 2).val / 64 = h.val → j ∈ p.1.set)
            (off : Fin 3 → ℕ) (inb : ∀ a, off a + (![1, 128, 768] : Fin 3 → ℕ) a ≤ S2x256x768.size a)
            (h0 : off 0 = s.val) (h1 : off 1 = 128 * k.val) (h2 : off 2 = 0),
            Good (outBlock x0 x1 x2 x3 x4 x5 x6 x7 (cond0_0 i (word0 i xt0)) (cond0_1 i (word1 i xt0))) ⟨Rect.unit (s := S2x256x768) off ![1, 128, 768] inb,
              outTile (arg12.view.readCov L (Rect.unit (s := S2x256x768) off ![1, 128, 768] inb).toLoadRect)
              (View.readAt (Elt F) arg8.view (Rect.unit (s := S768x768) ![0, 0] ![768, 768] inb_S768x768_S768x768_0_0).toLoadRect (harg8.unread x6))
              (View.readAt (Elt F) arg2.view (Rect.unit (s := S2x256x768) off ![1, 128, 768] inb).toLoadRect (harg2.unread x0))
              (View.readAt (Elt F) arg9.view (Rect.unit (s := S1x768) ![0, 0] ![1, 768] inb_S1x768_S1x768_0_0).toLoadRect (harg9.unread x7))⟩ := by
          intro L hg s k hc off inb h0 h1 h2
          refine good_tile _ s k off inb h0 h1 h2 _ ?_
          rw [load_heads arg12.view L _ hg s k hc off inb h0 h1 h2, load_rows harg2 x0 s k off inb h0 h1 h2, load_whole harg8, load_whole harg9]
        show ∀ p ∈ _, Good _ p
        refine List.forall_mem_cons.mpr ⟨hw (body_B.sl.H10_36 c arg2 harg2 arg3 harg3 arg4 harg4 arg5 harg5 arg6 harg6 arg7 harg7 arg11 x0 x1 x2 x3 x4 x5) hh36 1 0 cv36 ![1, 0, 0] inb_S2x256x768_S1x128x768_1_0_0 rfl rfl rfl, ?_⟩
        refine List.forall_mem_cons.mpr ⟨hw (body_B.sl.H10_24 c arg2 harg2 arg3 harg3 arg4 harg4 arg5 harg5 arg6 harg6 arg7 harg7 arg11 x0 x1 x2 x3 x4 x5) hh24 0 1 cv24 ![0, 128, 0] inb_S2x256x768_S1x128x768_0_128_0 rfl rfl rfl, ?_⟩
        refine List.forall_mem_cons.mpr ⟨hw (body_B.sl.H10_12 c arg2 harg2 arg3 harg3 arg4 harg4 arg5 harg5 arg6 harg6 arg7 harg7 arg11 x0 x1 x2 x3 x4 x5) hh12 0 0 cv12 ![0, 0, 0] inb_S2x256x768_S1x128x768_0_0_0 rfl rfl rfl, ?_⟩
        exact fun _ h => absurd h List.not_mem_nil
      · have hj0 : (j 0).val < 2 := (j 0).isLt
        have hj1 : (j 1).val < 256 := (j 1).isLt
        by_cases a0 : (j 0).val = 0
        · by_cases a1 : (j 1).val < 128
          · exact ⟨_, List.mem_cons_of_mem _ (List.mem_cons_of_mem _ (List.mem_cons_self)), mem_tile 0 0 ![0, 0, 0] inb_S2x256x768_S1x128x768_0_0_0 rfl rfl rfl j a0 (by show _ / 128 = 0; omega)⟩
          · exact ⟨_, List.mem_cons_of_mem _ (List.mem_cons_self), mem_tile 0 1 ![0, 128, 0] inb_S2x256x768_S1x128x768_0_128_0 rfl rfl rfl j a0 (by show _ / 128 = 1; omega)⟩
        · by_cases a1 : (j 1).val < 128
          · exact ⟨_, List.mem_cons_self, mem_tile 1 0 ![1, 0, 0] inb_S2x256x768_S1x128x768_1_0_0 rfl rfl rfl j (by show _ = 1; omega) (by show _ / 128 = 0; omega)⟩
          · exact absurd hj (by rintro (h | ⟨h, h'⟩ | ⟨h, h'⟩) <;> first | omega | exact hc1 h')
    isplitl [H9]
    · iexists _; iexists _; isplitr; swap; · iexact H9
      ipureintro; rfl
    isplitl [H10]
    · iexists _; iexists _; isplitr; swap; · iexact H10
      ipureintro; rfl
    iexact HT0

end Cert.AttnIdeal.Run

end
-- ==== Proof.AttnBodyC.lean ====
/-
  The body of the attention call's ideal program at one grid point, in each of its four cases.
-/
module

public import proofs.«01_k».proof.Proof.AttnTiles
public import Idealize.ShloMosaic.Lib.ValueIdx

@[expose] public section

set_option maxRecDepth 16384

noncomputable section

namespace Cert.AttnIdeal.Run

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body in case C. -/
theorem body_C (c : Dev nD) (i : grid0.Coords) (arg2 : Memref sig .tc .vmem S2x256x768 .f32) (harg2 : arg2.IsWhole) (arg3 : Memref sig .tc .vmem S2x1x256 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S768x2304 .f32) (harg6 : arg6.IsWhole) (arg7 : Memref sig .tc .vmem S1x2304 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S2x256x768 .f32) (harg10 : arg10.IsWhole) (arg11 : Memref sig .tc .vmem S2x256x2304 .f32) (harg11 : arg11.IsWhole) (arg12 : Memref sig .tc .vmem S2x256x768 .f32) (harg12 : arg12.IsWhole)
    (x0 : Vec F S2x256x768 .f32) (x1 : Vec F S2x1x256 .f32) (x2 : Vec F S1x768 .f32) (x3 : Vec F S1x768 .f32) (x4 : Vec F S768x2304 .f32) (x5 : Vec F S1x2304 .f32) (x6 : Vec F S768x768 .f32) (x7 : Vec F S1x768 .f32) (xt0 : TbBuf0 (F := F) c tbM0_0) (hc0 : ¬ cond0_0 i (word0 i xt0)) (hc1 : cond0_1 i (word1 i xt0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ X, ⌜Written (outBlock x0 x1 x2 x3 x4 x5 x6 x7 (cond0_0 i (word0 i xt0)) (cond0_1 i (word1 i xt0))) X (cond0_0 i (word0 i xt0)) (cond0_1 i (word1 i xt0))⌝ ∗ owns (c : Thread nD τ) arg10 fullShare X) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_vit_attn i tbM0_0 htbM0_0 arg2 harg2 arg3 harg3 arg4 harg4 arg5 harg5 arg6 harg6 arg7 harg7 arg8 harg8 arg9 harg9 arg10 harg10 arg11 harg11 arg12 harg12) K := by
    intro E K
    have hz0 := zeroed_of_not hc0
    have hz1 := not_zeroed hc1
    simp only [cc0_vit_attn_eq_skeleton]; unfold cc0_vit_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hz0 | sl_exact hz1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap
      · iexists _; isplitr; swap; · iexact H8
        ipureintro; rfl
      ipureintro
      have hq : ∀ p ∈ (body_C.sl.H9_4 c arg2 harg2 arg4 harg4 arg5 harg5 arg6 harg6 arg7 harg7 x0 x2 x3 x4 x5), Good (qkvBlock x0 x2 x3 x4 x5 (cond0_0 i (word0 i xt0)) (cond0_1 i (word1 i xt0))) p := by
        have hw : ∀ (s k : Fin 2) (hk : Taken (cond0_0 i (word0 i xt0)) (cond0_1 i (word1 i xt0)) s k) (off : Fin 3 → ℕ) (inb : ∀ a, off a + (![1, 128, 2304] : Fin 3 → ℕ) a ≤ S2x256x2304.size a)
            (inb' : ∀ a, off a + (![1, 128, 768] : Fin 3 → ℕ) a ≤ S2x256x768.size a)
            (h0 : off 0 = s.val) (h1 : off 1 = 128 * k.val) (h2 : off 2 = 0),
            Good (qkvBlock x0 x2 x3 x4 x5 (cond0_0 i (word0 i xt0)) (cond0_1 i (word1 i xt0))) ⟨Rect.unit (s := S2x256x2304) off ![1, 128, 2304] inb,
              qkvTile (View.readAt (Elt F) arg2.view (Rect.unit (s := S2x256x768) off ![1, 128, 768] inb').toLoadRect (harg2.unread x0))
              (View.readAt (Elt F) arg4.view (Rect.unit (s := S1x768) ![0, 0] ![1, 768] inb_S1x768_S1x768_0_0).toLoadRect (harg4.unread x2))
              (View.readAt (Elt F) arg5.view (Rect.unit (s := S1x768) ![0, 0] ![1, 768] inb_S1x768_S1x768_0_0).toLoadRect (harg5.unread x3))
              (View.readAt (Elt F) arg6.view (Rect.unit (s := S768x2304) ![0, 0] ![768, 2304] inb_S768x2304_S768x2304_0_0).toLoadRect (harg6.unread x4))
              (View.readAt (Elt F) arg7.view (Rect.unit (s := S1x2304) ![0, 0] ![1, 2304] inb_S1x2304_S1x2304_0_0).toLoadRect (harg7.unread x5))⟩ := by
          intro s k hk off inb inb' h0 h1 h2
          refine good_tile _ s k off inb h0 h1 h2 _ ?_
          rw [load_rows harg2 x0 s k off inb' h0 h1 h2, load_whole harg4, load_whole harg5, load_whole harg6, load_whole harg7]
          exact (if_pos hk).symm
        have hz : ∀ (s k : Fin 2) (hk : ¬ Taken (cond0_0 i (word0 i xt0)) (cond0_1 i (word1 i xt0)) s k) (off : Fin 3 → ℕ) (inb : ∀ a, off a + (![1, 128, 2304] : Fin 3 → ℕ) a ≤ S2x256x2304.size a)
            (h0 : off 0 = s.val) (h1 : off 1 = 128 * k.val) (h2 : off 2 = 0),
            Good (qkvBlock x0 x2 x3 x4 x5 (cond0_0 i (word0 i xt0)) (cond0_1 i (word1 i xt0))) ⟨Rect.unit (s := S2x256x2304) off ![1, 128, 2304] inb, k0_pay58⟩ := by
          intro s k hk off inb h0 h1 h2
          exact good_tile _ s k off inb h0 h1 h2 _ (if_neg hk).symm
        refine List.forall_mem_cons.mpr ⟨?_, List.forall_mem_cons.mpr ⟨?_, List.forall_mem_cons.mpr ⟨?_, List.forall_mem_cons.mpr ⟨?_, fun _ h => absurd h List.not_mem_nil⟩⟩⟩⟩
        · exact hw 1 1 (Or.inr (Or.inr ⟨rfl, hc1⟩)) ![1, 128, 0] inb_S2x256x2304_S1x128x2304_1_128_0 inb_S2x256x768_S1x128x768_1_128_0 rfl rfl rfl
        · exact hw 1 0 (Or.inl rfl) ![1, 0, 0] inb_S2x256x2304_S1x128x2304_1_0_0 inb_S2x256x768_S1x128x768_1_0_0 rfl rfl rfl
        · exact hz 0 1 (by rintro (h | ⟨h, h'⟩ | ⟨h, h'⟩) <;> first | exact absurd h (by decide) | exact hc0 h') ![0, 128, 0] inb_S2x256x2304_S1x128x2304_0_128_0 rfl rfl rfl
        · exact hw 0 0 (Or.inl rfl) ![0, 0, 0] inb_S2x256x2304_S1x128x2304_0_0_0 inb_S2x256x768_S1x128x768_0_0_0 rfl rfl rfl
      have hq0 : ∀ p ∈ (body_C.sl.H9_2 c arg2 harg2 arg4 harg4 arg5 harg5 arg6 harg6 arg7 harg7 x0 x2 x3 x4 x5), Good (qkvBlock x0 x2 x3 x4 x5 (cond0_0 i (word0 i xt0)) (cond0_1 i (word1 i xt0))) p :=
        fun p hp => hq p (List.mem_cons_of_mem _ (List.mem_cons_of_mem _ hp))
      have cov0 : ∀ j : S2x256x2304.Idx, (j 0).val = ((0 : Fin 2)).val → ∃ p ∈ (body_C.sl.H9_2 c arg2 harg2 arg4 harg4 arg5 harg5 arg6 harg6 arg7 harg7 x0 x2 x3 x4 x5), j ∈ p.1.set := by
        intro j hj
        have hj1 : (j 1).val < 256 := (j 1).isLt
        by_cases a1 : (j 1).val < 128
        · exact ⟨_, List.mem_cons_of_mem _ (List.mem_cons_self), mem_tile 0 0 ![0, 0, 0] inb_S2x256x2304_S1x128x2304_0_0_0 rfl rfl rfl j hj (by show _ / 128 = 0; omega)⟩
        · exact ⟨_, List.mem_cons_self, mem_tile 0 1 ![0, 128, 0] inb_S2x256x2304_S1x128x2304_0_128_0 rfl rfl rfl j hj (by show _ / 128 = 1; omega)⟩
      have cov1 : ∀ j : S2x256x2304.Idx, (j 0).val = ((1 : Fin 2)).val → ∃ p ∈ (body_C.sl.H9_4 c arg2 harg2 arg4 harg4 arg5 harg5 arg6 harg6 arg7 harg7 x0 x2 x3 x4 x5), j ∈ p.1.set := by
        intro j hj
        have hj1 : (j 1).val < 256 := (j 1).isLt
        by_cases a1 : (j 1).val < 128
        · exact ⟨_, List.mem_cons_of_mem _ (List.mem_cons_self), mem_tile 1 0 ![1, 0, 0] inb_S2x256x2304_S1x128x2304_1_0_0 rfl rfl rfl j hj (by show _ / 128 = 0; omega)⟩
        · exact ⟨_, List.mem_cons_self, mem_tile 1 1 ![1, 128, 0] inb_S2x256x2304_S1x128x2304_1_128_0 rfl rfl rfl j hj (by show _ / 128 = 1; omega)⟩
      have hh12 : ∀ p ∈ (body_C.sl.H10_12 c arg2 harg2 arg3 harg3 arg4 harg4 arg5 harg5 arg6 harg6 arg7 harg7 arg11 x0 x1 x2 x3 x4 x5), Good (headBlock x1 (qkvBlock x0 x2 x3 x4 x5 (cond0_0 i (word0 i xt0)) (cond0_1 i (word1 i xt0)))) p := by
        have hw : ∀ (h : Fin 12) (off oq ok ov : Fin 3 → ℕ) (inb : ∀ a, off a + (![1, 128, 64] : Fin 3 → ℕ) a ≤ S2x256x768.size a)
            (iq : ∀ a, oq a + (![1, 128, 64] : Fin 3 → ℕ) a ≤ S2x256x2304.size a) (ik : ∀ a, ok a + (![1, 256, 64] : Fin 3 → ℕ) a ≤ S2x256x2304.size a)
            (iv : ∀ a, ov a + (![1, 256, 64] : Fin 3 → ℕ) a ≤ S2x256x2304.size a)
            (h0 : off 0 = (0 : Fin 2).val) (h1 : off 1 = 128 * (0 : Fin 2).val) (h2 : off 2 = 64 * h.val)
            (q0 : oq 0 = (0 : Fin 2).val) (q1 : oq 1 = 128 * (0 : Fin 2).val) (q2 : oq 2 = 64 * h.val) (k0 : ok 0 = (0 : Fin 2).val) (k1 : ok 1 = 0) (k2 : ok 2 = 768 + 64 * h.val)
            (v0 : ov 0 = (0 : Fin 2).val) (v1 : ov 1 = 0) (v2 : ov 2 = 1536 + 64 * h.val),
            Good (headBlock x1 (qkvBlock x0 x2 x3 x4 x5 (cond0_0 i (word0 i xt0)) (cond0_1 i (word1 i xt0)))) ⟨Rect.unit (s := S2x256x768) off ![1, 128, 64] inb,
              headTile (View.readAt (Elt F) arg3.view (Rect.unit (s := S2x1x256) ![0, 0, 0] ![1, 1, 256] inb_S2x1x256_S1x1x256_0_0_0).toLoadRect (harg3.unread x1))
              (arg11.view.readCov (body_C.sl.H9_2 c arg2 harg2 arg4 harg4 arg5 harg5 arg6 harg6 arg7 harg7 x0 x2 x3 x4 x5) (Rect.unit (s := S2x256x2304) oq ![1, 128, 64] iq).toLoadRect)
              (arg11.view.readCov (body_C.sl.H9_2 c arg2 harg2 arg4 harg4 arg5 harg5 arg6 harg6 arg7 harg7 x0 x2 x3 x4 x5) (Rect.unit (s := S2x256x2304) ok ![1, 256, 64] ik).toLoadRect)
              (arg11.view.readCov (body_C.sl.H9_2 c arg2 harg2 arg4 harg4 arg5 harg5 arg6 harg6 arg7 harg7 x0 x2 x3 x4 x5) (Rect.unit (s := S2x256x2304) ov ![1, 256, 64] iv).toLoadRect)⟩ :=
          fun h off oq ok ov inb iq ik iv h0 h1 h2 q0 q1 q2 k0 k1 k2 v0 v1 v2 => good_head x1 _ 0 0 h off inb h0 h1 h2 _
            (head_of harg3 x1 arg11.view (body_C.sl.H9_2 c arg2 harg2 arg4 harg4 arg5 harg5 arg6 harg6 arg7 harg7 x0 x2 x3 x4 x5) _ hq0 0 cov0 0 h ![0, 0, 0] oq ok ov _ iq ik iv rfl rfl rfl q0 q1 q2 k0 k1 k2 v0 v1 v2)
        refine List.forall_mem_cons.mpr ⟨hw 11 ![0, 0, 704] ![0, 0, 704] ![0, 0, 1472] ![0, 0, 2240] inb_S2x256x768_S1x128x64_0_0_704 inb_S2x256x2304_S1x128x64_0_0_704 inb_S2x256x2304_S1x256x64_0_0_1472 inb_S2x256x2304_S1x256x64_0_0_2240 rfl rfl rfl rfl rfl rfl rfl rfl rfl rfl rfl rfl, ?_⟩
        refine List.forall_mem_cons.mpr ⟨hw 10 ![0, 0, 640] ![0, 0, 640] ![0, 0, 1408] ![0, 0, 2176] inb_S2x256x768_S1x128x64_0_0_640 inb_S2x256x2304_S1x128x64_0_0_640 inb_S2x256x2304_S1x256x64_0_0_1408 inb_S2x256x2304_S1x256x64_0_0_2176 rfl rfl rfl rfl rfl rfl rfl rfl rfl rfl rfl rfl, ?_⟩
        refine List.forall_mem_cons.mpr ⟨hw 9 ![0, 0, 576] ![0, 0, 576] ![0, 0, 1344] ![0, 0, 2112] inb_S2x256x768_S1x128x64_0_0_576 inb_S2x256x2304_S1x128x64_0_0_576 inb_S2x256x2304_S1x256x64_0_0_1344 inb_S2x256x2304_S1x256x64_0_0_2112 rfl rfl rfl rfl rfl rfl rfl rfl rfl rfl rfl rfl, ?_⟩
        refine List.forall_mem_cons.mpr ⟨hw 8 ![0, 0, 512] ![0, 0, 512] ![0, 0, 1280] ![0, 0, 2048] inb_S2x256x768_S1x128x64_0_0_512 inb_S2x256x2304_S1x128x64_0_0_512 inb_S2x256x2304_S1x256x64_0_0_1280 inb_S2x256x2304_S1x256x64_0_0_2048 rfl rfl rfl rfl rfl rfl rfl rfl rfl rfl rfl rfl, ?_⟩
        refine List.forall_mem_cons.mpr ⟨hw 7 ![0, 0, 448] ![0, 0, 448] ![0, 0, 1216] ![0, 0, 1984] inb_S2x256x768_S1x128x64_0_0_448 inb_S2x256x2304_S1x128x64_0_0_448 inb_S2x256x2304_S1x256x64_0_0_1216 inb_S2x256x2304_S1x256x64_0_0_1984 rfl rfl rfl rfl rfl rfl rfl rfl rfl rfl rfl rfl, ?_⟩
        refine List.forall_mem_cons.mpr ⟨hw 6 ![0, 0, 384] ![0, 0, 384] ![0, 0, 1152] ![0, 0, 1920] inb_S2x256x768_S1x128x64_0_0_384 inb_S2x256x2304_S1x128x64_0_0_384 inb_S2x256x2304_S1x256x64_0_0_1152 inb_S2x256x2304_S1x256x64_0_0_1920 rfl rfl rfl rfl rfl rfl rfl rfl rfl rfl rfl rfl, ?_⟩
        refine List.forall_mem_cons.mpr ⟨hw 5 ![0, 0, 320] ![0, 0, 320] ![0, 0, 1088] ![0, 0, 1856] inb_S2x256x768_S1x128x64_0_0_320 inb_S2x256x2304_S1x128x64_0_0_320 inb_S2x256x2304_S1x256x64_0_0_1088 inb_S2x256x2304_S1x256x64_0_0_1856 rfl rfl rfl rfl rfl rfl rfl rfl rfl rfl rfl rfl, ?_⟩
        refine List.forall_mem_cons.mpr ⟨hw 4 ![0, 0, 256] ![0, 0, 256] ![0, 0, 1024] ![0, 0, 1792] inb_S2x256x768_S1x128x64_0_0_256 inb_S2x256x2304_S1x128x64_0_0_256 inb_S2x256x2304_S1x256x64_0_0_1024 inb_S2x256x2304_S1x256x64_0_0_1792 rfl rfl rfl rfl rfl rfl rfl rfl rfl rfl rfl rfl, ?_⟩
        refine List.forall_mem_cons.mpr ⟨hw 3 ![0, 0, 192] ![0, 0, 192] ![0, 0, 960] ![0, 0, 1728] inb_S2x256x768_S1x128x64_0_0_192 inb_S2x256x2304_S1x128x64_0_0_192 inb_S2x256x2304_S1x256x64_0_0_960 inb_S2x256x2304_S1x256x64_0_0_1728 rfl rfl rfl rfl rfl rfl rfl rfl rfl rfl rfl rfl, ?_⟩
        refine List.forall_mem_cons.mpr ⟨hw 2 ![0, 0, 128] ![0, 0, 128] ![0, 0, 896] ![0, 0, 1664] inb_S2x256x768_S1x128x64_0_0_128 inb_S2x256x2304_S1x128x64_0_0_128 inb_S2x256x2304_S1x256x64_0_0_896 inb_S2x256x2304_S1x256x64_0_0_1664 rfl rfl rfl rfl rfl rfl rfl rfl rfl rfl rfl rfl, ?_⟩
        refine List.forall_mem_cons.mpr ⟨hw 1 ![0, 0, 64] ![0, 0, 64] ![0, 0, 832] ![0, 0, 1600] inb_S2x256x768_S1x128x64_0_0_64 inb_S2x256x2304_S1x128x64_0_0_64 inb_S2x256x2304_S1x256x64_0_0_832 inb_S2x256x2304_S1x256x64_0_0_1600 rfl rfl rfl rfl rfl rfl rfl rfl rfl rfl rfl rfl, ?_⟩
        refine List.forall_mem_cons.mpr ⟨hw 0 ![0, 0, 0] ![0, 0, 0] ![0, 0, 768] ![0, 0, 1536] inb_S2x256x768_S1x128x64_0_0_0 inb_S2x256x2304_S1x128x64_0_0_0 inb_S2x256x2304_S1x256x64_0_0_768 inb_S2x256x2304_S1x256x64_0_0_1536 rfl rfl rfl rfl rfl rfl rfl rfl rfl rfl rfl rfl, ?_⟩
        exact fun _ h => absurd h List.not_mem_nil
      have cv12 : ∀ h : Fin 12, ∃ p ∈ (body_C.sl.H10_12 c arg2 harg2 arg3 harg3 arg4 harg4 arg5 harg5 arg6 harg6 arg7 harg7 arg11 x0 x1 x2 x3 x4 x5), ∀ j : S2x256x768.Idx, (j 0).val = (0 : Fin 2).val → (j 1).val / 128 = (0 : Fin 2).val → (j 2).val / 64 = h.val → j ∈ p.1.set := by
        intro h
        fin_cases h
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_head 0 0 0 ![0, 0, 0] inb_S2x256x768_S1x128x64_0_0_0 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_head 0 0 1 ![0, 0, 64] inb_S2x256x768_S1x128x64_0_0_64 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_head 0 0 2 ![0, 0, 128] inb_S2x256x768_S1x128x64_0_0_128 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_head 0 0 3 ![0, 0, 192] inb_S2x256x768_S1x128x64_0_0_192 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_head 0 0 4 ![0, 0, 256] inb_S2x256x768_S1x128x64_0_0_256 rfl rfl rfl⟩
        · exact ⟨_, List.mem_cons_of_mem _ (List.mem_cons_of_mem _ (List.mem_cons_of_mem _ (List.mem_cons_of_mem _ (List.mem_cons_of_mem _ (List.mem_cons_of_mem _ (List.mem_cons_self)))))), mem_head 0 0 5 ![0, 0, 320] inb_S2x256x768_S1x128x64_0_0_320 rfl rfl rfl⟩
        · exact ⟨_, List.mem_cons_of_mem _ (List.mem_cons_of_mem _ (List.mem_cons_of_mem _ (List.mem_cons_of_mem _ (List.mem_cons_of_mem _ (List.mem_cons_self))))), mem_head 0 0 6 ![0, 0, 384] inb_S2x256x768_S1x128x64_0_0_384 rfl rfl rfl⟩
        · exact ⟨_, List.mem_cons_of_mem _ (List.mem_cons_of_mem _ (List.mem_cons_of_mem _ (List.mem_cons_of_mem _ (List.mem_cons_self)))), mem_head 0 0 7 ![0, 0, 448] inb_S2x256x768_S1x128x64_0_0_448 rfl rfl rfl⟩
        · exact ⟨_, List.mem_cons_of_mem _ (List.mem_cons_of_mem _ (List.mem_cons_of_mem _ (List.mem_cons_self))), mem_head 0 0 8 ![0, 0, 512] inb_S2x256x768_S1x128x64_0_0_512 rfl rfl rfl⟩
        · exact ⟨_, List.mem_cons_of_mem _ (List.mem_cons_of_mem _ (List.mem_cons_self)), mem_head 0 0 9 ![0, 0, 576] inb_S2x256x768_S1x128x64_0_0_576 rfl rfl rfl⟩
        · exact ⟨_, List.mem_cons_of_mem _ (List.mem_cons_self), mem_head 0 0 10 ![0, 0, 640] inb_S2x256x768_S1x128x64_0_0_640 rfl rfl rfl⟩
        · exact ⟨_, List.mem_cons_self, mem_head 0 0 11 ![0, 0, 704] inb_S2x256x768_S1x128x64_0_0_704 rfl rfl rfl⟩
      have hh24 : ∀ p ∈ (body_C.sl.H10_24 c arg2 harg2 arg3 harg3 arg4 harg4 arg5 harg5 arg6 harg6 arg7 harg7 arg11 x0 x1 x2 x3 x4 x5), Good (headBlock x1 (qkvBlock x0 x2 x3 x4 x5 (cond0_0 i (word0 i xt0)) (cond0_1 i (word1 i xt0)))) p := by
        have hw : ∀ (h : Fin 12) (off oq ok ov : Fin 3 → ℕ) (inb : ∀ a, off a + (![1, 128, 64] : Fin 3 → ℕ) a ≤ S2x256x768.size a)
            (iq : ∀ a, oq a + (![1, 128, 64] : Fin 3 → ℕ) a ≤ S2x256x2304.size a) (ik : ∀ a, ok a + (![1, 256, 64] : Fin 3 → ℕ) a ≤ S2x256x2304.size a)
            (iv : ∀ a, ov a + (![1, 256, 64] : Fin 3 → ℕ) a ≤ S2x256x2304.size a)
            (h0 : off 0 = (1 : Fin 2).val) (h1 : off 1 = 128 * (0 : Fin 2).val) (h2 : off 2 = 64 * h.val)
            (q0 : oq 0 = (1 : Fin 2).val) (q1 : oq 1 = 128 * (0 : Fin 2).val) (q2 : oq 2 = 64 * h.val) (k0 : ok 0 = (1 : Fin 2).val) (k1 : ok 1 = 0) (k2 : ok 2 = 768 + 64 * h.val)
            (v0 : ov 0 = (1 : Fin 2).val) (v1 : ov 1 = 0) (v2 : ov 2 = 1536 + 64 * h.val),
            Good (headBlock x1 (qkvBlock x0 x2 x3 x4 x5 (cond0_0 i (word0 i xt0)) (cond0_1 i (word1 i xt0)))) ⟨Rect.unit (s := S2x256x768) off ![1, 128, 64] inb,
              headTile (View.readAt (Elt F) arg3.view (Rect.unit (s := S2x1x256) ![1, 0, 0] ![1, 1, 256] inb_S2x1x256_S1x1x256_1_0_0).toLoadRect (harg3.unread x1))
              (arg11.view.readCov (body_C.sl.H9_4 c arg2 harg2 arg4 harg4 arg5 harg5 arg6 harg6 arg7 harg7 x0 x2 x3 x4 x5) (Rect.unit (s := S2x256x2304) oq ![1, 128, 64] iq).toLoadRect)
              (arg11.view.readCov (body_C.sl.H9_4 c arg2 harg2 arg4 harg4 arg5 harg5 arg6 harg6 arg7 harg7 x0 x2 x3 x4 x5) (Rect.unit (s := S2x256x2304) ok ![1, 256, 64] ik).toLoadRect)
              (arg11.view.readCov (body_C.sl.H9_4 c arg2 harg2 arg4 harg4 arg5 harg5 arg6 harg6 arg7 harg7 x0 x2 x3 x4 x5) (Rect.unit (s := S2x256x2304) ov ![1, 256, 64] iv).toLoadRect)⟩ :=
          fun h off oq ok ov inb iq ik iv h0 h1 h2 q0 q1 q2 k0 k1 k2 v0 v1 v2 => good_head x1 _ 1 0 h off inb h0 h1 h2 _
            (head_of harg3 x1 arg11.view (body_C.sl.H9_4 c arg2 harg2 arg4 harg4 arg5 harg5 arg6 harg6 arg7 harg7 x0 x2 x3 x4 x5) _ hq 1 cov1 0 h ![1, 0, 0] oq ok ov _ iq ik iv rfl rfl rfl q0 q1 q2 k0 k1 k2 v0 v1 v2)
        refine List.forall_mem_cons.mpr ⟨hw 11 ![1, 0, 704] ![1, 0, 704] ![1, 0, 1472] ![1, 0, 2240] inb_S2x256x768_S1x128x64_1_0_704 inb_S2x256x2304_S1x128x64_1_0_704 inb_S2x256x2304_S1x256x64_1_0_1472 inb_S2x256x2304_S1x256x64_1_0_2240 rfl rfl rfl rfl rfl rfl rfl rfl rfl rfl rfl rfl, ?_⟩
        refine List.forall_mem_cons.mpr ⟨hw 10 ![1, 0, 640] ![1, 0, 640] ![1, 0, 1408] ![1, 0, 2176] inb_S2x256x768_S1x128x64_1_0_640 inb_S2x256x2304_S1x128x64_1_0_640 inb_S2x256x2304_S1x256x64_1_0_1408 inb_S2x256x2304_S1x256x64_1_0_2176 rfl rfl rfl rfl rfl rfl rfl rfl rfl rfl rfl rfl, ?_⟩
        refine List.forall_mem_cons.mpr ⟨hw 9 ![1, 0, 576] ![1, 0, 576] ![1, 0, 1344] ![1, 0, 2112] inb_S2x256x768_S1x128x64_1_0_576 inb_S2x256x2304_S1x128x64_1_0_576 inb_S2x256x2304_S1x256x64_1_0_1344 inb_S2x256x2304_S1x256x64_1_0_2112 rfl rfl rfl rfl rfl rfl rfl rfl rfl rfl rfl rfl, ?_⟩
        refine List.forall_mem_cons.mpr ⟨hw 8 ![1, 0, 512] ![1, 0, 512] ![1, 0, 1280] ![1, 0, 2048] inb_S2x256x768_S1x128x64_1_0_512 inb_S2x256x2304_S1x128x64_1_0_512 inb_S2x256x2304_S1x256x64_1_0_1280 inb_S2x256x2304_S1x256x64_1_0_2048 rfl rfl rfl rfl rfl rfl rfl rfl rfl rfl rfl rfl, ?_⟩
        refine List.forall_mem_cons.mpr ⟨hw 7 ![1, 0, 448] ![1, 0, 448] ![1, 0, 1216] ![1, 0, 1984] inb_S2x256x768_S1x128x64_1_0_448 inb_S2x256x2304_S1x128x64_1_0_448 inb_S2x256x2304_S1x256x64_1_0_1216 inb_S2x256x2304_S1x256x64_1_0_1984 rfl rfl rfl rfl rfl rfl rfl rfl rfl rfl rfl rfl, ?_⟩
        refine List.forall_mem_cons.mpr ⟨hw 6 ![1, 0, 384] ![1, 0, 384] ![1, 0, 1152] ![1, 0, 1920] inb_S2x256x768_S1x128x64_1_0_384 inb_S2x256x2304_S1x128x64_1_0_384 inb_S2x256x2304_S1x256x64_1_0_1152 inb_S2x256x2304_S1x256x64_1_0_1920 rfl rfl rfl rfl rfl rfl rfl rfl rfl rfl rfl rfl, ?_⟩
        refine List.forall_mem_cons.mpr ⟨hw 5 ![1, 0, 320] ![1, 0, 320] ![1, 0, 1088] ![1, 0, 1856] inb_S2x256x768_S1x128x64_1_0_320 inb_S2x256x2304_S1x128x64_1_0_320 inb_S2x256x2304_S1x256x64_1_0_1088 inb_S2x256x2304_S1x256x64_1_0_1856 rfl rfl rfl rfl rfl rfl rfl rfl rfl rfl rfl rfl, ?_⟩
        refine List.forall_mem_cons.mpr ⟨hw 4 ![1, 0, 256] ![1, 0, 256] ![1, 0, 1024] ![1, 0, 1792] inb_S2x256x768_S1x128x64_1_0_256 inb_S2x256x2304_S1x128x64_1_0_256 inb_S2x256x2304_S1x256x64_1_0_1024 inb_S2x256x2304_S1x256x64_1_0_1792 rfl rfl rfl rfl rfl rfl rfl rfl rfl rfl rfl rfl, ?_⟩
        refine List.forall_mem_cons.mpr ⟨hw 3 ![1, 0, 192] ![1, 0, 192] ![1, 0, 960] ![1, 0, 1728] inb_S2x256x768_S1x128x64_1_0_192 inb_S2x256x2304_S1x128x64_1_0_192 inb_S2x256x2304_S1x256x64_1_0_960 inb_S2x256x2304_S1x256x64_1_0_1728 rfl rfl rfl rfl rfl rfl rfl rfl rfl rfl rfl rfl, ?_⟩
        refine List.forall_mem_cons.mpr ⟨hw 2 ![1, 0, 128] ![1, 0, 128] ![1, 0, 896] ![1, 0, 1664] inb_S2x256x768_S1x128x64_1_0_128 inb_S2x256x2304_S1x128x64_1_0_128 inb_S2x256x2304_S1x256x64_1_0_896 inb_S2x256x2304_S1x256x64_1_0_1664 rfl rfl rfl rfl rfl rfl rfl rfl rfl rfl rfl rfl, ?_⟩
        refine List.forall_mem_cons.mpr ⟨hw 1 ![1, 0, 64] ![1, 0, 64] ![1, 0, 832] ![1, 0, 1600] inb_S2x256x768_S1x128x64_1_0_64 inb_S2x256x2304_S1x128x64_1_0_64 inb_S2x256x2304_S1x256x64_1_0_832 inb_S2x256x2304_S1x256x64_1_0_1600 rfl rfl rfl rfl rfl rfl rfl rfl rfl rfl rfl rfl, ?_⟩
        refine List.forall_mem_cons.mpr ⟨hw 0 ![1, 0, 0] ![1, 0, 0] ![1, 0, 768] ![1, 0, 1536] inb_S2x256x768_S1x128x64_1_0_0 inb_S2x256x2304_S1x128x64_1_0_0 inb_S2x256x2304_S1x256x64_1_0_768 inb_S2x256x2304_S1x256x64_1_0_1536 rfl rfl rfl rfl rfl rfl rfl rfl rfl rfl rfl rfl, ?_⟩
        exact hh12
      have cv24 : ∀ h : Fin 12, ∃ p ∈ (body_C.sl.H10_24 c arg2 harg2 arg3 harg3 arg4 harg4 arg5 harg5 arg6 harg6 arg7 harg7 arg11 x0 x1 x2 x3 x4 x5), ∀ j : S2x256x768.Idx, (j 0).val = (1 : Fin 2).val → (j 1).val / 128 = (0 : Fin 2).val → (j 2).val / 64 = h.val → j ∈ p.1.set := by
        intro h
        fin_cases h
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_head 1 0 0 ![1, 0, 0] inb_S2x256x768_S1x128x64_1_0_0 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_head 1 0 1 ![1, 0, 64] inb_S2x256x768_S1x128x64_1_0_64 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_head 1 0 2 ![1, 0, 128] inb_S2x256x768_S1x128x64_1_0_128 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_head 1 0 3 ![1, 0, 192] inb_S2x256x768_S1x128x64_1_0_192 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_head 1 0 4 ![1, 0, 256] inb_S2x256x768_S1x128x64_1_0_256 rfl rfl rfl⟩
        · exact ⟨_, List.mem_cons_of_mem _ (List.mem_cons_of_mem _ (List.mem_cons_of_mem _ (List.mem_cons_of_mem _ (List.mem_cons_of_mem _ (List.mem_cons_of_mem _ (List.mem_cons_self)))))), mem_head 1 0 5 ![1, 0, 320] inb_S2x256x768_S1x128x64_1_0_320 rfl rfl rfl⟩
        · exact ⟨_, List.mem_cons_of_mem _ (List.mem_cons_of_mem _ (List.mem_cons_of_mem _ (List.mem_cons_of_mem _ (List.mem_cons_of_mem _ (List.mem_cons_self))))), mem_head 1 0 6 ![1, 0, 384] inb_S2x256x768_S1x128x64_1_0_384 rfl rfl rfl⟩
        · exact ⟨_, List.mem_cons_of_mem _ (List.mem_cons_of_mem _ (List.mem_cons_of_mem _ (List.mem_cons_of_mem _ (List.mem_cons_self)))), mem_head 1 0 7 ![1, 0, 448] inb_S2x256x768_S1x128x64_1_0_448 rfl rfl rfl⟩
        · exact ⟨_, List.mem_cons_of_mem _ (List.mem_cons_of_mem _ (List.mem_cons_of_mem _ (List.mem_cons_self))), mem_head 1 0 8 ![1, 0, 512] inb_S2x256x768_S1x128x64_1_0_512 rfl rfl rfl⟩
        · exact ⟨_, List.mem_cons_of_mem _ (List.mem_cons_of_mem _ (List.mem_cons_self)), mem_head 1 0 9 ![1, 0, 576] inb_S2x256x768_S1x128x64_1_0_576 rfl rfl rfl⟩
        · exact ⟨_, List.mem_cons_of_mem _ (List.mem_cons_self), mem_head 1 0 10 ![1, 0, 640] inb_S2x256x768_S1x128x64_1_0_640 rfl rfl rfl⟩
        · exact ⟨_, List.mem_cons_self, mem_head 1 0 11 ![1, 0, 704] inb_S2x256x768_S1x128x64_1_0_704 rfl rfl rfl⟩
      have hh36 : ∀ p ∈ (body_C.sl.H10_36 c arg2 harg2 arg3 harg3 arg4 harg4 arg5 harg5 arg6 harg6 arg7 harg7 arg11 x0 x1 x2 x3 x4 x5), Good (headBlock x1 (qkvBlock x0 x2 x3 x4 x5 (cond0_0 i (word0 i xt0)) (cond0_1 i (word1 i xt0)))) p := by
        have hw : ∀ (h : Fin 12) (off oq ok ov : Fin 3 → ℕ) (inb : ∀ a, off a + (![1, 128, 64] : Fin 3 → ℕ) a ≤ S2x256x768.size a)
            (iq : ∀ a, oq a + (![1, 128, 64] : Fin 3 → ℕ) a ≤ S2x256x2304.size a) (ik : ∀ a, ok a + (![1, 256, 64] : Fin 3 → ℕ) a ≤ S2x256x2304.size a)
            (iv : ∀ a, ov a + (![1, 256, 64] : Fin 3 → ℕ) a ≤ S2x256x2304.size a)
            (h0 : off 0 = (1 : Fin 2).val) (h1 : off 1 = 128 * (1 : Fin 2).val) (h2 : off 2 = 64 * h.val)
            (q0 : oq 0 = (1 : Fin 2).val) (q1 : oq 1 = 128 * (1 : Fin 2).val) (q2 : oq 2 = 64 * h.val) (k0 : ok 0 = (1 : Fin 2).val) (k1 : ok 1 = 0) (k2 : ok 2 = 768 + 64 * h.val)
            (v0 : ov 0 = (1 : Fin 2).val) (v1 : ov 1 = 0) (v2 : ov 2 = 1536 + 64 * h.val),
            Good (headBlock x1 (qkvBlock x0 x2 x3 x4 x5 (cond0_0 i (word0 i xt0)) (cond0_1 i (word1 i xt0)))) ⟨Rect.unit (s := S2x256x768) off ![1, 128, 64] inb,
              headTile (View.readAt (Elt F) arg3.view (Rect.unit (s := S2x1x256) ![1, 0, 0] ![1, 1, 256] inb_S2x1x256_S1x1x256_1_0_0).toLoadRect (harg3.unread x1))
              (arg11.view.readCov (body_C.sl.H9_4 c arg2 harg2 arg4 harg4 arg5 harg5 arg6 harg6 arg7 harg7 x0 x2 x3 x4 x5) (Rect.unit (s := S2x256x2304) oq ![1, 128, 64] iq).toLoadRect)
              (arg11.view.readCov (body_C.sl.H9_4 c arg2 harg2 arg4 harg4 arg5 harg5 arg6 harg6 arg7 harg7 x0 x2 x3 x4 x5) (Rect.unit (s := S2x256x2304) ok ![1, 256, 64] ik).toLoadRect)
              (arg11.view.readCov (body_C.sl.H9_4 c arg2 harg2 arg4 harg4 arg5 harg5 arg6 harg6 arg7 harg7 x0 x2 x3 x4 x5) (Rect.unit (s := S2x256x2304) ov ![1, 256, 64] iv).toLoadRect)⟩ :=
          fun h off oq ok ov inb iq ik iv h0 h1 h2 q0 q1 q2 k0 k1 k2 v0 v1 v2 => good_head x1 _ 1 1 h off inb h0 h1 h2 _
            (head_of harg3 x1 arg11.view (body_C.sl.H9_4 c arg2 harg2 arg4 harg4 arg5 harg5 arg6 harg6 arg7 harg7 x0 x2 x3 x4 x5) _ hq 1 cov1 1 h ![1, 0, 0] oq ok ov _ iq ik iv rfl rfl rfl q0 q1 q2 k0 k1 k2 v0 v1 v2)
        refine List.forall_mem_cons.mpr ⟨hw 11 ![1, 128, 704] ![1, 128, 704] ![1, 0, 1472] ![1, 0, 2240] inb_S2x256x768_S1x128x64_1_128_704 inb_S2x256x2304_S1x128x64_1_128_704 inb_S2x256x2304_S1x256x64_1_0_1472 inb_S2x256x2304_S1x256x64_1_0_2240 rfl rfl rfl rfl rfl rfl rfl rfl rfl rfl rfl rfl, ?_⟩
        refine List.forall_mem_cons.mpr ⟨hw 10 ![1, 128, 640] ![1, 128, 640] ![1, 0, 1408] ![1, 0, 2176] inb_S2x256x768_S1x128x64_1_128_640 inb_S2x256x2304_S1x128x64_1_128_640 inb_S2x256x2304_S1x256x64_1_0_1408 inb_S2x256x2304_S1x256x64_1_0_2176 rfl rfl rfl rfl rfl rfl rfl rfl rfl rfl rfl rfl, ?_⟩
        refine List.forall_mem_cons.mpr ⟨hw 9 ![1, 128, 576] ![1, 128, 576] ![1, 0, 1344] ![1, 0, 2112] inb_S2x256x768_S1x128x64_1_128_576 inb_S2x256x2304_S1x128x64_1_128_576 inb_S2x256x2304_S1x256x64_1_0_1344 inb_S2x256x2304_S1x256x64_1_0_2112 rfl rfl rfl rfl rfl rfl rfl rfl rfl rfl rfl rfl, ?_⟩
        refine List.forall_mem_cons.mpr ⟨hw 8 ![1, 128, 512] ![1, 128, 512] ![1, 0, 1280] ![1, 0, 2048] inb_S2x256x768_S1x128x64_1_128_512 inb_S2x256x2304_S1x128x64_1_128_512 inb_S2x256x2304_S1x256x64_1_0_1280 inb_S2x256x2304_S1x256x64_1_0_2048 rfl rfl rfl rfl rfl rfl rfl rfl rfl rfl rfl rfl, ?_⟩
        refine List.forall_mem_cons.mpr ⟨hw 7 ![1, 128, 448] ![1, 128, 448] ![1, 0, 1216] ![1, 0, 1984] inb_S2x256x768_S1x128x64_1_128_448 inb_S2x256x2304_S1x128x64_1_128_448 inb_S2x256x2304_S1x256x64_1_0_1216 inb_S2x256x2304_S1x256x64_1_0_1984 rfl rfl rfl rfl rfl rfl rfl rfl rfl rfl rfl rfl, ?_⟩
        refine List.forall_mem_cons.mpr ⟨hw 6 ![1, 128, 384] ![1, 128, 384] ![1, 0, 1152] ![1, 0, 1920] inb_S2x256x768_S1x128x64_1_128_384 inb_S2x256x2304_S1x128x64_1_128_384 inb_S2x256x2304_S1x256x64_1_0_1152 inb_S2x256x2304_S1x256x64_1_0_1920 rfl rfl rfl rfl rfl rfl rfl rfl rfl rfl rfl rfl, ?_⟩
        refine List.forall_mem_cons.mpr ⟨hw 5 ![1, 128, 320] ![1, 128, 320] ![1, 0, 1088] ![1, 0, 1856] inb_S2x256x768_S1x128x64_1_128_320 inb_S2x256x2304_S1x128x64_1_128_320 inb_S2x256x2304_S1x256x64_1_0_1088 inb_S2x256x2304_S1x256x64_1_0_1856 rfl rfl rfl rfl rfl rfl rfl rfl rfl rfl rfl rfl, ?_⟩
        refine List.forall_mem_cons.mpr ⟨hw 4 ![1, 128, 256] ![1, 128, 256] ![1, 0, 1024] ![1, 0, 1792] inb_S2x256x768_S1x128x64_1_128_256 inb_S2x256x2304_S1x128x64_1_128_256 inb_S2x256x2304_S1x256x64_1_0_1024 inb_S2x256x2304_S1x256x64_1_0_1792 rfl rfl rfl rfl rfl rfl rfl rfl rfl rfl rfl rfl, ?_⟩
        refine List.forall_mem_cons.mpr ⟨hw 3 ![1, 128, 192] ![1, 128, 192] ![1, 0, 960] ![1, 0, 1728] inb_S2x256x768_S1x128x64_1_128_192 inb_S2x256x2304_S1x128x64_1_128_192 inb_S2x256x2304_S1x256x64_1_0_960 inb_S2x256x2304_S1x256x64_1_0_1728 rfl rfl rfl rfl rfl rfl rfl rfl rfl rfl rfl rfl, ?_⟩
        refine List.forall_mem_cons.mpr ⟨hw 2 ![1, 128, 128] ![1, 128, 128] ![1, 0, 896] ![1, 0, 1664] inb_S2x256x768_S1x128x64_1_128_128 inb_S2x256x2304_S1x128x64_1_128_128 inb_S2x256x2304_S1x256x64_1_0_896 inb_S2x256x2304_S1x256x64_1_0_1664 rfl rfl rfl rfl rfl rfl rfl rfl rfl rfl rfl rfl, ?_⟩
        refine List.forall_mem_cons.mpr ⟨hw 1 ![1, 128, 64] ![1, 128, 64] ![1, 0, 832] ![1, 0, 1600] inb_S2x256x768_S1x128x64_1_128_64 inb_S2x256x2304_S1x128x64_1_128_64 inb_S2x256x2304_S1x256x64_1_0_832 inb_S2x256x2304_S1x256x64_1_0_1600 rfl rfl rfl rfl rfl rfl rfl rfl rfl rfl rfl rfl, ?_⟩
        refine List.forall_mem_cons.mpr ⟨hw 0 ![1, 128, 0] ![1, 128, 0] ![1, 0, 768] ![1, 0, 1536] inb_S2x256x768_S1x128x64_1_128_0 inb_S2x256x2304_S1x128x64_1_128_0 inb_S2x256x2304_S1x256x64_1_0_768 inb_S2x256x2304_S1x256x64_1_0_1536 rfl rfl rfl rfl rfl rfl rfl rfl rfl rfl rfl rfl, ?_⟩
        exact hh24
      have cv36 : ∀ h : Fin 12, ∃ p ∈ (body_C.sl.H10_36 c arg2 harg2 arg3 harg3 arg4 harg4 arg5 harg5 arg6 harg6 arg7 harg7 arg11 x0 x1 x2 x3 x4 x5), ∀ j : S2x256x768.Idx, (j 0).val = (1 : Fin 2).val → (j 1).val / 128 = (1 : Fin 2).val → (j 2).val / 64 = h.val → j ∈ p.1.set := by
        intro h
        fin_cases h
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_head 1 1 0 ![1, 128, 0] inb_S2x256x768_S1x128x64_1_128_0 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_head 1 1 1 ![1, 128, 64] inb_S2x256x768_S1x128x64_1_128_64 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_head 1 1 2 ![1, 128, 128] inb_S2x256x768_S1x128x64_1_128_128 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_head 1 1 3 ![1, 128, 192] inb_S2x256x768_S1x128x64_1_128_192 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_head 1 1 4 ![1, 128, 256] inb_S2x256x768_S1x128x64_1_128_256 rfl rfl rfl⟩
        · exact ⟨_, List.mem_cons_of_mem _ (List.mem_cons_of_mem _ (List.mem_cons_of_mem _ (List.mem_cons_of_mem _ (List.mem_cons_of_mem _ (List.mem_cons_of_mem _ (List.mem_cons_self)))))), mem_head 1 1 5 ![1, 128, 320] inb_S2x256x768_S1x128x64_1_128_320 rfl rfl rfl⟩
        · exact ⟨_, List.mem_cons_of_mem _ (List.mem_cons_of_mem _ (List.mem_cons_of_mem _ (List.mem_cons_of_mem _ (List.mem_cons_of_mem _ (List.mem_cons_self))))), mem_head 1 1 6 ![1, 128, 384] inb_S2x256x768_S1x128x64_1_128_384 rfl rfl rfl⟩
        · exact ⟨_, List.mem_cons_of_mem _ (List.mem_cons_of_mem _ (List.mem_cons_of_mem _ (List.mem_cons_of_mem _ (List.mem_cons_self)))), mem_head 1 1 7 ![1, 128, 448] inb_S2x256x768_S1x128x64_1_128_448 rfl rfl rfl⟩
        · exact ⟨_, List.mem_cons_of_mem _ (List.mem_cons_of_mem _ (List.mem_cons_of_mem _ (List.mem_cons_self))), mem_head 1 1 8 ![1, 128, 512] inb_S2x256x768_S1x128x64_1_128_512 rfl rfl rfl⟩
        · exact ⟨_, List.mem_cons_of_mem _ (List.mem_cons_of_mem _ (List.mem_cons_self)), mem_head 1 1 9 ![1, 128, 576] inb_S2x256x768_S1x128x64_1_128_576 rfl rfl rfl⟩
        · exact ⟨_, List.mem_cons_of_mem _ (List.mem_cons_self), mem_head 1 1 10 ![1, 128, 640] inb_S2x256x768_S1x128x64_1_128_640 rfl rfl rfl⟩
        · exact ⟨_, List.mem_cons_self, mem_head 1 1 11 ![1, 128, 704] inb_S2x256x768_S1x128x64_1_128_704 rfl rfl rfl⟩
      intro j hj
      refine View.read_writes_apply_of_pieces _ _ (outBlock x0 x1 x2 x3 x4 x5 x6 x7 (cond0_0 i (word0 i xt0)) (cond0_1 i (word1 i xt0))) _ ?_ j ?_
      · have hw : ∀ (L : List (View.Piece (Elt F) S2x256x768 .f32)) (hg : ∀ p ∈ L, Good (headBlock x1 (qkvBlock x0 x2 x3 x4 x5 (cond0_0 i (word0 i xt0)) (cond0_1 i (word1 i xt0)))) p) (s k : Fin 2)
            (hc : ∀ h : Fin 12, ∃ p ∈ L, ∀ j : S2x256x768.Idx, (j 0).val = s.val → (j 1).val / 128 = k.val → (j 2).val / 64 = h.val → j ∈ p.1.set)
            (off : Fin 3 → ℕ) (inb : ∀ a, off a + (![1, 128, 768] : Fin 3 → ℕ) a ≤ S2x256x768.size a)
            (h0 : off 0 = s.val) (h1 : off 1 = 128 * k.val) (h2 : off 2 = 0),
            Good (outBlock x0 x1 x2 x3 x4 x5 x6 x7 (cond0_0 i (word0 i xt0)) (cond0_1 i (word1 i xt0))) ⟨Rect.unit (s := S2x256x768) off ![1, 128, 768] inb,
              outTile (arg12.view.readCov L (Rect.unit (s := S2x256x768) off ![1, 128, 768] inb).toLoadRect)
              (View.readAt (Elt F) arg8.view (Rect.unit (s := S768x768) ![0, 0] ![768, 768] inb_S768x768_S768x768_0_0).toLoadRect (harg8.unread x6))
              (View.readAt (Elt F) arg2.view (Rect.unit (s := S2x256x768) off ![1, 128, 768] inb).toLoadRect (harg2.unread x0))
              (View.readAt (Elt F) arg9.view (Rect.unit (s := S1x768) ![0, 0] ![1, 768] inb_S1x768_S1x768_0_0).toLoadRect (harg9.unread x7))⟩ := by
          intro L hg s k hc off inb h0 h1 h2
          refine good_tile _ s k off inb h0 h1 h2 _ ?_
          rw [load_heads arg12.view L _ hg s k hc off inb h0 h1 h2, load_rows harg2 x0 s k off inb h0 h1 h2, load_whole harg8, load_whole harg9]
        show ∀ p ∈ _, Good _ p
        refine List.forall_mem_cons.mpr ⟨hw (body_C.sl.H10_36 c arg2 harg2 arg3 harg3 arg4 harg4 arg5 harg5 arg6 harg6 arg7 harg7 arg11 x0 x1 x2 x3 x4 x5) hh36 1 1 cv36 ![1, 128, 0] inb_S2x256x768_S1x128x768_1_128_0 rfl rfl rfl, ?_⟩
        refine List.forall_mem_cons.mpr ⟨hw (body_C.sl.H10_24 c arg2 harg2 arg3 harg3 arg4 harg4 arg5 harg5 arg6 harg6 arg7 harg7 arg11 x0 x1 x2 x3 x4 x5) hh24 1 0 cv24 ![1, 0, 0] inb_S2x256x768_S1x128x768_1_0_0 rfl rfl rfl, ?_⟩
        refine List.forall_mem_cons.mpr ⟨hw (body_C.sl.H10_12 c arg2 harg2 arg3 harg3 arg4 harg4 arg5 harg5 arg6 harg6 arg7 harg7 arg11 x0 x1 x2 x3 x4 x5) hh12 0 0 cv12 ![0, 0, 0] inb_S2x256x768_S1x128x768_0_0_0 rfl rfl rfl, ?_⟩
        exact fun _ h => absurd h List.not_mem_nil
      · have hj0 : (j 0).val < 2 := (j 0).isLt
        have hj1 : (j 1).val < 256 := (j 1).isLt
        by_cases a0 : (j 0).val = 0
        · by_cases a1 : (j 1).val < 128
          · exact ⟨_, List.mem_cons_of_mem _ (List.mem_cons_of_mem _ (List.mem_cons_self)), mem_tile 0 0 ![0, 0, 0] inb_S2x256x768_S1x128x768_0_0_0 rfl rfl rfl j a0 (by show _ / 128 = 0; omega)⟩
          · exact absurd hj (by rintro (h | ⟨h, h'⟩ | ⟨h, h'⟩) <;> first | omega | exact hc0 h')
        · by_cases a1 : (j 1).val < 128
          · exact ⟨_, List.mem_cons_of_mem _ (List.mem_cons_self), mem_tile 1 0 ![1, 0, 0] inb_S2x256x768_S1x128x768_1_0_0 rfl rfl rfl j (by show _ = 1; omega) (by show _ / 128 = 0; omega)⟩
          · exact ⟨_, List.mem_cons_self, mem_tile 1 1 ![1, 128, 0] inb_S2x256x768_S1x128x768_1_128_0 rfl rfl rfl j (by show _ = 1; omega) (by show _ / 128 = 1; omega)⟩
    isplitl [H9]
    · iexists _; iexists _; isplitr; swap; · iexact H9
      ipureintro; rfl
    isplitl [H10]
    · iexists _; iexists _; isplitr; swap; · iexact H10
      ipureintro; rfl
    iexact HT0

end Cert.AttnIdeal.Run

end
-- ==== Proof.AttnBodyD.lean ====
/-
  The body of the attention call's ideal program at one grid point, in each of its four cases.
-/
module

public import proofs.«01_k».proof.Proof.AttnTiles
public import Idealize.ShloMosaic.Lib.ValueIdx

@[expose] public section

set_option maxRecDepth 16384

noncomputable section

namespace Cert.AttnIdeal.Run

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

set_option maxHeartbeats 16000000 in
/-- The body in case D. -/
theorem body_D (c : Dev nD) (i : grid0.Coords) (arg2 : Memref sig .tc .vmem S2x256x768 .f32) (harg2 : arg2.IsWhole) (arg3 : Memref sig .tc .vmem S2x1x256 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S768x2304 .f32) (harg6 : arg6.IsWhole) (arg7 : Memref sig .tc .vmem S1x2304 .f32) (harg7 : arg7.IsWhole) (arg8 : Memref sig .tc .vmem S768x768 .f32) (harg8 : arg8.IsWhole) (arg9 : Memref sig .tc .vmem S1x768 .f32) (harg9 : arg9.IsWhole) (arg10 : Memref sig .tc .vmem S2x256x768 .f32) (harg10 : arg10.IsWhole) (arg11 : Memref sig .tc .vmem S2x256x2304 .f32) (harg11 : arg11.IsWhole) (arg12 : Memref sig .tc .vmem S2x256x768 .f32) (harg12 : arg12.IsWhole)
    (x0 : Vec F S2x256x768 .f32) (x1 : Vec F S2x1x256 .f32) (x2 : Vec F S1x768 .f32) (x3 : Vec F S1x768 .f32) (x4 : Vec F S768x2304 .f32) (x5 : Vec F S1x2304 .f32) (x6 : Vec F S768x768 .f32) (x7 : Vec F S1x768 .f32) (xt0 : TbBuf0 (F := F) c tbM0_0) (hc0 : ¬ cond0_0 i (word0 i xt0)) (hc1 : ¬ cond0_1 i (word1 i xt0)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ X, ⌜Written (outBlock x0 x1 x2 x3 x4 x5 x6 x7 (cond0_0 i (word0 i xt0)) (cond0_1 i (word1 i xt0))) X (cond0_0 i (word0 i xt0)) (cond0_1 i (word1 i xt0))⌝ ∗ owns (c : Thread nD τ) arg10 fullShare X) ∗ (∃ d, owns (c : Thread nD τ) arg11 fullShare d) ∗ (∃ d, owns (c : Thread nD τ) arg12 fullShare d) ∗ tbPt0 c tbM0_0 xt0) -∗ K ⟨⟩))
          ⊢ wp frame (wpE (defs₀ (F := F)) Variants.none c none) E (cc0_vit_attn i tbM0_0 htbM0_0 arg2 harg2 arg3 harg3 arg4 harg4 arg5 harg5 arg6 harg6 arg7 harg7 arg8 harg8 arg9 harg9 arg10 harg10 arg11 harg11 arg12 harg12) K := by
    intro E K
    have hz0 := zeroed_of_not hc0
    have hz1 := zeroed_of_not hc1
    simp only [cc0_vit_attn_eq_skeleton]; unfold cc0_vit_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, HT0, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1 | sl_exact hz0 | sl_exact hz1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; swap
      · iexists _; isplitr; swap; · iexact H8
        ipureintro; rfl
      ipureintro
      have hq : ∀ p ∈ (body_D.sl.H9_4 c arg2 harg2 arg4 harg4 arg5 harg5 arg6 harg6 arg7 harg7 x0 x2 x3 x4 x5), Good (qkvBlock x0 x2 x3 x4 x5 (cond0_0 i (word0 i xt0)) (cond0_1 i (word1 i xt0))) p := by
        have hw : ∀ (s k : Fin 2) (hk : Taken (cond0_0 i (word0 i xt0)) (cond0_1 i (word1 i xt0)) s k) (off : Fin 3 → ℕ) (inb : ∀ a, off a + (![1, 128, 2304] : Fin 3 → ℕ) a ≤ S2x256x2304.size a)
            (inb' : ∀ a, off a + (![1, 128, 768] : Fin 3 → ℕ) a ≤ S2x256x768.size a)
            (h0 : off 0 = s.val) (h1 : off 1 = 128 * k.val) (h2 : off 2 = 0),
            Good (qkvBlock x0 x2 x3 x4 x5 (cond0_0 i (word0 i xt0)) (cond0_1 i (word1 i xt0))) ⟨Rect.unit (s := S2x256x2304) off ![1, 128, 2304] inb,
              qkvTile (View.readAt (Elt F) arg2.view (Rect.unit (s := S2x256x768) off ![1, 128, 768] inb').toLoadRect (harg2.unread x0))
              (View.readAt (Elt F) arg4.view (Rect.unit (s := S1x768) ![0, 0] ![1, 768] inb_S1x768_S1x768_0_0).toLoadRect (harg4.unread x2))
              (View.readAt (Elt F) arg5.view (Rect.unit (s := S1x768) ![0, 0] ![1, 768] inb_S1x768_S1x768_0_0).toLoadRect (harg5.unread x3))
              (View.readAt (Elt F) arg6.view (Rect.unit (s := S768x2304) ![0, 0] ![768, 2304] inb_S768x2304_S768x2304_0_0).toLoadRect (harg6.unread x4))
              (View.readAt (Elt F) arg7.view (Rect.unit (s := S1x2304) ![0, 0] ![1, 2304] inb_S1x2304_S1x2304_0_0).toLoadRect (harg7.unread x5))⟩ := by
          intro s k hk off inb inb' h0 h1 h2
          refine good_tile _ s k off inb h0 h1 h2 _ ?_
          rw [load_rows harg2 x0 s k off inb' h0 h1 h2, load_whole harg4, load_whole harg5, load_whole harg6, load_whole harg7]
          exact (if_pos hk).symm
        have hz : ∀ (s k : Fin 2) (hk : ¬ Taken (cond0_0 i (word0 i xt0)) (cond0_1 i (word1 i xt0)) s k) (off : Fin 3 → ℕ) (inb : ∀ a, off a + (![1, 128, 2304] : Fin 3 → ℕ) a ≤ S2x256x2304.size a)
            (h0 : off 0 = s.val) (h1 : off 1 = 128 * k.val) (h2 : off 2 = 0),
            Good (qkvBlock x0 x2 x3 x4 x5 (cond0_0 i (word0 i xt0)) (cond0_1 i (word1 i xt0))) ⟨Rect.unit (s := S2x256x2304) off ![1, 128, 2304] inb, k0_pay58⟩ := by
          intro s k hk off inb h0 h1 h2
          exact good_tile _ s k off inb h0 h1 h2 _ (if_neg hk).symm
        refine List.forall_mem_cons.mpr ⟨?_, List.forall_mem_cons.mpr ⟨?_, List.forall_mem_cons.mpr ⟨?_, List.forall_mem_cons.mpr ⟨?_, fun _ h => absurd h List.not_mem_nil⟩⟩⟩⟩
        · exact hz 1 1 (by rintro (h | ⟨h, h'⟩ | ⟨h, h'⟩) <;> first | exact absurd h (by decide) | exact hc1 h') ![1, 128, 0] inb_S2x256x2304_S1x128x2304_1_128_0 rfl rfl rfl
        · exact hw 1 0 (Or.inl rfl) ![1, 0, 0] inb_S2x256x2304_S1x128x2304_1_0_0 inb_S2x256x768_S1x128x768_1_0_0 rfl rfl rfl
        · exact hz 0 1 (by rintro (h | ⟨h, h'⟩ | ⟨h, h'⟩) <;> first | exact absurd h (by decide) | exact hc0 h') ![0, 128, 0] inb_S2x256x2304_S1x128x2304_0_128_0 rfl rfl rfl
        · exact hw 0 0 (Or.inl rfl) ![0, 0, 0] inb_S2x256x2304_S1x128x2304_0_0_0 inb_S2x256x768_S1x128x768_0_0_0 rfl rfl rfl
      have hq0 : ∀ p ∈ (body_D.sl.H9_2 c arg2 harg2 arg4 harg4 arg5 harg5 arg6 harg6 arg7 harg7 x0 x2 x3 x4 x5), Good (qkvBlock x0 x2 x3 x4 x5 (cond0_0 i (word0 i xt0)) (cond0_1 i (word1 i xt0))) p :=
        fun p hp => hq p (List.mem_cons_of_mem _ (List.mem_cons_of_mem _ hp))
      have cov0 : ∀ j : S2x256x2304.Idx, (j 0).val = ((0 : Fin 2)).val → ∃ p ∈ (body_D.sl.H9_2 c arg2 harg2 arg4 harg4 arg5 harg5 arg6 harg6 arg7 harg7 x0 x2 x3 x4 x5), j ∈ p.1.set := by
        intro j hj
        have hj1 : (j 1).val < 256 := (j 1).isLt
        by_cases a1 : (j 1).val < 128
        · exact ⟨_, List.mem_cons_of_mem _ (List.mem_cons_self), mem_tile 0 0 ![0, 0, 0] inb_S2x256x2304_S1x128x2304_0_0_0 rfl rfl rfl j hj (by show _ / 128 = 0; omega)⟩
        · exact ⟨_, List.mem_cons_self, mem_tile 0 1 ![0, 128, 0] inb_S2x256x2304_S1x128x2304_0_128_0 rfl rfl rfl j hj (by show _ / 128 = 1; omega)⟩
      have cov1 : ∀ j : S2x256x2304.Idx, (j 0).val = ((1 : Fin 2)).val → ∃ p ∈ (body_D.sl.H9_4 c arg2 harg2 arg4 harg4 arg5 harg5 arg6 harg6 arg7 harg7 x0 x2 x3 x4 x5), j ∈ p.1.set := by
        intro j hj
        have hj1 : (j 1).val < 256 := (j 1).isLt
        by_cases a1 : (j 1).val < 128
        · exact ⟨_, List.mem_cons_of_mem _ (List.mem_cons_self), mem_tile 1 0 ![1, 0, 0] inb_S2x256x2304_S1x128x2304_1_0_0 rfl rfl rfl j hj (by show _ / 128 = 0; omega)⟩
        · exact ⟨_, List.mem_cons_self, mem_tile 1 1 ![1, 128, 0] inb_S2x256x2304_S1x128x2304_1_128_0 rfl rfl rfl j hj (by show _ / 128 = 1; omega)⟩
      have hh12 : ∀ p ∈ (body_D.sl.H10_12 c arg2 harg2 arg3 harg3 arg4 harg4 arg5 harg5 arg6 harg6 arg7 harg7 arg11 x0 x1 x2 x3 x4 x5), Good (headBlock x1 (qkvBlock x0 x2 x3 x4 x5 (cond0_0 i (word0 i xt0)) (cond0_1 i (word1 i xt0)))) p := by
        have hw : ∀ (h : Fin 12) (off oq ok ov : Fin 3 → ℕ) (inb : ∀ a, off a + (![1, 128, 64] : Fin 3 → ℕ) a ≤ S2x256x768.size a)
            (iq : ∀ a, oq a + (![1, 128, 64] : Fin 3 → ℕ) a ≤ S2x256x2304.size a) (ik : ∀ a, ok a + (![1, 256, 64] : Fin 3 → ℕ) a ≤ S2x256x2304.size a)
            (iv : ∀ a, ov a + (![1, 256, 64] : Fin 3 → ℕ) a ≤ S2x256x2304.size a)
            (h0 : off 0 = (0 : Fin 2).val) (h1 : off 1 = 128 * (0 : Fin 2).val) (h2 : off 2 = 64 * h.val)
            (q0 : oq 0 = (0 : Fin 2).val) (q1 : oq 1 = 128 * (0 : Fin 2).val) (q2 : oq 2 = 64 * h.val) (k0 : ok 0 = (0 : Fin 2).val) (k1 : ok 1 = 0) (k2 : ok 2 = 768 + 64 * h.val)
            (v0 : ov 0 = (0 : Fin 2).val) (v1 : ov 1 = 0) (v2 : ov 2 = 1536 + 64 * h.val),
            Good (headBlock x1 (qkvBlock x0 x2 x3 x4 x5 (cond0_0 i (word0 i xt0)) (cond0_1 i (word1 i xt0)))) ⟨Rect.unit (s := S2x256x768) off ![1, 128, 64] inb,
              headTile (View.readAt (Elt F) arg3.view (Rect.unit (s := S2x1x256) ![0, 0, 0] ![1, 1, 256] inb_S2x1x256_S1x1x256_0_0_0).toLoadRect (harg3.unread x1))
              (arg11.view.readCov (body_D.sl.H9_2 c arg2 harg2 arg4 harg4 arg5 harg5 arg6 harg6 arg7 harg7 x0 x2 x3 x4 x5) (Rect.unit (s := S2x256x2304) oq ![1, 128, 64] iq).toLoadRect)
              (arg11.view.readCov (body_D.sl.H9_2 c arg2 harg2 arg4 harg4 arg5 harg5 arg6 harg6 arg7 harg7 x0 x2 x3 x4 x5) (Rect.unit (s := S2x256x2304) ok ![1, 256, 64] ik).toLoadRect)
              (arg11.view.readCov (body_D.sl.H9_2 c arg2 harg2 arg4 harg4 arg5 harg5 arg6 harg6 arg7 harg7 x0 x2 x3 x4 x5) (Rect.unit (s := S2x256x2304) ov ![1, 256, 64] iv).toLoadRect)⟩ :=
          fun h off oq ok ov inb iq ik iv h0 h1 h2 q0 q1 q2 k0 k1 k2 v0 v1 v2 => good_head x1 _ 0 0 h off inb h0 h1 h2 _
            (head_of harg3 x1 arg11.view (body_D.sl.H9_2 c arg2 harg2 arg4 harg4 arg5 harg5 arg6 harg6 arg7 harg7 x0 x2 x3 x4 x5) _ hq0 0 cov0 0 h ![0, 0, 0] oq ok ov _ iq ik iv rfl rfl rfl q0 q1 q2 k0 k1 k2 v0 v1 v2)
        refine List.forall_mem_cons.mpr ⟨hw 11 ![0, 0, 704] ![0, 0, 704] ![0, 0, 1472] ![0, 0, 2240] inb_S2x256x768_S1x128x64_0_0_704 inb_S2x256x2304_S1x128x64_0_0_704 inb_S2x256x2304_S1x256x64_0_0_1472 inb_S2x256x2304_S1x256x64_0_0_2240 rfl rfl rfl rfl rfl rfl rfl rfl rfl rfl rfl rfl, ?_⟩
        refine List.forall_mem_cons.mpr ⟨hw 10 ![0, 0, 640] ![0, 0, 640] ![0, 0, 1408] ![0, 0, 2176] inb_S2x256x768_S1x128x64_0_0_640 inb_S2x256x2304_S1x128x64_0_0_640 inb_S2x256x2304_S1x256x64_0_0_1408 inb_S2x256x2304_S1x256x64_0_0_2176 rfl rfl rfl rfl rfl rfl rfl rfl rfl rfl rfl rfl, ?_⟩
        refine List.forall_mem_cons.mpr ⟨hw 9 ![0, 0, 576] ![0, 0, 576] ![0, 0, 1344] ![0, 0, 2112] inb_S2x256x768_S1x128x64_0_0_576 inb_S2x256x2304_S1x128x64_0_0_576 inb_S2x256x2304_S1x256x64_0_0_1344 inb_S2x256x2304_S1x256x64_0_0_2112 rfl rfl rfl rfl rfl rfl rfl rfl rfl rfl rfl rfl, ?_⟩
        refine List.forall_mem_cons.mpr ⟨hw 8 ![0, 0, 512] ![0, 0, 512] ![0, 0, 1280] ![0, 0, 2048] inb_S2x256x768_S1x128x64_0_0_512 inb_S2x256x2304_S1x128x64_0_0_512 inb_S2x256x2304_S1x256x64_0_0_1280 inb_S2x256x2304_S1x256x64_0_0_2048 rfl rfl rfl rfl rfl rfl rfl rfl rfl rfl rfl rfl, ?_⟩
        refine List.forall_mem_cons.mpr ⟨hw 7 ![0, 0, 448] ![0, 0, 448] ![0, 0, 1216] ![0, 0, 1984] inb_S2x256x768_S1x128x64_0_0_448 inb_S2x256x2304_S1x128x64_0_0_448 inb_S2x256x2304_S1x256x64_0_0_1216 inb_S2x256x2304_S1x256x64_0_0_1984 rfl rfl rfl rfl rfl rfl rfl rfl rfl rfl rfl rfl, ?_⟩
        refine List.forall_mem_cons.mpr ⟨hw 6 ![0, 0, 384] ![0, 0, 384] ![0, 0, 1152] ![0, 0, 1920] inb_S2x256x768_S1x128x64_0_0_384 inb_S2x256x2304_S1x128x64_0_0_384 inb_S2x256x2304_S1x256x64_0_0_1152 inb_S2x256x2304_S1x256x64_0_0_1920 rfl rfl rfl rfl rfl rfl rfl rfl rfl rfl rfl rfl, ?_⟩
        refine List.forall_mem_cons.mpr ⟨hw 5 ![0, 0, 320] ![0, 0, 320] ![0, 0, 1088] ![0, 0, 1856] inb_S2x256x768_S1x128x64_0_0_320 inb_S2x256x2304_S1x128x64_0_0_320 inb_S2x256x2304_S1x256x64_0_0_1088 inb_S2x256x2304_S1x256x64_0_0_1856 rfl rfl rfl rfl rfl rfl rfl rfl rfl rfl rfl rfl, ?_⟩
        refine List.forall_mem_cons.mpr ⟨hw 4 ![0, 0, 256] ![0, 0, 256] ![0, 0, 1024] ![0, 0, 1792] inb_S2x256x768_S1x128x64_0_0_256 inb_S2x256x2304_S1x128x64_0_0_256 inb_S2x256x2304_S1x256x64_0_0_1024 inb_S2x256x2304_S1x256x64_0_0_1792 rfl rfl rfl rfl rfl rfl rfl rfl rfl rfl rfl rfl, ?_⟩
        refine List.forall_mem_cons.mpr ⟨hw 3 ![0, 0, 192] ![0, 0, 192] ![0, 0, 960] ![0, 0, 1728] inb_S2x256x768_S1x128x64_0_0_192 inb_S2x256x2304_S1x128x64_0_0_192 inb_S2x256x2304_S1x256x64_0_0_960 inb_S2x256x2304_S1x256x64_0_0_1728 rfl rfl rfl rfl rfl rfl rfl rfl rfl rfl rfl rfl, ?_⟩
        refine List.forall_mem_cons.mpr ⟨hw 2 ![0, 0, 128] ![0, 0, 128] ![0, 0, 896] ![0, 0, 1664] inb_S2x256x768_S1x128x64_0_0_128 inb_S2x256x2304_S1x128x64_0_0_128 inb_S2x256x2304_S1x256x64_0_0_896 inb_S2x256x2304_S1x256x64_0_0_1664 rfl rfl rfl rfl rfl rfl rfl rfl rfl rfl rfl rfl, ?_⟩
        refine List.forall_mem_cons.mpr ⟨hw 1 ![0, 0, 64] ![0, 0, 64] ![0, 0, 832] ![0, 0, 1600] inb_S2x256x768_S1x128x64_0_0_64 inb_S2x256x2304_S1x128x64_0_0_64 inb_S2x256x2304_S1x256x64_0_0_832 inb_S2x256x2304_S1x256x64_0_0_1600 rfl rfl rfl rfl rfl rfl rfl rfl rfl rfl rfl rfl, ?_⟩
        refine List.forall_mem_cons.mpr ⟨hw 0 ![0, 0, 0] ![0, 0, 0] ![0, 0, 768] ![0, 0, 1536] inb_S2x256x768_S1x128x64_0_0_0 inb_S2x256x2304_S1x128x64_0_0_0 inb_S2x256x2304_S1x256x64_0_0_768 inb_S2x256x2304_S1x256x64_0_0_1536 rfl rfl rfl rfl rfl rfl rfl rfl rfl rfl rfl rfl, ?_⟩
        exact fun _ h => absurd h List.not_mem_nil
      have cv12 : ∀ h : Fin 12, ∃ p ∈ (body_D.sl.H10_12 c arg2 harg2 arg3 harg3 arg4 harg4 arg5 harg5 arg6 harg6 arg7 harg7 arg11 x0 x1 x2 x3 x4 x5), ∀ j : S2x256x768.Idx, (j 0).val = (0 : Fin 2).val → (j 1).val / 128 = (0 : Fin 2).val → (j 2).val / 64 = h.val → j ∈ p.1.set := by
        intro h
        fin_cases h
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_head 0 0 0 ![0, 0, 0] inb_S2x256x768_S1x128x64_0_0_0 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_head 0 0 1 ![0, 0, 64] inb_S2x256x768_S1x128x64_0_0_64 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_head 0 0 2 ![0, 0, 128] inb_S2x256x768_S1x128x64_0_0_128 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_head 0 0 3 ![0, 0, 192] inb_S2x256x768_S1x128x64_0_0_192 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_head 0 0 4 ![0, 0, 256] inb_S2x256x768_S1x128x64_0_0_256 rfl rfl rfl⟩
        · exact ⟨_, List.mem_cons_of_mem _ (List.mem_cons_of_mem _ (List.mem_cons_of_mem _ (List.mem_cons_of_mem _ (List.mem_cons_of_mem _ (List.mem_cons_of_mem _ (List.mem_cons_self)))))), mem_head 0 0 5 ![0, 0, 320] inb_S2x256x768_S1x128x64_0_0_320 rfl rfl rfl⟩
        · exact ⟨_, List.mem_cons_of_mem _ (List.mem_cons_of_mem _ (List.mem_cons_of_mem _ (List.mem_cons_of_mem _ (List.mem_cons_of_mem _ (List.mem_cons_self))))), mem_head 0 0 6 ![0, 0, 384] inb_S2x256x768_S1x128x64_0_0_384 rfl rfl rfl⟩
        · exact ⟨_, List.mem_cons_of_mem _ (List.mem_cons_of_mem _ (List.mem_cons_of_mem _ (List.mem_cons_of_mem _ (List.mem_cons_self)))), mem_head 0 0 7 ![0, 0, 448] inb_S2x256x768_S1x128x64_0_0_448 rfl rfl rfl⟩
        · exact ⟨_, List.mem_cons_of_mem _ (List.mem_cons_of_mem _ (List.mem_cons_of_mem _ (List.mem_cons_self))), mem_head 0 0 8 ![0, 0, 512] inb_S2x256x768_S1x128x64_0_0_512 rfl rfl rfl⟩
        · exact ⟨_, List.mem_cons_of_mem _ (List.mem_cons_of_mem _ (List.mem_cons_self)), mem_head 0 0 9 ![0, 0, 576] inb_S2x256x768_S1x128x64_0_0_576 rfl rfl rfl⟩
        · exact ⟨_, List.mem_cons_of_mem _ (List.mem_cons_self), mem_head 0 0 10 ![0, 0, 640] inb_S2x256x768_S1x128x64_0_0_640 rfl rfl rfl⟩
        · exact ⟨_, List.mem_cons_self, mem_head 0 0 11 ![0, 0, 704] inb_S2x256x768_S1x128x64_0_0_704 rfl rfl rfl⟩
      have hh24 : ∀ p ∈ (body_D.sl.H10_24 c arg2 harg2 arg3 harg3 arg4 harg4 arg5 harg5 arg6 harg6 arg7 harg7 arg11 x0 x1 x2 x3 x4 x5), Good (headBlock x1 (qkvBlock x0 x2 x3 x4 x5 (cond0_0 i (word0 i xt0)) (cond0_1 i (word1 i xt0)))) p := by
        have hw : ∀ (h : Fin 12) (off oq ok ov : Fin 3 → ℕ) (inb : ∀ a, off a + (![1, 128, 64] : Fin 3 → ℕ) a ≤ S2x256x768.size a)
            (iq : ∀ a, oq a + (![1, 128, 64] : Fin 3 → ℕ) a ≤ S2x256x2304.size a) (ik : ∀ a, ok a + (![1, 256, 64] : Fin 3 → ℕ) a ≤ S2x256x2304.size a)
            (iv : ∀ a, ov a + (![1, 256, 64] : Fin 3 → ℕ) a ≤ S2x256x2304.size a)
            (h0 : off 0 = (1 : Fin 2).val) (h1 : off 1 = 128 * (0 : Fin 2).val) (h2 : off 2 = 64 * h.val)
            (q0 : oq 0 = (1 : Fin 2).val) (q1 : oq 1 = 128 * (0 : Fin 2).val) (q2 : oq 2 = 64 * h.val) (k0 : ok 0 = (1 : Fin 2).val) (k1 : ok 1 = 0) (k2 : ok 2 = 768 + 64 * h.val)
            (v0 : ov 0 = (1 : Fin 2).val) (v1 : ov 1 = 0) (v2 : ov 2 = 1536 + 64 * h.val),
            Good (headBlock x1 (qkvBlock x0 x2 x3 x4 x5 (cond0_0 i (word0 i xt0)) (cond0_1 i (word1 i xt0)))) ⟨Rect.unit (s := S2x256x768) off ![1, 128, 64] inb,
              headTile (View.readAt (Elt F) arg3.view (Rect.unit (s := S2x1x256) ![1, 0, 0] ![1, 1, 256] inb_S2x1x256_S1x1x256_1_0_0).toLoadRect (harg3.unread x1))
              (arg11.view.readCov (body_D.sl.H9_4 c arg2 harg2 arg4 harg4 arg5 harg5 arg6 harg6 arg7 harg7 x0 x2 x3 x4 x5) (Rect.unit (s := S2x256x2304) oq ![1, 128, 64] iq).toLoadRect)
              (arg11.view.readCov (body_D.sl.H9_4 c arg2 harg2 arg4 harg4 arg5 harg5 arg6 harg6 arg7 harg7 x0 x2 x3 x4 x5) (Rect.unit (s := S2x256x2304) ok ![1, 256, 64] ik).toLoadRect)
              (arg11.view.readCov (body_D.sl.H9_4 c arg2 harg2 arg4 harg4 arg5 harg5 arg6 harg6 arg7 harg7 x0 x2 x3 x4 x5) (Rect.unit (s := S2x256x2304) ov ![1, 256, 64] iv).toLoadRect)⟩ :=
          fun h off oq ok ov inb iq ik iv h0 h1 h2 q0 q1 q2 k0 k1 k2 v0 v1 v2 => good_head x1 _ 1 0 h off inb h0 h1 h2 _
            (head_of harg3 x1 arg11.view (body_D.sl.H9_4 c arg2 harg2 arg4 harg4 arg5 harg5 arg6 harg6 arg7 harg7 x0 x2 x3 x4 x5) _ hq 1 cov1 0 h ![1, 0, 0] oq ok ov _ iq ik iv rfl rfl rfl q0 q1 q2 k0 k1 k2 v0 v1 v2)
        refine List.forall_mem_cons.mpr ⟨hw 11 ![1, 0, 704] ![1, 0, 704] ![1, 0, 1472] ![1, 0, 2240] inb_S2x256x768_S1x128x64_1_0_704 inb_S2x256x2304_S1x128x64_1_0_704 inb_S2x256x2304_S1x256x64_1_0_1472 inb_S2x256x2304_S1x256x64_1_0_2240 rfl rfl rfl rfl rfl rfl rfl rfl rfl rfl rfl rfl, ?_⟩
        refine List.forall_mem_cons.mpr ⟨hw 10 ![1, 0, 640] ![1, 0, 640] ![1, 0, 1408] ![1, 0, 2176] inb_S2x256x768_S1x128x64_1_0_640 inb_S2x256x2304_S1x128x64_1_0_640 inb_S2x256x2304_S1x256x64_1_0_1408 inb_S2x256x2304_S1x256x64_1_0_2176 rfl rfl rfl rfl rfl rfl rfl rfl rfl rfl rfl rfl, ?_⟩
        refine List.forall_mem_cons.mpr ⟨hw 9 ![1, 0, 576] ![1, 0, 576] ![1, 0, 1344] ![1, 0, 2112] inb_S2x256x768_S1x128x64_1_0_576 inb_S2x256x2304_S1x128x64_1_0_576 inb_S2x256x2304_S1x256x64_1_0_1344 inb_S2x256x2304_S1x256x64_1_0_2112 rfl rfl rfl rfl rfl rfl rfl rfl rfl rfl rfl rfl, ?_⟩
        refine List.forall_mem_cons.mpr ⟨hw 8 ![1, 0, 512] ![1, 0, 512] ![1, 0, 1280] ![1, 0, 2048] inb_S2x256x768_S1x128x64_1_0_512 inb_S2x256x2304_S1x128x64_1_0_512 inb_S2x256x2304_S1x256x64_1_0_1280 inb_S2x256x2304_S1x256x64_1_0_2048 rfl rfl rfl rfl rfl rfl rfl rfl rfl rfl rfl rfl, ?_⟩
        refine List.forall_mem_cons.mpr ⟨hw 7 ![1, 0, 448] ![1, 0, 448] ![1, 0, 1216] ![1, 0, 1984] inb_S2x256x768_S1x128x64_1_0_448 inb_S2x256x2304_S1x128x64_1_0_448 inb_S2x256x2304_S1x256x64_1_0_1216 inb_S2x256x2304_S1x256x64_1_0_1984 rfl rfl rfl rfl rfl rfl rfl rfl rfl rfl rfl rfl, ?_⟩
        refine List.forall_mem_cons.mpr ⟨hw 6 ![1, 0, 384] ![1, 0, 384] ![1, 0, 1152] ![1, 0, 1920] inb_S2x256x768_S1x128x64_1_0_384 inb_S2x256x2304_S1x128x64_1_0_384 inb_S2x256x2304_S1x256x64_1_0_1152 inb_S2x256x2304_S1x256x64_1_0_1920 rfl rfl rfl rfl rfl rfl rfl rfl rfl rfl rfl rfl, ?_⟩
        refine List.forall_mem_cons.mpr ⟨hw 5 ![1, 0, 320] ![1, 0, 320] ![1, 0, 1088] ![1, 0, 1856] inb_S2x256x768_S1x128x64_1_0_320 inb_S2x256x2304_S1x128x64_1_0_320 inb_S2x256x2304_S1x256x64_1_0_1088 inb_S2x256x2304_S1x256x64_1_0_1856 rfl rfl rfl rfl rfl rfl rfl rfl rfl rfl rfl rfl, ?_⟩
        refine List.forall_mem_cons.mpr ⟨hw 4 ![1, 0, 256] ![1, 0, 256] ![1, 0, 1024] ![1, 0, 1792] inb_S2x256x768_S1x128x64_1_0_256 inb_S2x256x2304_S1x128x64_1_0_256 inb_S2x256x2304_S1x256x64_1_0_1024 inb_S2x256x2304_S1x256x64_1_0_1792 rfl rfl rfl rfl rfl rfl rfl rfl rfl rfl rfl rfl, ?_⟩
        refine List.forall_mem_cons.mpr ⟨hw 3 ![1, 0, 192] ![1, 0, 192] ![1, 0, 960] ![1, 0, 1728] inb_S2x256x768_S1x128x64_1_0_192 inb_S2x256x2304_S1x128x64_1_0_192 inb_S2x256x2304_S1x256x64_1_0_960 inb_S2x256x2304_S1x256x64_1_0_1728 rfl rfl rfl rfl rfl rfl rfl rfl rfl rfl rfl rfl, ?_⟩
        refine List.forall_mem_cons.mpr ⟨hw 2 ![1, 0, 128] ![1, 0, 128] ![1, 0, 896] ![1, 0, 1664] inb_S2x256x768_S1x128x64_1_0_128 inb_S2x256x2304_S1x128x64_1_0_128 inb_S2x256x2304_S1x256x64_1_0_896 inb_S2x256x2304_S1x256x64_1_0_1664 rfl rfl rfl rfl rfl rfl rfl rfl rfl rfl rfl rfl, ?_⟩
        refine List.forall_mem_cons.mpr ⟨hw 1 ![1, 0, 64] ![1, 0, 64] ![1, 0, 832] ![1, 0, 1600] inb_S2x256x768_S1x128x64_1_0_64 inb_S2x256x2304_S1x128x64_1_0_64 inb_S2x256x2304_S1x256x64_1_0_832 inb_S2x256x2304_S1x256x64_1_0_1600 rfl rfl rfl rfl rfl rfl rfl rfl rfl rfl rfl rfl, ?_⟩
        refine List.forall_mem_cons.mpr ⟨hw 0 ![1, 0, 0] ![1, 0, 0] ![1, 0, 768] ![1, 0, 1536] inb_S2x256x768_S1x128x64_1_0_0 inb_S2x256x2304_S1x128x64_1_0_0 inb_S2x256x2304_S1x256x64_1_0_768 inb_S2x256x2304_S1x256x64_1_0_1536 rfl rfl rfl rfl rfl rfl rfl rfl rfl rfl rfl rfl, ?_⟩
        exact hh12
      have cv24 : ∀ h : Fin 12, ∃ p ∈ (body_D.sl.H10_24 c arg2 harg2 arg3 harg3 arg4 harg4 arg5 harg5 arg6 harg6 arg7 harg7 arg11 x0 x1 x2 x3 x4 x5), ∀ j : S2x256x768.Idx, (j 0).val = (1 : Fin 2).val → (j 1).val / 128 = (0 : Fin 2).val → (j 2).val / 64 = h.val → j ∈ p.1.set := by
        intro h
        fin_cases h
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_head 1 0 0 ![1, 0, 0] inb_S2x256x768_S1x128x64_1_0_0 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_head 1 0 1 ![1, 0, 64] inb_S2x256x768_S1x128x64_1_0_64 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_head 1 0 2 ![1, 0, 128] inb_S2x256x768_S1x128x64_1_0_128 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_head 1 0 3 ![1, 0, 192] inb_S2x256x768_S1x128x64_1_0_192 rfl rfl rfl⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_head 1 0 4 ![1, 0, 256] inb_S2x256x768_S1x128x64_1_0_256 rfl rfl rfl⟩
        · exact ⟨_, List.mem_cons_of_mem _ (List.mem_cons_of_mem _ (List.mem_cons_of_mem _ (List.mem_cons_of_mem _ (List.mem_cons_of_mem _ (List.mem_cons_of_mem _ (List.mem_cons_self)))))), mem_head 1 0 5 ![1, 0, 320] inb_S2x256x768_S1x128x64_1_0_320 rfl rfl rfl⟩
        · exact ⟨_, List.mem_cons_of_mem _ (List.mem_cons_of_mem _ (List.mem_cons_of_mem _ (List.mem_cons_of_mem _ (List.mem_cons_of_mem _ (List.mem_cons_self))))), mem_head 1 0 6 ![1, 0, 384] inb_S2x256x768_S1x128x64_1_0_384 rfl rfl rfl⟩
        · exact ⟨_, List.mem_cons_of_mem _ (List.mem_cons_of_mem _ (List.mem_cons_of_mem _ (List.mem_cons_of_mem _ (List.mem_cons_self)))), mem_head 1 0 7 ![1, 0, 448] inb_S2x256x768_S1x128x64_1_0_448 rfl rfl rfl⟩
        · exact ⟨_, List.mem_cons_of_mem _ (List.mem_cons_of_mem _ (List.mem_cons_of_mem _ (List.mem_cons_self))), mem_head 1 0 8 ![1, 0, 512] inb_S2x256x768_S1x128x64_1_0_512 rfl rfl rfl⟩
        · exact ⟨_, List.mem_cons_of_mem _ (List.mem_cons_of_mem _ (List.mem_cons_self)), mem_head 1 0 9 ![1, 0, 576] inb_S2x256x768_S1x128x64_1_0_576 rfl rfl rfl⟩
        · exact ⟨_, List.mem_cons_of_mem _ (List.mem_cons_self), mem_head 1 0 10 ![1, 0, 640] inb_S2x256x768_S1x128x64_1_0_640 rfl rfl rfl⟩
        · exact ⟨_, List.mem_cons_self, mem_head 1 0 11 ![1, 0, 704] inb_S2x256x768_S1x128x64_1_0_704 rfl rfl rfl⟩
      intro j hj
      refine View.read_writes_apply_of_pieces _ _ (outBlock x0 x1 x2 x3 x4 x5 x6 x7 (cond0_0 i (word0 i xt0)) (cond0_1 i (word1 i xt0))) _ ?_ j ?_
      · have hw : ∀ (L : List (View.Piece (Elt F) S2x256x768 .f32)) (hg : ∀ p ∈ L, Good (headBlock x1 (qkvBlock x0 x2 x3 x4 x5 (cond0_0 i (word0 i xt0)) (cond0_1 i (word1 i xt0)))) p) (s k : Fin 2)
            (hc : ∀ h : Fin 12, ∃ p ∈ L, ∀ j : S2x256x768.Idx, (j 0).val = s.val → (j 1).val / 128 = k.val → (j 2).val / 64 = h.val → j ∈ p.1.set)
            (off : Fin 3 → ℕ) (inb : ∀ a, off a + (![1, 128, 768] : Fin 3 → ℕ) a ≤ S2x256x768.size a)
            (h0 : off 0 = s.val) (h1 : off 1 = 128 * k.val) (h2 : off 2 = 0),
            Good (outBlock x0 x1 x2 x3 x4 x5 x6 x7 (cond0_0 i (word0 i xt0)) (cond0_1 i (word1 i xt0))) ⟨Rect.unit (s := S2x256x768) off ![1, 128, 768] inb,
              outTile (arg12.view.readCov L (Rect.unit (s := S2x256x768) off ![1, 128, 768] inb).toLoadRect)
              (View.readAt (Elt F) arg8.view (Rect.unit (s := S768x768) ![0, 0] ![768, 768] inb_S768x768_S768x768_0_0).toLoadRect (harg8.unread x6))
              (View.readAt (Elt F) arg2.view (Rect.unit (s := S2x256x768) off ![1, 128, 768] inb).toLoadRect (harg2.unread x0))
              (View.readAt (Elt F) arg9.view (Rect.unit (s := S1x768) ![0, 0] ![1, 768] inb_S1x768_S1x768_0_0).toLoadRect (harg9.unread x7))⟩ := by
          intro L hg s k hc off inb h0 h1 h2
          refine good_tile _ s k off inb h0 h1 h2 _ ?_
          rw [load_heads arg12.view L _ hg s k hc off inb h0 h1 h2, load_rows harg2 x0 s k off inb h0 h1 h2, load_whole harg8, load_whole harg9]
        show ∀ p ∈ _, Good _ p
        refine List.forall_mem_cons.mpr ⟨hw (body_D.sl.H10_24 c arg2 harg2 arg3 harg3 arg4 harg4 arg5 harg5 arg6 harg6 arg7 harg7 arg11 x0 x1 x2 x3 x4 x5) hh24 1 0 cv24 ![1, 0, 0] inb_S2x256x768_S1x128x768_1_0_0 rfl rfl rfl, ?_⟩
        refine List.forall_mem_cons.mpr ⟨hw (body_D.sl.H10_12 c arg2 harg2 arg3 harg3 arg4 harg4 arg5 harg5 arg6 harg6 arg7 harg7 arg11 x0 x1 x2 x3 x4 x5) hh12 0 0 cv12 ![0, 0, 0] inb_S2x256x768_S1x128x768_0_0_0 rfl rfl rfl, ?_⟩
        exact fun _ h => absurd h List.not_mem_nil
      · have hj0 : (j 0).val < 2 := (j 0).isLt
        have hj1 : (j 1).val < 256 := (j 1).isLt
        by_cases a0 : (j 0).val = 0
        · by_cases a1 : (j 1).val < 128
          · exact ⟨_, List.mem_cons_of_mem _ (List.mem_cons_self), mem_tile 0 0 ![0, 0, 0] inb_S2x256x768_S1x128x768_0_0_0 rfl rfl rfl j a0 (by show _ / 128 = 0; omega)⟩
          · exact absurd hj (by rintro (h | ⟨h, h'⟩ | ⟨h, h'⟩) <;> first | omega | exact hc0 h')
        · by_cases a1 : (j 1).val < 128
          · exact ⟨_, List.mem_cons_self, mem_tile 1 0 ![1, 0, 0] inb_S2x256x768_S1x128x768_1_0_0 rfl rfl rfl j (by show _ = 1; omega) (by show _ / 128 = 0; omega)⟩
          · exact absurd hj (by rintro (h | ⟨h, h'⟩ | ⟨h, h'⟩) <;> first | omega | exact hc1 h')
    isplitl [H9]
    · iexists _; iexists _; isplitr; swap; · iexact H9
      ipureintro; rfl
    isplitl [H10]
    · iexists _; iexists _; isplitr; swap; · iexact H10
      ipureintro; rfl
    iexact HT0

end Cert.AttnIdeal.Run

end
-- ==== Proof.AttnRun.lean ====
/-
  The run of the attention call's ideal program, at any float operations: every execution ends, with the arguments unchanged, every counter
  at zero, and the result array holding, on the rows that the call writes, one closed function of the arguments.
-/
module

public import proofs.«01_k».proof.Proof.AttnBodyA
public import proofs.«01_k».proof.Proof.AttnBodyB
public import proofs.«01_k».proof.Proof.AttnBodyC
public import proofs.«01_k».proof.Proof.AttnBodyD
public import Idealize.ShloMosaic.Lib.Pipeline.DatRel
public import Idealize.ShloMosaic.Lib.Pipeline.ArrRel
public import Idealize.ShloMosaic.Lib.Pipeline.ValueKit.Geometry

@[expose] public section

set_option maxRecDepth 16384

noncomputable section

namespace Cert.AttnIdeal.Run

open Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The window that is held to a relation: the output. -/
def marks : Fin 9 → Bool := fun w => w.val == 8

/-- The arrays as the region finds them; each input's buffer left at its block. -/
def prf (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
  Φ _ := iprop(Pipeline.ΦA spec0 c ∗ Pipeline.ΦT pre0 (tbl m) c)
  q _ := fullShare
  owed _ := 0

/-- The output block at a point, as a function of the input blocks and the table's words there. -/
def blockAt (hO : Ok m) (c : Dev nD) (t : Fin (cfgM m hO).N) : Vec F S2x256x768 .f32 :=
  outBlock (iblk m hO c 0 t) (iblk m hO c 1 t) (iblk m hO c 2 t) (iblk m hO c 3 t) (iblk m hO c 4 t) (iblk m hO c 5 t) (iblk m hO c 6 t) (iblk m hO c 7 t)
    (cond0_0 (grid0.coords t) (word0 (grid0.coords t) (tbl m 0))) (cond0_1 (grid0.coords t) (word1 (grid0.coords t) (tbl m 0)))

/-- What the output's staging buffer is held to after the body at a point. -/
def left (hO : Ok m) (c : Dev nD) (w : Fin (cfgM m hO).W) (t : Fin (cfgM m hO).N) : (((cfgM m hO).win w).block.Idx → Elt F ((cfgM m hO).win w).elt) → Prop :=
  match w with
  | ⟨8, _⟩ => fun X => Written (F := F) (blockAt m hO c t) X
      (cond0_0 (grid0.coords t) (word0 (grid0.coords t) (tbl m 0))) (cond0_1 (grid0.coords t) (word1 (grid0.coords t) (tbl m 0)))
  | _ => fun _ => True

theorem A_eq (hO : Ok m) (c : Dev nD) (w : Fin (cfgM m hO).W) : (prf m hO 0 c).A w = V m c (Pipeline.arrRef spec0 w) := by
  dsimp only [prf]

theorem keeps_0 (hO : Ok m) (c : Dev nD) (t : Fin (cfgM m hO).N) : (prf m hO 0 c).after 0 t = iblk m hO c 0 t := by dsimp only [prf]; try rfl
theorem keeps_1 (hO : Ok m) (c : Dev nD) (t : Fin (cfgM m hO).N) : (prf m hO 0 c).after 1 t = iblk m hO c 1 t := by dsimp only [prf]; try rfl
theorem keeps_2 (hO : Ok m) (c : Dev nD) (t : Fin (cfgM m hO).N) : (prf m hO 0 c).after 2 t = iblk m hO c 2 t := by dsimp only [prf]; try rfl
theorem keeps_3 (hO : Ok m) (c : Dev nD) (t : Fin (cfgM m hO).N) : (prf m hO 0 c).after 3 t = iblk m hO c 3 t := by dsimp only [prf]; try rfl
theorem keeps_4 (hO : Ok m) (c : Dev nD) (t : Fin (cfgM m hO).N) : (prf m hO 0 c).after 4 t = iblk m hO c 4 t := by dsimp only [prf]; try rfl
theorem keeps_5 (hO : Ok m) (c : Dev nD) (t : Fin (cfgM m hO).N) : (prf m hO 0 c).after 5 t = iblk m hO c 5 t := by dsimp only [prf]; try rfl
theorem keeps_6 (hO : Ok m) (c : Dev nD) (t : Fin (cfgM m hO).N) : (prf m hO 0 c).after 6 t = iblk m hO c 6 t := by dsimp only [prf]; try rfl
theorem keeps_7 (hO : Ok m) (c : Dev nD) (t : Fin (cfgM m hO).N) : (prf m hO 0 c).after 7 t = iblk m hO c 7 t := by dsimp only [prf]; try rfl
theorem finds_0 (hO : Ok m) (c : Dev nD) (t : Fin (cfgM m hO).N) (d) : (prf m hO 0 c).before 0 t d = iblk m hO c 0 t :=
  finds_of_0 m hO (prf m hO 0 c) (A_eq m hO c 0) (keeps_0 m hO c) t d
theorem finds_1 (hO : Ok m) (c : Dev nD) (t : Fin (cfgM m hO).N) (d) : (prf m hO 0 c).before 1 t d = iblk m hO c 1 t :=
  finds_of_1 m hO (prf m hO 0 c) (A_eq m hO c 1) (keeps_1 m hO c) t d
theorem finds_2 (hO : Ok m) (c : Dev nD) (t : Fin (cfgM m hO).N) (d) : (prf m hO 0 c).before 2 t d = iblk m hO c 2 t :=
  finds_of_2 m hO (prf m hO 0 c) (A_eq m hO c 2) (keeps_2 m hO c) t d
theorem finds_3 (hO : Ok m) (c : Dev nD) (t : Fin (cfgM m hO).N) (d) : (prf m hO 0 c).before 3 t d = iblk m hO c 3 t :=
  finds_of_3 m hO (prf m hO 0 c) (A_eq m hO c 3) (keeps_3 m hO c) t d
theorem finds_4 (hO : Ok m) (c : Dev nD) (t : Fin (cfgM m hO).N) (d) : (prf m hO 0 c).before 4 t d = iblk m hO c 4 t :=
  finds_of_4 m hO (prf m hO 0 c) (A_eq m hO c 4) (keeps_4 m hO c) t d
theorem finds_5 (hO : Ok m) (c : Dev nD) (t : Fin (cfgM m hO).N) (d) : (prf m hO 0 c).before 5 t d = iblk m hO c 5 t :=
  finds_of_5 m hO (prf m hO 0 c) (A_eq m hO c 5) (keeps_5 m hO c) t d
theorem finds_6 (hO : Ok m) (c : Dev nD) (t : Fin (cfgM m hO).N) (d) : (prf m hO 0 c).before 6 t d = iblk m hO c 6 t :=
  finds_of_6 m hO (prf m hO 0 c) (A_eq m hO c 6) (keeps_6 m hO c) t d
theorem finds_7 (hO : Ok m) (c : Dev nD) (t : Fin (cfgM m hO).N) (d) : (prf m hO 0 c).before 7 t d = iblk m hO c 7 t :=
  finds_of_7 m hO (prf m hO 0 c) (A_eq m hO c 7) (keeps_7 m hO c) t d

/-- The scratch buffers and the generator's register that a launch hands the body, as the body asks for them. -/
theorem scratch_eq (c : Dev nD) : Pipeline.ΦA (Val := Elt F) spec0 c
    = (iprop(((∃ d, owns (c : Thread nD τ) scM0 fullShare d) ∗ (∃ d, owns (c : Thread nD τ) scM1 fullShare d)) ∗ ∃ r, prngReg c r) : sProp 𝕄) := by
  unfold Pipeline.ΦA
  rw [scopedRest0_eq]
  simp only [owns_whole]
  rfl

/-! ## The body obligation -/

/-- What the body is called with at a point, -/
def called (hO : Ok m) (c : Dev nD) (t : Fin (cfgM m hO).N) : sProp 𝕄 :=
  iprop((prf m hO 0 c).Φ t.castSucc ∗ (prf m hO 0 c).owesAt () t.castSucc
    ∗ (∃ d, owns (c : Thread nD τ) (ms0_0 m hO t) fullShare ((prf m hO 0 c).before 0 t d))
    ∗ (∃ d, owns (c : Thread nD τ) (ms0_1 m hO t) fullShare ((prf m hO 0 c).before 1 t d))
    ∗ (∃ d, owns (c : Thread nD τ) (ms0_2 m hO t) fullShare ((prf m hO 0 c).before 2 t d))
    ∗ (∃ d, owns (c : Thread nD τ) (ms0_3 m hO t) fullShare ((prf m hO 0 c).before 3 t d))
    ∗ (∃ d, owns (c : Thread nD τ) (ms0_4 m hO t) fullShare ((prf m hO 0 c).before 4 t d))
    ∗ (∃ d, owns (c : Thread nD τ) (ms0_5 m hO t) fullShare ((prf m hO 0 c).before 5 t d))
    ∗ (∃ d, owns (c : Thread nD τ) (ms0_6 m hO t) fullShare ((prf m hO 0 c).before 6 t d))
    ∗ (∃ d, owns (c : Thread nD τ) (ms0_7 m hO t) fullShare ((prf m hO 0 c).before 7 t d))
    ∗ (∃ d, owns (c : Thread nD τ) (ms0_8 m hO t) fullShare d))

/-- and what it returns. -/
def returned (hO : Ok m) (c : Dev nD) (t : Fin (cfgM m hO).N) : sProp 𝕄 :=
  iprop((prf m hO 0 c).Φ t.succ ∗ (prf m hO 0 c).owesAt () t.succ
    ∗ owns (c : Thread nD τ) (ms0_0 m hO t) fullShare ((prf m hO 0 c).after 0 t)
    ∗ owns (c : Thread nD τ) (ms0_1 m hO t) fullShare ((prf m hO 0 c).after 1 t)
    ∗ owns (c : Thread nD τ) (ms0_2 m hO t) fullShare ((prf m hO 0 c).after 2 t)
    ∗ owns (c : Thread nD τ) (ms0_3 m hO t) fullShare ((prf m hO 0 c).after 3 t)
    ∗ owns (c : Thread nD τ) (ms0_4 m hO t) fullShare ((prf m hO 0 c).after 4 t)
    ∗ owns (c : Thread nD τ) (ms0_5 m hO t) fullShare ((prf m hO 0 c).after 5 t)
    ∗ owns (c : Thread nD τ) (ms0_6 m hO t) fullShare ((prf m hO 0 c).after 6 t)
    ∗ owns (c : Thread nD τ) (ms0_7 m hO t) fullShare ((prf m hO 0 c).after 7 t)
    ∗ (∃ X, ⌜left m hO c 8 t X⌝ ∗ owns (c : Thread nD τ) (ms0_8 m hO t) fullShare X))

set_option maxHeartbeats 3200000 in
/-- The body at any point, its four cases. -/
theorem body_triple (hO : Ok m) (c : Dev nD) (t : Fin (cfgM m hO).N) :
    called m hO c t ⊢ wp frame (wpE (defs₀ (F := F)) Variants.none c none) Set.univ (bodyAt0 (adm m hO) t) (fun _ => returned m hO c t) := by
  unfold called returned bodyAt0
  simp only [finds_0, finds_1, finds_2, finds_3, finds_4, finds_5, finds_6, finds_7]
  rw [show (prf m hO 0 c).Φ t.succ = (prf m hO 0 c).Φ t.castSucc from rfl,
    show (prf m hO 0 c).owesAt () t.succ = (prf m hO 0 c).owesAt () t.castSucc from rfl,
    keeps_0, keeps_1, keeps_2, keeps_3, keeps_4, keeps_5, keeps_6, keeps_7]
  rw [show (prf m hO 0 c).Φ t.castSucc = iprop(Pipeline.ΦA spec0 c ∗ Pipeline.ΦT pre0 (tbl m) c) from rfl, PhiT0_eq, scratch_eq]
  by_cases h0 : cond0_0 (grid0.coords t) (word0 (grid0.coords t) (tbl m 0))
  · by_cases h1 : cond0_1 (grid0.coords t) (word1 (grid0.coords t) (tbl m 0))
    · skip
      iintro ⟨⟨⟨⟨Hs0, Hs1⟩, Hr⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_A c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) h0 h1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [Hs0]; · iexact Hs0
      isplitl [Hs1]; · iexact Hs1
      isplitl [HT0]; · iexact HT0
      iintro ⟨H0, H1, H2, H3, H4, H5, H6, H7, H8, Hs0, Hs1, HT0⟩
      isplitl [Hs0 Hs1 Hr HT0]
      · isplitl [Hs0 Hs1 Hr]
        · isplitl [Hs0 Hs1]
          · isplitl [Hs0]
            · iexact Hs0
            iexact Hs1
          iexact Hr
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · skip
      iintro ⟨⟨⟨⟨Hs0, Hs1⟩, Hr⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_B c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) h0 h1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [Hs0]; · iexact Hs0
      isplitl [Hs1]; · iexact Hs1
      isplitl [HT0]; · iexact HT0
      iintro ⟨H0, H1, H2, H3, H4, H5, H6, H7, H8, Hs0, Hs1, HT0⟩
      isplitl [Hs0 Hs1 Hr HT0]
      · isplitl [Hs0 Hs1 Hr]
        · isplitl [Hs0 Hs1]
          · isplitl [Hs0]
            · iexact Hs0
            iexact Hs1
          iexact Hr
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
  · by_cases h1 : cond0_1 (grid0.coords t) (word1 (grid0.coords t) (tbl m 0))
    · skip
      iintro ⟨⟨⟨⟨Hs0, Hs1⟩, Hr⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_C c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) h0 h1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [Hs0]; · iexact Hs0
      isplitl [Hs1]; · iexact Hs1
      isplitl [HT0]; · iexact HT0
      iintro ⟨H0, H1, H2, H3, H4, H5, H6, H7, H8, Hs0, Hs1, HT0⟩
      isplitl [Hs0 Hs1 Hr HT0]
      · isplitl [Hs0 Hs1 Hr]
        · isplitl [Hs0 Hs1]
          · isplitl [Hs0]
            · iexact Hs0
            iexact Hs1
          iexact Hr
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · skip
      iintro ⟨⟨⟨⟨Hs0, Hs1⟩, Hr⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (body_D c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) h0 h1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [Hs0]; · iexact Hs0
      isplitl [Hs1]; · iexact Hs1
      isplitl [HT0]; · iexact HT0
      iintro ⟨H0, H1, H2, H3, H4, H5, H6, H7, H8, Hs0, Hs1, HT0⟩
      isplitl [Hs0 Hs1 Hr HT0]
      · isplitl [Hs0 Hs1 Hr]
        · isplitl [Hs0 Hs1]
          · isplitl [Hs0]
            · iexact Hs0
            iexact Hs1
          iexact Hr
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8

/-- The body table's row at a point's slots. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's relational body obligation, from the triple. -/
theorem obligation (hO : Ok m) (c : Dev nD) :
    BodyObligationRel (prf (F := F) m hO 0 c) (defs₀ (F := F)) Variants.none () Set.univ marks (left m hO c) := fun t => by
  rw [bigSep_W0, bigSep_W0, defs₀_row m hO]
  refine triple_restated (body_triple m hO c t) ?_ ?_ fun _ => .rfl
  · rfl
  · show iprop((prf m hO 0 c).Φ t.castSucc ∗ (prf m hO 0 c).owesAt () t.castSucc
      ∗ (∃ d, owns (c : Thread nD τ) (ms0_0 m hO t) fullShare ((prf m hO 0 c).before 0 t d))
      ∗ (∃ d, owns (c : Thread nD τ) (ms0_1 m hO t) fullShare ((prf m hO 0 c).before 1 t d))
      ∗ (∃ d, owns (c : Thread nD τ) (ms0_2 m hO t) fullShare ((prf m hO 0 c).before 2 t d))
      ∗ (∃ d, owns (c : Thread nD τ) (ms0_3 m hO t) fullShare ((prf m hO 0 c).before 3 t d))
      ∗ (∃ d, owns (c : Thread nD τ) (ms0_4 m hO t) fullShare ((prf m hO 0 c).before 4 t d))
      ∗ (∃ d, owns (c : Thread nD τ) (ms0_5 m hO t) fullShare ((prf m hO 0 c).before 5 t d))
      ∗ (∃ d, owns (c : Thread nD τ) (ms0_6 m hO t) fullShare ((prf m hO 0 c).before 6 t d))
      ∗ (∃ d, owns (c : Thread nD τ) (ms0_7 m hO t) fullShare ((prf m hO 0 c).before 7 t d))
      ∗ (∃ Y, ⌜((prf m hO 0 c).toRRel marks (left m hO c)).Finds 8 t Y⌝ ∗ owns (c : Thread nD τ) (ms0_8 m hO t) fullShare Y)) ⊢ _
    iintro ⟨HΦ, Ho, H0, H1, H2, H3, H4, H5, H6, H7, ⟨%Y, -, H8⟩⟩
    unfold called
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8

/-! ## The launch -/

set_option backward.isDefEq.respectTransparency.types false in
/-- The launch: the arrays' final contents under the relation, and every counter at zero. -/
theorem launched (hO : Ok m) : θ_run defs (onTc (τ := τ) (main (F := F))) (s₀ m ρ) (fun r =>
    (Pipeline.RDat.FramePost ((Pipeline.pin pcfgs fun _ => adm m hO) 0) (fun c => (prf m hO 0 c).toRRel marks (left m hO c)) (V m)) r ∧ r.2.sem = fun _ => 0) :=
  Pipeline.RDat.θ_run_frameP (Q' := _) pcfgs (fun _ => adm m hO) (0 : Fin 1) launch0 defs₀ Variants.none
    (fun c => (prf m hO 0 c).toRRel marks (left m hO c)) m ρ main
    (hbody := fun c => (obligation m hO c).toRRel) (hshare := fun c => (prf m hO 0 c).share_full fun _ => rfl)
    (howed := fun _ _ => rfl) (V := V m) (hmain := hmain m Variants.none) (hA := A_eq m hO) (hpf := V_pre m) (hΦ := fun _ _ => rfl)

/-! ## The blocks, as functions of the arguments -/

/-- The parts of a block depend on one sample of the input blocks. -/
theorem rowsOf_congr {x x' : Vec F S2x256x768 .f32} {s s' : Fin 2} (h : ∀ r q, x (ix3 s r q) = x' (ix3 s' r q)) (k : Fin 2) :
    rowsOf x s k = rowsOf x' s' k := funext fun j => h _ _

theorem qkvBlock_congr {x x' : Vec F S2x256x768 .f32} {s s' : Fin 2} {p0 p1 p0' p1' : Prop} (h : ∀ r q, x (ix3 s r q) = x' (ix3 s' r q))
    (hp : ∀ k, Taken p0 p1 s k ↔ Taken p0' p1' s' k) (g b : Vec F S1x768 .f32) (w : Vec F S768x2304 .f32) (c : Vec F S1x2304 .f32) (r : Fin 256) (q : Fin 2304) :
    qkvBlock x g b w c p0 p1 (ix3 s r q) = qkvBlock x' g b w c p0' p1' (ix3 s' r q) := by
  unfold qkvBlock tiled
  have hr := rowsOf_congr h
  show (@ite _ (Taken p0 p1 s ⟨r.val / 128, _⟩) (Classical.dec _) (qkvTile (rowsOf x s _) g b w c) k0_pay58) _
    = (@ite _ (Taken p0' p1' s' ⟨r.val / 128, _⟩) (Classical.dec _) (qkvTile (rowsOf x' s' _) g b w c) k0_pay58) _
  rw [hr]
  refine congrFun ?_ _
  by_cases ht : Taken p0 p1 s ⟨r.val / 128, by have := r.isLt; omega⟩
  · exact (if_pos ht).trans (if_pos ((hp _).mp ht)).symm
  · exact (if_neg ht).trans (if_neg fun h' => ht ((hp _).mpr h')).symm

theorem headBlock_congr {Q Q' : Vec F S2x256x2304 .f32} {x x' : Vec F S2x1x256 .f32} {s s' : Fin 2} (h : ∀ r q, Q (ix3 s r q) = Q' (ix3 s' r q))
    (hx : ∀ q, x (ix3 s 0 q) = x' (ix3 s' 0 q)) (r : Fin 256) (q : Fin 768) : headBlock x Q (ix3 s r q) = headBlock x' Q' (ix3 s' r q) := by
  have hb : biasOf x s = biasOf x' s' := funext fun j => hx _
  have hq : ∀ k h', qOf Q s k h' = qOf Q' s' k h' := fun k h' => funext fun j => h _ _
  have hk : ∀ h', kOf Q s h' = kOf Q' s' h' := fun h' => funext fun j => h _ _
  have hv : ∀ h', vOf Q s h' = vOf Q' s' h' := fun h' => funext fun j => h _ _
  unfold headBlock
  show headTile (biasOf x s) (qOf Q s _ _) (kOf Q s _) (vOf Q s _) _ = headTile (biasOf x' s') (qOf Q' s' _ _) (kOf Q' s' _) (vOf Q' s' _) _
  rw [hb, hq, hk, hv]

theorem outBlock_congr {x x' : Vec F S2x256x768 .f32} {y y' : Vec F S2x1x256 .f32} {s s' : Fin 2} {p0 p1 p0' p1' : Prop}
    (h : ∀ r q, x (ix3 s r q) = x' (ix3 s' r q)) (hy : ∀ q, y (ix3 s 0 q) = y' (ix3 s' 0 q))
    (hp : ∀ k, Taken p0 p1 s k ↔ Taken p0' p1' s' k) (g b : Vec F S1x768 .f32) (w : Vec F S768x2304 .f32) (c : Vec F S1x2304 .f32)
    (w' : Vec F S768x768 .f32) (c' : Vec F S1x768 .f32) (r : Fin 256) (q : Fin 768) :
    outBlock x y g b w c w' c' p0 p1 (ix3 s r q) = outBlock x' y' g b w c w' c' p0' p1' (ix3 s' r q) := by
  have hh := rowsOf_congr (headBlock_congr (qkvBlock_congr h hp g b w c) hy)
  unfold outBlock tiled
  show outTile (rowsOf (headBlock y _) s _) w' (rowsOf x s _) c' _ = outTile (rowsOf (headBlock y' _) s' _) w' (rowsOf x' s' _) c' _
  rw [hh, rowsOf_congr h]

/-- A sample of the rows, and of the bias, as a block. -/
def sample (x : Vec F S64x256x768 .f32) (s : Fin 64) : Vec F S2x256x768 .f32 := fun j => x (ix3 s (j 1) (j 2))
def sampleBias (y : Vec F S64x1x256 .f32) (s : Fin 64) : Vec F S2x1x256 .f32 := fun j => y (ix3 s (j 1) (j 2))

/-- The result where the call writes it, as a function of the arguments. -/
def outAll (n : Vec F S64 .i32) (x : Vec F S64x256x768 .f32) (y : Vec F S64x1x256 .f32) (g b : Vec F S768 .f32) (w : Vec F S768x2304 .f32) (c : Vec F S2304 .f32)
    (w' : Vec F S768x768 .f32) (c' : Vec F S768 .f32) : Vec F S64x256x768 .f32 :=
  fun i => outBlock (sample x (i 0)) (sampleBias y (i 0)) (shapeCast S1x768 g shapeCasts_S768_S1x768) (shapeCast S1x768 b shapeCasts_S768_S1x768) w
    (shapeCast S1x2304 c shapeCasts_S2304_S1x2304) w' (shapeCast S1x768 c' shapeCasts_S768_S1x768)
    (BitVec.slt 1#32 (n (ix1 (i 0) : S64.Idx)) = true) (BitVec.slt 1#32 (n (ix1 (i 0) : S64.Idx)) = true) (ix3 0 (i 1) (i 2))

theorem V_v0 (c : Dev nD) : V m c main_v0 = shapeCast S1x768 (m ((c : Thread nD τ).loc main_arg3)) shapeCasts_S768_S1x768 := by
  show StableHlo.after hostOps0 _ (Proc.devRef .tc main_v0) = _
  after_results
  rfl
theorem V_v1 (c : Dev nD) : V m c main_v1 = shapeCast S1x768 (m ((c : Thread nD τ).loc main_arg4)) shapeCasts_S768_S1x768 := by
  show StableHlo.after hostOps0 _ (Proc.devRef .tc main_v1) = _
  after_results
  rfl
theorem V_v2 (c : Dev nD) : V m c main_v2 = shapeCast S1x2304 (m ((c : Thread nD τ).loc main_arg6)) shapeCasts_S2304_S1x2304 := by
  show StableHlo.after hostOps0 _ (Proc.devRef .tc main_v2) = _
  after_results
  rfl
theorem V_v3 (c : Dev nD) : V m c main_v3 = shapeCast S1x768 (m ((c : Thread nD τ).loc main_arg8)) shapeCasts_S768_S1x768 := by
  show StableHlo.after hostOps0 _ (Proc.devRef .tc main_v3) = _
  after_results
  rfl

/-- The block index of the three moving windows at a point is the point. -/
theorem idx_moving : ∀ t : Fin grid0.N, cc0_transform_0 (grid0.coords t) = ![t.val, 0, 0] := by decide +kernel
theorem idx_bias : ∀ t : Fin grid0.N, cc0_transform_1 (grid0.coords t) = ![t.val, 0, 0] := by decide +kernel
theorem idx_out : ∀ t : Fin grid0.N, cc0_transform_8 (grid0.coords t) = ![t.val, 0, 0] := by decide +kernel

theorem idx_2 : ∀ t : Fin grid0.N, cc0_transform_2 (grid0.coords t) = ![0, 0] := by decide +kernel
theorem iblk_2 (hO : Ok m) (c : Dev nD) (t : Fin (cfgM m hO).N) : iblk m hO c 2 t = V m c main_v0 := by
  funext j
  show V m c main_v0 ((((cfgM m hO).win 2).blk t).view.emb j) = _
  refine congrArg (V m c main_v0) (funext fun a => Fin.ext ?_)
  show cc0_transform_2 (grid0.coords t) a * S1x768.size a + 1 * (j a).val = (j a).val
  rw [idx_2 t]
  fin_cases a <;> simp

theorem idx_3 : ∀ t : Fin grid0.N, cc0_transform_3 (grid0.coords t) = ![0, 0] := by decide +kernel
theorem iblk_3 (hO : Ok m) (c : Dev nD) (t : Fin (cfgM m hO).N) : iblk m hO c 3 t = V m c main_v1 := by
  funext j
  show V m c main_v1 ((((cfgM m hO).win 3).blk t).view.emb j) = _
  refine congrArg (V m c main_v1) (funext fun a => Fin.ext ?_)
  show cc0_transform_3 (grid0.coords t) a * S1x768.size a + 1 * (j a).val = (j a).val
  rw [idx_3 t]
  fin_cases a <;> simp

theorem idx_4 : ∀ t : Fin grid0.N, cc0_transform_4 (grid0.coords t) = ![0, 0] := by decide +kernel
theorem iblk_4 (hO : Ok m) (c : Dev nD) (t : Fin (cfgM m hO).N) : iblk m hO c 4 t = V m c main_arg5 := by
  funext j
  show V m c main_arg5 ((((cfgM m hO).win 4).blk t).view.emb j) = _
  refine congrArg (V m c main_arg5) (funext fun a => Fin.ext ?_)
  show cc0_transform_4 (grid0.coords t) a * S768x2304.size a + 1 * (j a).val = (j a).val
  rw [idx_4 t]
  fin_cases a <;> simp

theorem idx_5 : ∀ t : Fin grid0.N, cc0_transform_5 (grid0.coords t) = ![0, 0] := by decide +kernel
theorem iblk_5 (hO : Ok m) (c : Dev nD) (t : Fin (cfgM m hO).N) : iblk m hO c 5 t = V m c main_v2 := by
  funext j
  show V m c main_v2 ((((cfgM m hO).win 5).blk t).view.emb j) = _
  refine congrArg (V m c main_v2) (funext fun a => Fin.ext ?_)
  show cc0_transform_5 (grid0.coords t) a * S1x2304.size a + 1 * (j a).val = (j a).val
  rw [idx_5 t]
  fin_cases a <;> simp

theorem idx_6 : ∀ t : Fin grid0.N, cc0_transform_6 (grid0.coords t) = ![0, 0] := by decide +kernel
theorem iblk_6 (hO : Ok m) (c : Dev nD) (t : Fin (cfgM m hO).N) : iblk m hO c 6 t = V m c main_arg7 := by
  funext j
  show V m c main_arg7 ((((cfgM m hO).win 6).blk t).view.emb j) = _
  refine congrArg (V m c main_arg7) (funext fun a => Fin.ext ?_)
  show cc0_transform_6 (grid0.coords t) a * S768x768.size a + 1 * (j a).val = (j a).val
  rw [idx_6 t]
  fin_cases a <;> simp

theorem idx_7 : ∀ t : Fin grid0.N, cc0_transform_7 (grid0.coords t) = ![0, 0] := by decide +kernel
theorem iblk_7 (hO : Ok m) (c : Dev nD) (t : Fin (cfgM m hO).N) : iblk m hO c 7 t = V m c main_v3 := by
  funext j
  show V m c main_v3 ((((cfgM m hO).win 7).blk t).view.emb j) = _
  refine congrArg (V m c main_v3) (funext fun a => Fin.ext ?_)
  show cc0_transform_7 (grid0.coords t) a * S1x768.size a + 1 * (j a).val = (j a).val
  rw [idx_7 t]
  fin_cases a <;> simp

/-- Window 0's block, at coordinates. -/
theorem iblk_0 (hO : Ok m) (c : Dev nD) (t : Fin (cfgM m hO).N) (j : S2x256x768.Idx) :
    iblk m hO c 0 t j = V m c main_arg1 (ix3 ⟨2 * t.val + (j 0).val, by
      have h := t.isLt; have h2 : (cfgM m hO).N = 32 := N_0; have := (j 0).isLt; simp at *; omega⟩ (j 1) (j 2)) := by
  show V m c main_arg1 ((((cfgM m hO).win 0).blk t).view.emb j) = _
  refine congrArg (V m c main_arg1) (funext fun a => Fin.ext ?_)
  show cc0_transform_0 (grid0.coords t) a * S2x256x768.size a + 1 * (j a).val = _
  rw [idx_moving t]
  fin_cases a
  · show t.val * 2 + 1 * (j 0).val = 2 * t.val + (j 0).val
    omega
  · show 0 * 256 + 1 * (j 1).val = (j 1).val
    omega
  · show 0 * 768 + 1 * (j 2).val = (j 2).val
    omega

/-- Window 1's block, at coordinates. -/
theorem iblk_1 (hO : Ok m) (c : Dev nD) (t : Fin (cfgM m hO).N) (j : S2x1x256.Idx) :
    iblk m hO c 1 t j = V m c main_arg2 (ix3 ⟨2 * t.val + (j 0).val, by
      have h := t.isLt; have h2 : (cfgM m hO).N = 32 := N_0; have := (j 0).isLt; simp at *; omega⟩ (j 1) (j 2)) := by
  show V m c main_arg2 ((((cfgM m hO).win 1).blk t).view.emb j) = _
  refine congrArg (V m c main_arg2) (funext fun a => Fin.ext ?_)
  show cc0_transform_1 (grid0.coords t) a * S2x1x256.size a + 1 * (j a).val = _
  rw [idx_bias t]
  fin_cases a
  · show t.val * 2 + 1 * (j 0).val = 2 * t.val + (j 0).val
    omega
  · show 0 * 1 + 1 * (j 1).val = (j 1).val
    omega
  · show 0 * 256 + 1 * (j 2).val = (j 2).val
    omega

theorem off1_eq : ∀ t : Fin grid0.N, k0_off1 (grid0.coords t) = ![2 * t.val] := by decide +kernel
theorem off2_eq : ∀ t : Fin grid0.N, k0_off2 (grid0.coords t) = ![2 * t.val + 1] := by decide +kernel

/-- A table word, at the coordinate. -/
theorem word0_eq (t : Fin grid0.N) (x : Vec F S64 .i32) (i : S64.Idx) (hi : (i 0).val = 2 * t.val) : word0 (grid0.coords t) x = x i := by
  unfold word0
  rw [View.readAt_apply]
  show x _ = x i
  refine congrArg x (funext fun a => Fin.ext ?_)
  fin_cases a
  show k0_off1 (grid0.coords t) 0 + 1 * 0 = (i 0).val
  rw [off1_eq, hi]
  rfl
theorem word1_eq (t : Fin grid0.N) (x : Vec F S64 .i32) (i : S64.Idx) (hi : (i 0).val = 2 * t.val + 1) : word1 (grid0.coords t) x = x i := by
  unfold word1
  rw [View.readAt_apply]
  show x _ = x i
  refine congrArg x (funext fun a => Fin.ext ?_)
  fin_cases a
  show k0_off2 (grid0.coords t) 0 + 1 * 0 = (i 0).val
  rw [off2_eq, hi]
  rfl

theorem tbl_eq (c : Dev nD) : tbl m 0 = m ((c : Thread nD τ).loc main_arg0) := by
  rw [← V_pre m c 0]; exact V_of_mem m c main_arg0 (by decide)

/-- The two conditions at a point, from the arguments. -/
theorem cond0_iff (c : Dev nD) (t : Fin grid0.N) (s : Fin 64) (hs : s.val = 2 * t.val) :
    cond0_0 (grid0.coords t) (word0 (grid0.coords t) (tbl m 0)) ↔ BitVec.slt 1#32 (m ((c : Thread nD τ).loc main_arg0) (ix1 s : S64.Idx)) = true := by
  rw [word0_eq t (tbl m 0) (ix1 s) hs, tbl_eq m c]
  exact taken_iff _
theorem cond1_iff (c : Dev nD) (t : Fin grid0.N) (s : Fin 64) (hs : s.val = 2 * t.val + 1) :
    cond0_1 (grid0.coords t) (word1 (grid0.coords t) (tbl m 0)) ↔ BitVec.slt 1#32 (m ((c : Thread nD τ).loc main_arg0) (ix1 s : S64.Idx)) = true := by
  rw [word1_eq t (tbl m 0) (ix1 s) hs, tbl_eq m c]
  exact taken_iff _

/-- The output block at coordinates is the closed function of the arguments. -/
theorem blockAt_eq (hO : Ok m) (c : Dev nD) (t : Fin (cfgM m hO).N) (j : S2x256x768.Idx) (i : S64x256x768.Idx)
    (h0 : (i 0).val = 2 * t.val + (j 0).val) (h1 : (i 1).val = (j 1).val) (h2 : (i 2).val = (j 2).val) :
    blockAt m hO c t j = outAll (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) i := by
  obtain ⟨s, hs⟩ : ∃ s : Fin 64, s.val = 2 * t.val + (j 0).val := ⟨i 0, h0⟩
  have hi : i = ix3 s (j 1) (j 2) := by
    funext a
    fin_cases a
    · exact Fin.ext (h0.trans hs.symm)
    · exact Fin.ext h1
    · exact Fin.ext h2
  subst hi
  have hj : j = ix3 (j 0) (j 1) (j 2) := by
    funext a
    fin_cases a <;> rfl
  unfold blockAt outAll
  rw [iblk_2, iblk_3, iblk_4, iblk_5, iblk_6, iblk_7, V_v0, V_v1, V_v2, V_v3,
    V_of_mem m c main_arg5 (by decide), V_of_mem m c main_arg7 (by decide)]
  refine (congrArg _ hj).trans (outBlock_congr ?_ ?_ ?_ _ _ _ _ _ _ (j 1) (j 2))
  · intro r q
    rw [iblk_0, V_of_mem m c main_arg1 (by decide)]
    refine congrArg (m ((c : Thread nD τ).loc main_arg1)) (funext fun a => Fin.ext ?_)
    fin_cases a
    · exact hs.symm
    · rfl
    · rfl
  · intro q
    rw [iblk_1, V_of_mem m c main_arg2 (by decide)]
    refine congrArg (m ((c : Thread nD τ).loc main_arg2)) (funext fun a => Fin.ext ?_)
    fin_cases a
    · exact hs.symm
    · rfl
    · rfl
  · intro k
    have hy : (j 0).val < 2 := (j 0).isLt
    unfold Taken
    rcases Nat.lt_or_ge (j 0).val 1 with h' | h'
    · have e0 : (j 0).val = 0 := by omega
      rw [cond0_iff m c t s (by omega)]
      show (k.val = 0 ∨ (j 0).val = 0 ∧ _ ∨ (j 0).val = 1 ∧ _) ↔ (k.val = 0 ∨ (0 : ℕ) = 0 ∧ _ ∨ (0 : ℕ) = 1 ∧ _)
      rw [e0]
      simp
    · have e1 : (j 0).val = 1 := by omega
      rw [cond1_iff m c t s (by omega)]
      show (k.val = 0 ∨ (j 0).val = 0 ∧ _ ∨ (j 0).val = 1 ∧ _) ↔ (k.val = 0 ∨ (0 : ℕ) = 0 ∧ _ ∨ (0 : ℕ) = 1 ∧ _)
      rw [e1]
      simp

/-- Every point writes its block back. -/
theorem flush_out (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)

/-! ## The result array -/

/-- What the run leaves in the result, on the rows that the call writes. -/
theorem result_of (hO : Ok m) (r : PUnit × MemSt nD τ sig (Elt F))
    (h : (Pipeline.RDat.FramePost ((Pipeline.pin pcfgs fun _ => adm m hO) 0) (fun c => (prf m hO 0 c).toRRel marks (left m hO c)) (V m)) r)
    (c : Dev nD) (i : S64x256x768.Idx)
    (hi : (i 1).val < 128 ∨ BitVec.slt 1#32 (m ((c : Thread nD τ).loc main_arg0) (ix1 (i 0) : S64.Idx)) = true) :
    r.2.mem ((c : Thread nD τ).loc main_v4) i
      = outAll (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) i := by
  obtain ⟨after, hL, hA⟩ := Pipeline.RDat.FramePost.exists_exact h c
  have hw := hA (8 : Fin 9)
  refine (congrFun hw i).trans ?_
  revert hi
  refine Dat.arrAt_forall_of_cover (((prf m hO 0 c).toRRel marks (left m hO c)).withAfter after) (8 : Fin 9)
    (fun (i : S64x256x768.Idx) v => ((i 1).val < 128 ∨ BitVec.slt 1#32 (m ((c : Thread nD τ).loc main_arg0) (ix1 (i 0) : S64.Idx)) = true) →
      v = outAll (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) i)
    ?_ ?_ i
  · intro t hf y hi
    have hl : Written (F := F) (blockAt m hO c t) (after 8 t)
        (cond0_0 (grid0.coords t) (word0 (grid0.coords t) (tbl m 0))) (cond0_1 (grid0.coords t) (word1 (grid0.coords t) (tbl m 0))) :=
      (prf m hO 0 c).toRRel_leaves rfl (hL (8 : Fin 9) t hf)
    have e : ∀ a : Fin 3, (((((cfgM m hO).win 8).blk t).view.emb y) a).val = (![t.val, 0, 0] : Fin 3 → ℕ) a * S2x256x768.size a + 1 * (y a).val := by
      intro a
      show cc0_transform_8 (grid0.coords t) a * S2x256x768.size a + 1 * (y a).val = _
      rw [idx_out t]
    have e0 : (((((cfgM m hO).win 8).blk t).view.emb y) (0 : Fin 3)).val = 2 * t.val + (y (0 : Fin 3)).val := by
      rw [e]; show t.val * 2 + 1 * _ = _; omega
    have e1 : (((((cfgM m hO).win 8).blk t).view.emb y) (1 : Fin 3)).val = (y (1 : Fin 3)).val := by
      rw [e]; show 0 * 256 + 1 * _ = _; omega
    have e2 : (((((cfgM m hO).win 8).blk t).view.emb y) (2 : Fin 3)).val = (y (2 : Fin 3)).val := by
      rw [e]; show 0 * 768 + 1 * _ = _; omega
    have key : ∀ z : S64x256x768.Idx, (z 0).val = 2 * t.val + (y (0 : Fin 3)).val → (z 1).val = (y (1 : Fin 3)).val → (z 2).val = (y (2 : Fin 3)).val →
        ((z 1).val < 128 ∨ BitVec.slt 1#32 (m ((c : Thread nD τ).loc main_arg0) (ix1 (z 0) : S64.Idx)) = true) →
        after 8 t y = outAll (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) z := by
      intro z e0 e1 e2 hi
      refine (hl y ?_).trans (blockAt_eq m hO c t y z e0 e1 e2)
      rcases hi with hi | hi
      · exact .inl (e1 ▸ hi)
      · refine .inr ?_
        have hy : (y (0 : Fin 3)).val < 2 := (y (0 : Fin 3)).isLt
        rcases Nat.lt_or_ge (y (0 : Fin 3)).val 1 with h' | h'
        · refine .inl ⟨by omega, ?_⟩
          exact (cond0_iff m c t (z 0) (by rw [e0]; omega)).mpr hi
        · refine .inr ⟨by omega, ?_⟩
          exact (cond1_iff m c t (z 0) (by rw [e0]; omega)).mpr hi
    exact key _ e0 e1 e2 hi
  · intro i
    have hi0 : (i (0 : Fin 3)).val < 64 := (i (0 : Fin 3)).isLt
    let t : Fin (cfgM m hO).N := ⟨(i (0 : Fin 3)).val / 2, by
      have h2 : (cfgM m hO).N = 32 := N_0
      omega⟩
    refine ⟨t, flush_out _ t, ?_⟩
    let y : S2x256x768.Idx := ix3 ⟨(i (0 : Fin 3)).val % 2, Nat.mod_lt _ (by decide)⟩ (i (1 : Fin 3)) (i (2 : Fin 3))
    have he : (((cfgM m hO).win 8).blk t).view.emb y = i := by
      funext a
      refine Fin.ext ?_
      show cc0_transform_8 (grid0.coords t) a * S2x256x768.size a + 1 * (y a).val = _
      rw [idx_out t]
      match a with
      | ⟨0, _⟩ => show (i (0 : Fin 3)).val / 2 * 2 + 1 * ((i (0 : Fin 3)).val % 2) = (i (0 : Fin 3)).val; omega
      | ⟨1, _⟩ => show 0 * 256 + 1 * (i (1 : Fin 3)).val = (i (1 : Fin 3)).val; omega
      | ⟨2, _⟩ => show 0 * 768 + 1 * (i (2 : Fin 3)).val = (i (2 : Fin 3)).val; omega
    rw [← he]
    exact Finset.mem_map_of_mem _ (Finset.mem_univ y)

/-! ## The run -/

theorem ok : Ok m := trivial

/-- The arguments end as they began. -/
def Unchanged (c : Dev nD) (r : PUnit × MemSt nD τ sig (Elt F)) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)

theorem unchanged_of (hO : Ok m) (r : PUnit × MemSt nD τ sig (Elt F))
    (h : (Pipeline.RDat.FramePost ((Pipeline.pin pcfgs fun _ => adm m hO) 0) (fun c => (prf m hO 0 c).toRRel marks (left m hO c)) (V m)) r)
    (c : Dev nD) : Unchanged m c r :=
  ⟨((h c).2 main_arg0 (by decide : main_arg0 ∈ Pipeline.restRefs sig spec0)).trans (V_of_mem m c main_arg0 (by decide)),
    (Pipeline.RDat.FramePost.arr_in h c 0 rfl).trans ((A_eq m hO c 0).trans (V_of_mem m c main_arg1 (by decide))),
    (Pipeline.RDat.FramePost.arr_in h c 1 rfl).trans ((A_eq m hO c 1).trans (V_of_mem m c main_arg2 (by decide))),
    ((h c).2 main_arg3 (by decide : main_arg3 ∈ Pipeline.restRefs sig spec0)).trans (V_of_mem m c main_arg3 (by decide)),
    ((h c).2 main_arg4 (by decide : main_arg4 ∈ Pipeline.restRefs sig spec0)).trans (V_of_mem m c main_arg4 (by decide)),
    (Pipeline.RDat.FramePost.arr_in h c 4 rfl).trans ((A_eq m hO c 4).trans (V_of_mem m c main_arg5 (by decide))),
    ((h c).2 main_arg6 (by decide : main_arg6 ∈ Pipeline.restRefs sig spec0)).trans (V_of_mem m c main_arg6 (by decide)),
    (Pipeline.RDat.FramePost.arr_in h c 6 rfl).trans ((A_eq m hO c 6).trans (V_of_mem m c main_arg7 (by decide))),
    ((h c).2 main_arg8 (by decide : main_arg8 ∈ Pipeline.restRefs sig spec0)).trans (V_of_mem m c main_arg8 (by decide))⟩

/-- The run: the written rows of the result are the closed function of the arguments; the arguments are unchanged; the counters are zero. -/
theorem run : θ_run defs (onTc (τ := τ) (main (F := F))) (s₀ m ρ) (fun r =>
    (∀ c : Dev nD, (∀ i : S64x256x768.Idx,
        ((i 1).val < 128 ∨ BitVec.slt 1#32 (m ((c : Thread nD τ).loc main_arg0) (ix1 (i 0) : S64.Idx)) = true) →
        r.2.mem ((c : Thread nD τ).loc main_v4) i
          = outAll (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) (m ((c : Thread nD τ).loc main_arg7)) (m ((c : Thread nD τ).loc main_arg8)) i)
      ∧ Unchanged m c r)
    ∧ r.2.sem = fun _ => 0) :=
  (θ_run defs _ _).mono (fun r h => ⟨fun c => ⟨fun i hi => result_of m (ok m) r h.1 c i hi, unchanged_of m (ok m) r h.1 c⟩, h.2⟩)
    (launched m ρ (ok m))

end Cert.AttnIdeal.Run

end
-- ==== Proof.AttnPure.lean ====
/-
  The attention call, value side, on the extended reals: what the kernel leaves in a written row and the reference are both
  `Rows.attnOut` of a table of queries, keys and values. The kernel's table is zero in the rows of a tile it does not compute; those rows
  are keys with bias −∞, so they do not matter.
-/
module

public import proofs.«01_k».proof.Proof.AttnRun
public import proofs.«01_k».proof.Proof.Attend
public import proofs.«01_k».proof.Proof.Gen.AttnRefIdeal.Read

@[expose] public section

set_option maxRecDepth 16384

noncomputable section

namespace Cert.AttnPure

open Idealize.ShloMosaic

section Kernel
open Cert.AttnIdeal Cert.AttnIdeal.Gen Cert.AttnIdeal.Run

/-- One head of one tile. -/
theorem headTile_apply (bias : Vec Ideal S1x1x256 .f32) (q : Vec Ideal S1x128x64 .f32) (k v : Vec Ideal S1x256x64 .f32) (r : Fin 128) (d : Fin 64) :
    headTile (F := Ideal) bias q k v (ix3 0 r d)
      = Rows.attend (Rows.score (fun e => q (ix3 0 r e)) (fun m e => k (ix3 0 m e)) (fun m => bias (ix3 0 0 m))) (fun m => v (ix3 0 m d)) := by
  unfold headTile
  pointwise [k0_pay1, k0_pay59]
  rfl

/-- Queries, keys and values of one tile. -/
theorem qkvTile_apply (x : Vec Ideal S1x128x768 .f32) (g b : Vec Ideal S1x768 .f32) (w : Vec Ideal S768x2304 .f32) (c : Vec Ideal S1x2304 .f32)
    (r : Fin 128) (j : Fin 2304) : qkvTile (F := Ideal) x g b w c (ix3 0 r j)
      = Rows.qkv (fun p => x (ix3 0 r p)) (fun p => g (ix2 0 p)) (fun p => b (ix2 0 p)) (fun p q => w (ix2 p q)) (fun q => c (ix2 0 q)) j := by
  unfold qkvTile
  pointwise [k0_pay57]
  rfl

/-- The result rows of one tile. -/
theorem outTile_apply (o : Vec Ideal S1x128x768 .f32) (w : Vec Ideal S768x768 .f32) (x : Vec Ideal S1x128x768 .f32) (b : Vec Ideal S1x768 .f32)
    (r : Fin 128) (j : Fin 768) : outTile (F := Ideal) o w x b (ix3 0 r j)
      = x (ix3 0 r j) + Rows.dot (fun p => o (ix3 0 r p)) (fun p q => w (ix2 p q)) j + b (ix2 0 j) := by
  unfold outTile
  pointwise [k0_pay54]
  rfl

/-- A row of a tile is the row of the block. -/
theorem rowsOf_apply (x : Vec Ideal S2x256x768 .f32) (s : Fin 2) (r : Fin 256) (p : Fin 768) :
    rowsOf x s ⟨r.val / 128, by omega⟩ (ix3 0 ⟨r.val % 128, Nat.mod_lt _ (by decide)⟩ p) = x (ix3 s r p) := by
  unfold rowsOf
  refine congrArg x (funext fun a => ?_)
  match a with
  | ⟨0, _⟩ => rfl
  | ⟨1, _⟩ => exact Fin.ext (Nat.div_add_mod _ _)
  | ⟨2, _⟩ => rfl

/-- The heads of a row of the block. -/
theorem headBlock_apply (y : Vec Ideal S2x1x256 .f32) (Q : Vec Ideal S2x256x2304 .f32) (s : Fin 2) (r : Fin 256) (p : Fin 768) :
    headBlock y Q (ix3 s r p) = Rows.heads (fun m j => Q (ix3 s m j)) (fun m => y (ix3 s 0 m)) r p := by
  unfold headBlock Rows.heads
  refine (headTile_apply _ _ _ _ ⟨r.val % 128, Nat.mod_lt _ (by decide)⟩ ⟨p.val % 64, Nat.mod_lt _ (by decide)⟩).trans ?_
  have hq : ∀ e, qOf Q s ⟨r.val / 128, by omega⟩ ⟨p.val / 64, by omega⟩ (ix3 0 ⟨r.val % 128, Nat.mod_lt _ (by decide)⟩ e)
      = Q (ix3 s r (Rows.col 0 ⟨p.val / 64, by omega⟩ e)) := fun e => by
    unfold qOf
    refine congrArg Q (funext fun a => ?_)
    match a with
    | ⟨0, _⟩ => rfl
    | ⟨1, _⟩ => exact Fin.ext (Nat.div_add_mod _ _)
    | ⟨2, _⟩ => exact Fin.ext (by show 64 * (p.val / 64) + e.val = 768 * 0 + 64 * (p.val / 64) + e.val; omega)
  have hk : ∀ m e, kOf Q s ⟨p.val / 64, by omega⟩ (ix3 0 m e) = Q (ix3 s m (Rows.col 1 ⟨p.val / 64, by omega⟩ e)) := fun m e => by
    unfold kOf
    refine congrArg Q (funext fun a => ?_)
    match a with
    | ⟨0, _⟩ => rfl
    | ⟨1, _⟩ => rfl
    | ⟨2, _⟩ => rfl
  have hv : ∀ m e, vOf Q s ⟨p.val / 64, by omega⟩ (ix3 0 m e) = Q (ix3 s m (Rows.col 2 ⟨p.val / 64, by omega⟩ e)) := fun m e => by
    unfold vOf
    refine congrArg Q (funext fun a => ?_)
    match a with
    | ⟨0, _⟩ => rfl
    | ⟨1, _⟩ => rfl
    | ⟨2, _⟩ => rfl
  exact congrArg₂ Rows.attend (congrArg₂ (fun a b => Rows.score a b (fun m => y (ix3 s 0 m))) (funext hq) (funext fun m => funext (hk m))) (funext fun m => hv m _)

/-- A row of the kernel's table, in a tile that is computed. -/
theorem qkvBlock_apply (x : Vec Ideal S2x256x768 .f32) (g b : Vec Ideal S1x768 .f32) (w : Vec Ideal S768x2304 .f32) (c : Vec Ideal S1x2304 .f32)
    (p0 p1 : Prop) (s : Fin 2) (r : Fin 256) (ht : Taken p0 p1 s ⟨r.val / 128, by omega⟩) (j : Fin 2304) :
    qkvBlock x g b w c p0 p1 (ix3 s r j)
      = Rows.qkv (fun p => x (ix3 s r p)) (fun p => g (ix2 0 p)) (fun p => b (ix2 0 p)) (fun p q => w (ix2 p q)) (fun q => c (ix2 0 q)) j := by
  unfold qkvBlock tiled
  refine (congrFun (if_pos ht) _).trans ((qkvTile_apply _ _ _ _ _ ⟨r.val % 128, Nat.mod_lt _ (by decide)⟩ j).trans ?_)
  exact congrArg (fun x => Rows.qkv x _ _ _ _ j) (funext fun p => rowsOf_apply x s r p)

/-- The row of the block that the kernel writes. -/
theorem outBlock_apply (x : Vec Ideal S2x256x768 .f32) (y : Vec Ideal S2x1x256 .f32) (g b : Vec Ideal S1x768 .f32) (w : Vec Ideal S768x2304 .f32)
    (c : Vec Ideal S1x2304 .f32) (w' : Vec Ideal S768x768 .f32) (c' : Vec Ideal S1x768 .f32) (p0 p1 : Prop) (s : Fin 2) (r : Fin 256) (j : Fin 768) :
    outBlock x y g b w c w' c' p0 p1 (ix3 s r j)
      = Rows.attnOut (fun m q => qkvBlock x g b w c p0 p1 (ix3 s m q)) (fun m => y (ix3 s 0 m)) r (fun p => x (ix3 s r p))
          (fun p q => w' (ix2 p q)) (fun q => c' (ix2 0 q)) j := by
  unfold outBlock tiled Rows.attnOut
  refine (outTile_apply _ _ _ _ ⟨r.val % 128, Nat.mod_lt _ (by decide)⟩ j).trans ?_
  have hr := fun z => funext fun p => rowsOf_apply z s r p
  have hh := (hr (headBlock y (qkvBlock x g b w c p0 p1))).trans (funext fun p => headBlock_apply y _ s r p)
  exact congrArg₂ (fun a b => a + Rows.dot b _ j + _) (congrFun (hr x) j) hh
end Kernel

section Ref
open Cert.AttnRefIdeal Cert.AttnRefIdeal.Read

variable (x1 : (⟨S64x256x768, .f32⟩ : BufTy).Contents (Elt Ideal)) (x2 : (⟨S64x1x256, .f32⟩ : BufTy).Contents (Elt Ideal))
  (x3 x4 : (⟨S768, .f32⟩ : BufTy).Contents (Elt Ideal)) (x5 : (⟨S768x2304, .f32⟩ : BufTy).Contents (Elt Ideal))
  (x6 : (⟨S2304, .f32⟩ : BufTy).Contents (Elt Ideal)) (x7 : (⟨S768x768, .f32⟩ : BufTy).Contents (Elt Ideal))
  (x8 : (⟨S768, .f32⟩ : BufTy).Contents (Elt Ideal))

theorem ref_norm (s : Fin 64) (r : Fin 256) (k : Fin 768) :
    val_main_v23 x1 x3 x4 (ix3 s r k)
      = Rows.norm (fun p => x1 (ix3 s r p)) (fun p => x3 (ix1 p)) (fun p => x4 (ix1 p)) k := by
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2, val_main_cst_3]
  rfl

/-- The reference's table of queries, keys and values. -/
theorem ref_qkv (s : Fin 64) (r : Fin 256) (j : Fin 2304) :
    val_main_v27 x1 x3 x4 x5 x6 (ix3 s r j)
      = Rows.qkv (fun p => x1 (ix3 s r p)) (fun p => x3 (ix1 p)) (fun p => x4 (ix1 p)) (fun p q => x5 (ix2 p q)) (fun q => x6 (ix1 q)) j := by
  pointwise [val_main_v27, val_main_v26, val_main_v25, val_main_v24]
  simp only [ref_norm]
  rfl

theorem ref_q (s : Fin 64) (h : Fin 12) (r : Fin 256) (d : Fin 64) :
    val_main_v31 x1 x3 x4 x5 x6 (ix4 s h r d) = val_main_v27 x1 x3 x4 x5 x6 (ix3 s r (Rows.col 0 h d)) := by
  pointwise [val_main_v31, val_main_v30, val_main_v29, val_main_v28]
  refine congrArg (fun q => val_main_v27 x1 x3 x4 x5 x6 (ix3 s r q)) (Fin.ext ?_)
  simp only [Rows.col]
  omega
theorem ref_k (s : Fin 64) (h : Fin 12) (r : Fin 256) (d : Fin 64) :
    val_main_v33 x1 x3 x4 x5 x6 (ix4 s h r d) = val_main_v27 x1 x3 x4 x5 x6 (ix3 s r (Rows.col 1 h d)) := by
  pointwise [val_main_v33, val_main_v32, val_main_v29, val_main_v28]
  refine congrArg (fun q => val_main_v27 x1 x3 x4 x5 x6 (ix3 s r q)) (Fin.ext ?_)
  simp only [Rows.col]
  omega
theorem ref_v (s : Fin 64) (h : Fin 12) (r : Fin 256) (d : Fin 64) :
    val_main_v35 x1 x3 x4 x5 x6 (ix4 s h r d) = val_main_v27 x1 x3 x4 x5 x6 (ix3 s r (Rows.col 2 h d)) := by
  pointwise [val_main_v35, val_main_v34, val_main_v29, val_main_v28]
  refine congrArg (fun q => val_main_v27 x1 x3 x4 x5 x6 (ix3 s r q)) (Fin.ext ?_)
  simp only [Rows.col]
  omega

theorem ref_score (s : Fin 64) (h : Fin 12) (r m : Fin 256) :
    val_main_v41 x1 x2 x3 x4 x5 x6 (ix4 s h r m)
      = Rows.score (fun d => val_main_v27 x1 x3 x4 x5 x6 (ix3 s r (Rows.col 0 h d))) (fun m d => val_main_v27 x1 x3 x4 x5 x6 (ix3 s m (Rows.col 1 h d)))
          (fun m => x2 (ix3 s 0 m)) m := by
  pointwise [val_main_v41, val_main_v40, val_main_v39, val_main_v38, val_main_v37, val_main_v36, val_main_cst_4]
  simp only [ref_q, ref_k]
  rfl

theorem ref_peak (s : Fin 64) (h : Fin 12) (r : Fin 256) :
    val_main_v44 x1 x2 x3 x4 x5 x6 (ix3 s h r) = Rows.peak (fun m => val_main_v41 x1 x2 x3 x4 x5 x6 (ix4 s h r m)) := by
  have e : val_main_v42 x1 x2 x3 x4 x5 x6 (ix3 s h r) = Rows.peak (fun m => val_main_v41 x1 x2 x3 x4 x5 x6 (ix4 s h r m)) := by
    pointwise [val_main_v42, val_main_cst_5]
    rfl
  rw [val_main_v44_apply, val_main_v43_apply, e]
  show max (Ideal.ofBits .f32 4286578688#32) _ = _
  rw [Rows.ofBits_negInf]
  exact max_eq_right bot_le

theorem ref_exp (s : Fin 64) (h : Fin 12) (r m : Fin 256) :
    val_main_v48 x1 x2 x3 x4 x5 x6 (ix4 s h r m)
      = Ideal.exp (val_main_v41 x1 x2 x3 x4 x5 x6 (ix4 s h r m) - Rows.peak (fun m => val_main_v41 x1 x2 x3 x4 x5 x6 (ix4 s h r m))) := by
  have e : val_main_v46 x1 x2 x3 x4 x5 x6 (ix4 s h r m) = val_main_v44 x1 x2 x3 x4 x5 x6 (ix3 s h r) := by
    rw [val_main_v46_apply, val_main_v45_apply]
    refine congrArg _ (funext fun a => ?_)
    match a with | ⟨0, _⟩ => rfl | ⟨1, _⟩ => rfl | ⟨2, _⟩ => rfl
  rw [val_main_v48_apply, val_main_v47_apply, e, ref_peak]
  rfl

theorem ref_weight (s : Fin 64) (h : Fin 12) (r m : Fin 256) :
    val_main_v52 x1 x2 x3 x4 x5 x6 (ix4 s h r m)
      = Ideal.div (val_main_v48 x1 x2 x3 x4 x5 x6 (ix4 s h r m)) (∑ n, val_main_v48 x1 x2 x3 x4 x5 x6 (ix4 s h r n)) := by
  have e : val_main_v49 x1 x2 x3 x4 x5 x6 (ix3 s h r) = ∑ n, val_main_v48 x1 x2 x3 x4 x5 x6 (ix4 s h r n) := by
    pointwise [val_main_v49, val_main_cst_7]
  rw [← e]
  pointwise [val_main_v52, val_main_v51, val_main_v50]

theorem ref_heads (s : Fin 64) (r : Fin 256) (p : Fin 768) :
    val_main_v55 x1 x2 x3 x4 x5 x6 (ix3 s r p)
      = Rows.heads (fun m j => val_main_v27 x1 x3 x4 x5 x6 (ix3 s m j)) (fun m => x2 (ix3 s 0 m)) r p := by
  pointwise [val_main_v55, val_main_v54, val_main_v53]
  simp only [ref_weight, ref_exp, ref_v, ref_score]
  rfl

/-- The reference's result. -/
theorem ref_apply (s : Fin 64) (r : Fin 256) (j : Fin 768) :
    val_main_v60 x1 x2 x3 x4 x5 x6 x7 x8 (ix3 s r j)
      = Rows.attnOut (fun m q => val_main_v27 x1 x3 x4 x5 x6 (ix3 s m q)) (fun m => x2 (ix3 s 0 m)) r (fun p => x1 (ix3 s r p))
          (fun p q => x7 (ix2 p q)) (fun q => x8 (ix1 q)) j := by
  pointwise [val_main_v60, val_main_v59, val_main_v58, val_main_v57, val_main_v56]
  simp only [ref_heads]
  rfl
end Ref

/-- What the two programs need of the arguments: real rows and parameters; biases below +∞, the first key's above −∞; and bias −∞ on the
    second 128 keys of a sample that has one row tile. -/
structure Domain (n : Vec Ideal AttnIdeal.S64 .i32) (x1 : Vec Ideal AttnIdeal.S64x256x768 .f32) (x2 : Vec Ideal AttnIdeal.S64x1x256 .f32)
    (x3 x4 : Vec Ideal AttnIdeal.S768 .f32) (x5 : Vec Ideal AttnIdeal.S768x2304 .f32) (x6 : Vec Ideal AttnIdeal.S2304 .f32) : Prop where
  rows : ∀ i, Rows.IsReal (x1 i)
  gain : ∀ i, Rows.IsReal (x3 i)
  shift : ∀ i, Rows.IsReal (x4 i)
  weights : ∀ i, Rows.IsReal (x5 i)
  offsets : ∀ i, Rows.IsReal (x6 i)
  below : ∀ s m, x2 (ix3 s 0 m) ≠ ⊤
  first : ∀ s, x2 (ix3 s 0 0) ≠ ⊥
  masked : ∀ (s : Fin 64) (m : Fin 256), 128 ≤ m.val → BitVec.slt 1#32 (n (ix1 s)) = true ∨ x2 (ix3 s 0 m) = ⊥

/-- What the kernel leaves in a written row is the reference's. -/
theorem outAll_eq (n : Vec Ideal AttnIdeal.S64 .i32) (x1 : Vec Ideal AttnIdeal.S64x256x768 .f32) (x2 : Vec Ideal AttnIdeal.S64x1x256 .f32)
    (x3 x4 : Vec Ideal AttnIdeal.S768 .f32) (x5 : Vec Ideal AttnIdeal.S768x2304 .f32) (x6 : Vec Ideal AttnIdeal.S2304 .f32)
    (x7 : Vec Ideal AttnIdeal.S768x768 .f32) (x8 : Vec Ideal AttnIdeal.S768 .f32) (D : Domain n x1 x2 x3 x4 x5 x6) (i : AttnIdeal.S64x256x768.Idx)
    (hi : (i 1).val < 128 ∨ BitVec.slt 1#32 (n (ix1 (i 0))) = true) :
    AttnIdeal.Run.outAll n x1 x2 x3 x4 x5 x6 x7 x8 i = AttnRefIdeal.Read.val_main_v60 x1 x2 x3 x4 x5 x6 x7 x8 i := by
  obtain ⟨s, r, j, rfl⟩ : ∃ (s : Fin 64) (r : Fin 256) (j : Fin 768), i = ix3 s r j := ⟨i 0, i 1, i 2, funext fun a => match a with
    | ⟨0, _⟩ => rfl | ⟨1, _⟩ => rfl | ⟨2, _⟩ => rfl⟩
  have hi : r.val < 128 ∨ BitVec.slt 1#32 (n (ix1 s)) = true := hi
  have e1 : ∀ (v : Vec Ideal AttnIdeal.S768 .f32) h (p : Fin 768),
      shapeCast AttnIdeal.S1x768 v h (ix2 0 p) = v (ix1 p) := fun v h p => by pointwise
  have e2 : ∀ (v : Vec Ideal AttnIdeal.S2304 .f32) h (p : Fin 2304),
      shapeCast AttnIdeal.S1x2304 v h (ix2 0 p) = v (ix1 p) := fun v h p => by pointwise
  unfold AttnIdeal.Run.outAll
  refine (outBlock_apply _ _ _ _ _ _ _ _ _ _ 0 r j).trans ((ref_apply _ _ _ _ _ _ _ _ s r j).trans ?_).symm
  simp only [e1]
  show _ = Rows.attnOut (fun m q => AttnIdeal.Run.qkvBlock (AttnIdeal.Run.sample x1 s) _ _ _ _ (BitVec.slt 1#32 (n (ix1 s)) = true) (BitVec.slt 1#32 (n (ix1 s)) = true) (ix3 0 m q))
    (fun m => x2 (ix3 s 0 m)) r (fun p => x1 (ix3 s r p)) (fun p q => x7 (ix2 p q)) (fun q => x8 (ix1 q)) j
  have taken : ∀ m : Fin 256, (m.val < 128 ∨ BitVec.slt 1#32 (n (ix1 s)) = true) → ∀ q,
      AttnIdeal.Run.qkvBlock (AttnIdeal.Run.sample x1 s) (shapeCast AttnIdeal.S1x768 x3 AttnIdeal.Gen.shapeCasts_S768_S1x768)
        (shapeCast AttnIdeal.S1x768 x4 AttnIdeal.Gen.shapeCasts_S768_S1x768) x5 (shapeCast AttnIdeal.S1x2304 x6 AttnIdeal.Gen.shapeCasts_S2304_S1x2304)
        (BitVec.slt 1#32 (n (ix1 s)) = true) (BitVec.slt 1#32 (n (ix1 s)) = true) (ix3 0 m q)
      = AttnRefIdeal.Read.val_main_v27 x1 x3 x4 x5 x6 (ix3 s m q) := by
    intro m hm q
    rw [qkvBlock_apply _ _ _ _ _ _ _ 0 m (by
      unfold AttnIdeal.Run.Taken
      rcases hm with h | h
      · exact .inl (Nat.div_eq_of_lt h)
      · exact .inr (.inl ⟨rfl, h⟩)) q, ref_qkv]
    simp only [e1, e2]
    rfl
  have real : ∀ m q, Rows.IsReal (AttnRefIdeal.Read.val_main_v27 x1 x3 x4 x5 x6 (ix3 s m q)) := fun m q => by
    rw [ref_qkv]
    exact Rows.isReal_qkv (fun k => D.rows _) (fun k => D.gain _) (fun k => D.shift _) (fun k j => D.weights _) (fun j => D.offsets _) q
  unfold Rows.attnOut
  refine congrArg (fun h => x1 (ix3 s r j) + Rows.dot h _ j + _) (funext fun p => ?_)
  by_cases hn : BitVec.slt 1#32 (n (ix1 s)) = true
  · exact congrArg (fun Q => Rows.heads Q _ r p) (funext fun m => funext fun q => (taken m (.inr hn) q).symm)
  · exact (Rows.heads_congr (fun m hm q => taken m (.inl hm) q) real (fun m hm => (D.masked s m hm).resolve_left hn) (D.first s) (D.below s) r
      (hi.resolve_right hn) p).symm

end Cert.AttnPure
-- ==== Proof.AttnFrame.lean ====
/-
  The frame of the attention call's program as compiled: it is the ideal program's text, so its run at words is the run proved in AttnRun.lean.
-/
module

public import proofs.«01_k».proof.Proof.AttnRun
public import proofs.«01_k».proof.Proof.Gen.Attn

@[expose] public section

set_option maxRecDepth 65536

noncomputable section

namespace Cert.Attn.Run

open Idealize.ShloMosaic Idealize.ShloMosaic.TcCoe Idealize.SL.Sem

variable {F : FTy → Type} [FloatOps F]

theorem defs₀_eq : Cert.Attn.defs₀ (F := F) = Cert.AttnIdeal.defs₀ := by
  unfold Cert.Attn.defs₀ Cert.AttnIdeal.defs₀
  refine congrArg Defs.onTc ?_
  funext l a
  match l, a with
  | 0, (t, s) => rfl
theorem defs_eq : Cert.Attn.defs (F := F) = Cert.AttnIdeal.defs := congrArg (Pipeline.defs Cert.AttnIdeal.pcfgs) defs₀_eq
theorem main_eq : Cert.Attn.main (F := F) = Cert.AttnIdeal.main := rfl

/-- Every execution ends, with the arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  rw [defs_eq, main_eq]
  exact (θ_run (Cert.AttnIdeal.defs (F := F)) _ _).mono (fun r h => ⟨fun c => (h.1 c).2, h.2⟩) (Cert.AttnIdeal.Run.run (F := F) m ρ)

end Cert.Attn.Run

end
-- ==== Proof.ClaimsAttn.lean ====
/-
  The claims of the attention call, one theorem each.
-/
module

public import proofs.«01_k».proof.Defs
public import proofs.«01_k».proof.Proof.Mask
public import proofs.«01_k».proof.Proof.AttnPure
public import proofs.«01_k».proof.Proof.AttnFrame
public import proofs.«01_k».proof.Proof.Gen.AttnRefIdeal.Run
public import proofs.«01_k».proof.Proof.Gen.On_written_attn
public import proofs.«01_k».proof.Proof.Gen.Pre_attn_domain
public import Idealize.ShloMosaic.Adequacy
public import Idealize.ShloMosaic.Init

@[expose] public section

set_option maxRecDepth 16384

noncomputable section

/-! ## The rows that the attention call writes -/

namespace Cert.On_written_attn

open Idealize.ShloMosaic

variable {F : FTy → Type} [FloatOps F] [Facts]

/-- The mask is set on the first row tile of every sample, and on the second one where the sample has two. -/
theorem rows_of_set (n : IVec S64 32) (x : FVec F S64x256x768 .f32) (y : FVec F S64x1x256 .f32) (g b : FVec F S768 .f32) (w : FVec F S768x2304 .f32)
    (c : FVec F S2304 .f32) (w' : FVec F S768x768 .f32) (c' : FVec F S768 .f32) (i : S64x256x768.Idx) (h : fn n x y g b w c w' c' i = 1#1) :
    (i 1 : Nat) < 128 ∨ BitVec.slt 1#32 (n (ix1 (i 0))) = true := by
  refine Mask.row (i 1) _ (Eq.trans ?_ h)
  exact congrArg (fun k : S64.Idx => IntOp.cmpi .slt (BitVec.ofNat 32 (i 1 : Nat)) 128#32 ||| IntOp.cmpi .sgt (n k) 1#32)
    (funext fun a => match a with | ⟨0, _⟩ => rfl)

end Cert.On_written_attn

/-! ## The precondition -/

namespace Cert.Pre_attn_domain

open Idealize.ShloMosaic

variable [Facts]

/-- What the seven bits of the precondition say. -/
theorem domain (n : IVec S64 32) (x1 : FVec Ideal S64x256x768 .f32) (x2 : FVec Ideal S64x1x256 .f32) (x3 x4 : FVec Ideal S768 .f32)
    (x5 : FVec Ideal S768x2304 .f32) (x6 : FVec Ideal S2304 .f32) (x7 : FVec Ideal S768x768 .f32) (x8 : FVec Ideal S768 .f32)
    (h : (fn n x1 x2 x3 x4 x5 x6 x7 x8).1 = (fun _ => 1#1) ∧ (fn n x1 x2 x3 x4 x5 x6 x7 x8).2.1 = (fun _ => 1#1)
      ∧ (fn n x1 x2 x3 x4 x5 x6 x7 x8).2.2.1 = (fun _ => 1#1) ∧ (fn n x1 x2 x3 x4 x5 x6 x7 x8).2.2.2.1 = (fun _ => 1#1)
      ∧ (fn n x1 x2 x3 x4 x5 x6 x7 x8).2.2.2.2.1 = (fun _ => 1#1) ∧ (fn n x1 x2 x3 x4 x5 x6 x7 x8).2.2.2.2.2.1 = (fun _ => 1#1)
      ∧ (fn n x1 x2 x3 x4 x5 x6 x7 x8).2.2.2.2.2.2 = (fun _ => 1#1)) : AttnPure.Domain n x1 x2 x3 x4 x5 x6 := by
  obtain ⟨h0, h1, h2, h3, h4, h5, h6⟩ := h
  have kept : ∀ (s : Fin 64) (m : Fin 256), x2 (ix3 s 0 m) < ⊤ ∧ (IntOp.cmpi .sgt (BitVec.ofNat 32 m.val) 0#32 = 1#1 ∨ ⊥ < x2 (ix3 s 0 m)) := by
    intro s m
    have e : BitVec.ofBool (decide (x2 (ix3 s 0 m) < Ideal.ofBits .f32 2139095040#32))
        &&& (IntOp.cmpi .sgt (BitVec.ofNat 32 m.val) 0#32 ||| BitVec.ofBool (decide (Ideal.ofBits .f32 4286578688#32 < x2 (ix3 s 0 m)))) = 1#1 :=
      congrFun h1 (ix3 s 0 m)
    rw [Rows.ofBits_inf, Rows.ofBits_negInf] at e
    exact ⟨Mask.bit_decide (Mask.and_one e).1, (Mask.or_one (Mask.and_one e).2).imp id Mask.bit_decide⟩
  refine ⟨fun i => Mask.real (congrFun h2 i), fun i => Mask.real (congrFun h3 i), fun i => Mask.real (congrFun h4 i),
    fun i => Mask.real (congrFun h5 i), fun i => Mask.real (congrFun h6 i), fun s m => (kept s m).1.ne,
    fun s => ((kept s 0).2.resolve_left (by decide)).ne', fun s m hm => ?_⟩
  have e : (IntOp.cmpi .slt (BitVec.ofNat 32 m.val) 128#32 ||| IntOp.cmpi .sgt (n (ix1 s)) 1#32)
      ||| BitVec.ofBool (decide (x2 (ix3 s 0 m) = Ideal.ofBits .f32 4286578688#32)) = 1#1 := by
    refine Eq.trans ?_ (congrFun h0 (ix3 s 0 m))
    exact congrArg (fun k : S64.Idx => (IntOp.cmpi .slt (BitVec.ofNat 32 m.val) 128#32 ||| IntOp.cmpi .sgt (n k) 1#32)
      ||| BitVec.ofBool (decide (x2 (ix3 s 0 m) = Ideal.ofBits .f32 4286578688#32))) (funext fun a => match a with | ⟨0, _⟩ => rfl)
  rw [Rows.ofBits_negInf] at e
  exact (Mask.or_one e).imp (fun h => (Mask.row m _ h).resolve_left (by omega)) Mask.bit_decide

end Cert.Pre_attn_domain

namespace Cert.Claims

open Idealize.ShloMosaic Idealize.ShloMosaic.TcCoe Idealize.SL.Sem

/-! ## The attention call -/

theorem frame_attn : Cert.quiescent_Attn := fun m ρ _ => Cert.Attn.Run.frame m ρ

theorem frame_attnIdeal : Cert.quiescent_AttnIdeal := fun m ρ _ =>
  (θ_run Cert.AttnIdeal.defs _ _).mono (fun r h => ⟨fun c => (h.1 c).2, h.2⟩) (Cert.AttnIdeal.Run.run (F := Ideal) m ρ)
theorem frame_attnIdeal_domain : Cert.quiescent_AttnIdeal_pre_attn_domain := fun m ρ _ => frame_attnIdeal m ρ trivial

theorem frame_attnRefIdeal : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)
theorem frame_attnRefIdeal_domain : Cert.quiescent_AttnRefIdeal_pre_attn_domain := fun m ρ _ => frame_attnRefIdeal m ρ trivial

theorem preserves_attn : Cert.preserves_Attn_AttnIdeal := trivial

theorem algebraic_attn : Cert.algebraic_AttnIdeal_AttnRefIdeal_on_written_attn_pre_attn_domain := by
  intro m ρ m' ρ' hpre hagree
  refine ⟨fun c => Cert.AttnIdeal.Run.outAll (m ((c : Thread Cert.AttnIdeal.nD Cert.AttnIdeal.τ).loc Cert.AttnIdeal.main_arg0)) (m ((c : Thread Cert.AttnIdeal.nD Cert.AttnIdeal.τ).loc Cert.AttnIdeal.main_arg1)) (m ((c : Thread Cert.AttnIdeal.nD Cert.AttnIdeal.τ).loc Cert.AttnIdeal.main_arg2))
    (m ((c : Thread Cert.AttnIdeal.nD Cert.AttnIdeal.τ).loc Cert.AttnIdeal.main_arg3)) (m ((c : Thread Cert.AttnIdeal.nD Cert.AttnIdeal.τ).loc Cert.AttnIdeal.main_arg4)) (m ((c : Thread Cert.AttnIdeal.nD Cert.AttnIdeal.τ).loc Cert.AttnIdeal.main_arg5))
    (m ((c : Thread Cert.AttnIdeal.nD Cert.AttnIdeal.τ).loc Cert.AttnIdeal.main_arg6)) (m ((c : Thread Cert.AttnIdeal.nD Cert.AttnIdeal.τ).loc Cert.AttnIdeal.main_arg7)) (m ((c : Thread Cert.AttnIdeal.nD Cert.AttnIdeal.τ).loc Cert.AttnIdeal.main_arg8)), ?_, ?_⟩
  · exact (θ_run Cert.AttnIdeal.defs _ _).mono
      (fun _ h c => ⟨fun i hi => (h.1 c).1 i (Cert.On_written_attn.rows_of_set _ _ _ _ _ _ _ _ _ i hi), (h.1 c).2⟩)
      (Cert.AttnIdeal.Run.run (F := Ideal) m ρ)
  · refine (θ_run Cert.AttnRefIdeal.defs _ _).mono (fun _ h c => ⟨fun i hi => (congrFun (h c).1 i).trans ?_, (h c).2⟩)
      (Cert.AttnRefIdeal.Value.run (F := Ideal) m' ρ')
    refine (congrFun (Cert.AttnRefIdeal.Read.val_main_v60_eq m' c) i).trans ?_
    have hi' := Cert.On_written_attn.rows_of_set _ _ _ _ _ _ _ _ _ i hi
    obtain ⟨-, e1, e2, e3, e4, e5, e6, e7, e8⟩ := hagree c
    rw [e1, e2, e3, e4, e5, e6, e7, e8]
    exact (Cert.AttnPure.outAll_eq _ _ _ _ _ _ _ _ _ (Cert.Pre_attn_domain.domain _ _ _ _ _ _ _ _ _ (hpre c)) i hi').symm

end Cert.Claims
-- ==== Proof.lean ====
module

public import proofs.«01_k».proof.Defs
public import proofs.«01_k».proof.Proof.Claims
public import proofs.«01_k».proof.Proof.ClaimsAttn

@[expose] public section

noncomputable section

namespace Cert.Proof

theorem claim : Cert.Claim :=
  ⟨Cert.Mlp.Gen.facts, Cert.MlpIdeal.Gen.facts, Cert.MlpRefIdeal.Gen.facts, Cert.Attn.Gen.facts, Cert.AttnIdeal.Gen.facts,
    Cert.AttnRefIdeal.Gen.facts, Cert.Head.Gen.facts, Cert.HeadIdeal.Gen.facts, Cert.HeadRefIdeal.Gen.facts, Cert.Pre_attn_domain.Gen.facts,
    Cert.On_written_mlp.Gen.facts, Cert.On_written_attn.Gen.facts,
    Cert.Claims.frame_mlp, Cert.Claims.frame_mlpIdeal, Cert.Claims.frame_mlpRefIdeal,
    Cert.Claims.frame_attn, Cert.Claims.frame_attnIdeal, Cert.Claims.frame_attnIdeal_domain, Cert.Claims.frame_attnRefIdeal,
    Cert.Claims.frame_attnRefIdeal_domain,
    Cert.Claims.frame_head, Cert.Claims.frame_headIdeal, Cert.Claims.frame_headRefIdeal,
    Cert.Claims.preserves_mlp, Cert.Claims.algebraic_mlp, Cert.Claims.preserves_attn, Cert.Claims.algebraic_attn,
    Cert.Claims.preserves_head, Cert.Claims.algebraic_head⟩

end Cert.Proof

end
